-- ==== Defs.lean ====
def Pre_Kernel [hPre_idx_named : Cert.Pre_idx_named.Facts] (m : (ℓ : Loc Cert.Kernel.nD Cert.Kernel.τ Cert.Kernel.sig) → Buf (Elt Bits) ℓ) : Prop :=
  ∀ c : Dev Cert.Kernel.nD,
    (Cert.Pre_idx_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_idx_named : Cert.Pre_idx_named.Facts] (m : (ℓ : Loc Cert.KernelIdeal.nD Cert.KernelIdeal.τ Cert.KernelIdeal.sig) → Buf (Elt Ideal) ℓ) : Prop :=
  ∀ c : Dev Cert.KernelIdeal.nD,
    (Cert.Pre_idx_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_one_best [hPre_one_best : Cert.Pre_one_best.Facts] (m : (ℓ : Loc Cert.KernelIdeal.nD Cert.KernelIdeal.τ Cert.KernelIdeal.sig) → Buf (Elt Ideal) ℓ) : Prop :=
  ∀ c : Dev Cert.KernelIdeal.nD,
    (Cert.Pre_one_best.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_one_best.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_one_best.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_one_best.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_one_best.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_one_best.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_one_best.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_best [hPre_one_best : Cert.Pre_one_best.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_best.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_one_best.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_one_best.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_one_best.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_one_best.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_one_best.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_one_best.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def quiescent_Kernel [hKernel : Cert.Kernel.Facts] [hPre_idx_named : Cert.Pre_idx_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_idx_named : Cert.Pre_idx_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_one_best [hKernelIdeal : Cert.KernelIdeal.Facts] [hPre_one_best : Cert.Pre_one_best.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_best m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_one_best [hReferenceIdeal : Cert.ReferenceIdeal.Facts] [hPre_one_best : Cert.Pre_one_best.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_best m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_one_best [hKernelIdeal : Cert.KernelIdeal.Facts] [hReferenceIdeal : Cert.ReferenceIdeal.Facts] [hPre_one_best : Cert.Pre_one_best.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_best m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v2_2)) (v4 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v2_2) = v3 c
          ∧ r.2.mem ((c.tc : Thread Cert.KernelIdeal.nD Cert.KernelIdeal.τ).loc Cert.KernelIdeal.main_v2_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_v100) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_idx_named : Cert.Pre_idx_named.Facts) (hPre_one_best : Cert.Pre_one_best.Facts),
    quiescent_Kernel (hKernel := hKernel) (hPre_idx_named := hPre_idx_named)
    ∧ quiescent_KernelIdeal (hKernelIdeal := hKernelIdeal) (hPre_idx_named := hPre_idx_named)
    ∧ quiescent_KernelIdeal_pre_one_best (hKernelIdeal := hKernelIdeal) (hPre_one_best := hPre_one_best)
    ∧ quiescent_ReferenceIdeal (hReferenceIdeal := hReferenceIdeal)
    ∧ quiescent_ReferenceIdeal_pre_one_best (hReferenceIdeal := hReferenceIdeal) (hPre_one_best := hPre_one_best)
    ∧ preserves_Kernel_KernelIdeal
    ∧ algebraic_KernelIdeal_ReferenceIdeal_pre_one_best (hKernelIdeal := hKernelIdeal) (hReferenceIdeal := hReferenceIdeal) (hPre_one_best := hPre_one_best)
-- ==== Pre_idx_named.lean ====
abbrev S2048x256 : Shape := ⟨2, ![2048, 256]⟩
abbrev S2048x3 : Shape := ⟨2, ![2048, 3]⟩
abbrev S65536x256 : Shape := ⟨2, ![65536, 256]⟩
abbrev S65536x3 : Shape := ⟨2, ![65536, 3]⟩
abbrev S1024x64x256 : Shape := ⟨3, ![1024, 64, 256]⟩
abbrev S1024x64x3 : Shape := ⟨3, ![1024, 64, 3]⟩
abbrev S1024 : Shape := ⟨1, ![1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S2048x256 .f32) (main_arg1 : FVec F S2048x3 .f32) (main_arg2 : FVec F S65536x256 .f32) (main_arg3 : FVec F S65536x3 .f32) (main_arg4 : FVec F S1024x64x256 .f32) (main_arg5 : FVec F S1024x64x3 .f32) (main_arg6 : IVec S1024 32) : IVec S1024 1 :=
  let main_c : IVec S_ 32 := constantI S_ 32 0#32
  let main_v0 : IVec S1024 32 := broadcastInDim S1024 ![] bcast_S_S1024 main_c
  let main_v1 : IVec S1024 1 := cmpi .sge main_arg6 main_v0
  let main_c_0 : IVec S_ 32 := constantI S_ 32 2048#32
  let main_v2 : IVec S1024 32 := broadcastInDim S1024 ![] bcast_S_S1024 main_c_0
  let main_v3 : IVec S1024 1 := cmpi .slt main_arg6 main_v2
  let main_v4 : IVec S1024 1 := andi main_v1 main_v3
  main_v4
-- ==== Pre_one_best.lean ====
abbrev S2048x256 : Shape := ⟨2, ![2048, 256]⟩
abbrev S2048x3 : Shape := ⟨2, ![2048, 3]⟩
abbrev S65536x256 : Shape := ⟨2, ![65536, 256]⟩
abbrev S65536x3 : Shape := ⟨2, ![65536, 3]⟩
abbrev S1024x64x256 : Shape := ⟨3, ![1024, 64, 256]⟩
abbrev S1024x64x3 : Shape := ⟨3, ![1024, 64, 3]⟩
abbrev S1024 : Shape := ⟨1, ![1024]⟩
abbrev S1024x1 : Shape := ⟨2, ![1024, 1]⟩
abbrev S3 : Shape := ⟨1, ![3]⟩
abbrev S_ : Shape := ⟨0, ![]⟩
abbrev S1x3 : Shape := ⟨2, ![1, 3]⟩
abbrev S1024x3 : Shape := ⟨2, ![1024, 3]⟩
abbrev S3072 : Shape := ⟨1, ![3072]⟩
abbrev S3072x1 : Shape := ⟨2, ![3072, 1]⟩
abbrev S3072x256 : Shape := ⟨2, ![3072, 256]⟩
abbrev S1024x3x256 : Shape := ⟨3, ![1024, 3, 256]⟩
abbrev S1024x64x1x256 : Shape := ⟨4, ![1024, 64, 1, 256]⟩
abbrev S1024x1x3x256 : Shape := ⟨4, ![1024, 1, 3, 256]⟩
abbrev S1024x64x3x256 : Shape := ⟨4, ![1024, 64, 3, 256]⟩
abbrev S1024x64x1 : Shape := ⟨3, ![1024, 64, 1]⟩
abbrev S1024x64 : Shape := ⟨2, ![1024, 64]⟩

class Facts : Prop where
  bcast_S1024_S1024x1_0 : S1024.BroadcastsInDim S1024x1 (![0] : Fin 1 → Fin S1024x1.rank)
  bcast_S_S3 : S_.BroadcastsInDim S3 (![] : Fin 0 → Fin S3.rank)
  bcast_S3_S1x3_1 : S3.BroadcastsInDim S1x3 (![1] : Fin 1 → Fin S1x3.rank)
  bcast_S1024x1_S1024x3_0_1 : S1024x1.BroadcastsInDim S1024x3 (![0, 1] : Fin 2 → Fin S1024x3.rank)
  bcast_S1x3_S1024x3_0_1 : S1x3.BroadcastsInDim S1024x3 (![0, 1] : Fin 2 → Fin S1024x3.rank)
  bcast_S_S1024x3 : S_.BroadcastsInDim S1024x3 (![] : Fin 0 → Fin S1024x3.rank)
  shapeCasts_S1024x3_S3072 : S1024x3.ShapeCasts S3072
  bcast_S_S3072 : S_.BroadcastsInDim S3072 (![] : Fin 0 → Fin S3072.rank)
  bcast_S3072_S3072x1_0 : S3072.BroadcastsInDim S3072x1 (![0] : Fin 1 → Fin S3072x1.rank)
  shapeCasts_S3072_S1024x3 : S3072.ShapeCasts S1024x3
  shapeCasts_S3072x256_S1024x3x256 : S3072x256.ShapeCasts S1024x3x256
  bcast_S1024x64x256_S1024x64x1x256_0_1_3 : S1024x64x256.BroadcastsInDim S1024x64x1x256 (![0, 1, 3] : Fin 3 → Fin S1024x64x1x256.rank)
  bcast_S1024x3x256_S1024x1x3x256_0_2_3 : S1024x3x256.BroadcastsInDim S1024x1x3x256 (![0, 2, 3] : Fin 3 → Fin S1024x1x3x256.rank)
  bcast_S1024x64x1x256_S1024x64x3x256_0_1_2_3 : S1024x64x1x256.BroadcastsInDim S1024x64x3x256 (![0, 1, 2, 3] : Fin 4 → Fin S1024x64x3x256.rank)
  bcast_S1024x1x3x256_S1024x64x3x256_0_1_2_3 : S1024x1x3x256.BroadcastsInDim S1024x64x3x256 (![0, 1, 2, 3] : Fin 4 → Fin S1024x64x3x256.rank)
  reducesTo_S1024x64x3x256_S1024x64x3_d3 : S1024x64x3x256.ReducesTo [3] S1024x64x3
  h_S_ : 0 < S_.numel
  bcast_S_S1024 : S_.BroadcastsInDim S1024 (![] : Fin 0 → Fin S1024.rank)
  bcast_S_S2048x256 : S_.BroadcastsInDim S2048x256 (![] : Fin 0 → Fin S2048x256.rank)
  bcast_S_S1024x64x256 : S_.BroadcastsInDim S1024x64x256 (![] : Fin 0 → Fin S1024x64x256.rank)
  bcast_S_S65536x3 : S_.BroadcastsInDim S65536x3 (![] : Fin 0 → Fin S65536x3.rank)
  slices_S1024x3_S1024x1_0_0 : S1024x3.Slices ![0, 0] S1024x1
  shapeCasts_S1024x1_S1024 : S1024x1.ShapeCasts S1024
  slices_S1024x3_S1024x1_0_1 : S1024x3.Slices ![0, 1] S1024x1
  slices_S1024x64x3_S1024x64x1_0_0_0 : S1024x64x3.Slices ![0, 0, 0] S1024x64x1
  shapeCasts_S1024x64x1_S1024x64 : S1024x64x1.ShapeCasts S1024x64
  slices_S1024x64x3_S1024x64x1_0_0_1 : S1024x64x3.Slices ![0, 0, 1] S1024x64x1
  bcast_S1024x1_S1024x64_0_1 : S1024x1.BroadcastsInDim S1024x64 (![0, 1] : Fin 2 → Fin S1024x64.rank)
  slices_S1024x64x3_S1024x64x1_0_0_2 : S1024x64x3.Slices ![0, 0, 2] S1024x64x1
  slices_S1024x3_S1024x1_0_2 : S1024x3.Slices ![0, 2] S1024x1
  gather_S1024_S3072x1_S3072_n_0_n_n_0_1_1_wf : GatherDims.WF S1024 S3072x1 S3072 [] [0] [] [0] [] 1 ![1]
  gather_S2048x256_S3072x1_S3072x256_1_0_n_n_0_1_1256_wf : GatherDims.WF S2048x256 S3072x1 S3072x256 [1] [0] [] [0] [] 1 ![1, 256]

variable [Facts]

def gather_S1024_S3072x1_S3072_n_0_n_n_0_1_1 : GatherDims S1024 S3072x1 S3072 where
  offsetDims := []
  collapsedSliceDims := [0]
  operandBatchingDims := []
  startIndicesBatchingDims := []
  startIndexMap := [0]
  indexVectorDim := 1
  sliceSizes := ![1]
  wf := gather_S1024_S3072x1_S3072_n_0_n_n_0_1_1_wf
def gather_S2048x256_S3072x1_S3072x256_1_0_n_n_0_1_1256 : GatherDims S2048x256 S3072x1 S3072x256 where
  offsetDims := [1]
  collapsedSliceDims := [0]
  operandBatchingDims := []
  startIndicesBatchingDims := []
  startIndexMap := [0]
  indexVectorDim := 1
  sliceSizes := ![1, 256]
  wf := gather_S2048x256_S3072x1_S3072x256_1_0_n_n_0_1_1256_wf
def fn_clip {F : FTy → Type} [FloatOps F] (arg0 : IVec S1024x3 32) (arg1 : IVec S_ 32) (arg2 : IVec S_ 32) : IVec S1024x3 32 :=
  let v0 : IVec S_ 32 := id arg1
  let v1 : IVec S1024x3 32 := broadcastInDim S1024x3 ![] bcast_S_S1024x3 v0
  let v2 : IVec S1024x3 32 := maxsi v1 arg0
  let v3 : IVec S_ 32 := id arg2
  let v4 : IVec S1024x3 32 := broadcastInDim S1024x3 ![] bcast_S_S1024x3 v3
  let v5 : IVec S1024x3 32 := minsi v4 v2
  v5

def fn_part4 {F : FTy → Type} [FloatOps F] (main_v18 : IVec S1024x3 32) (main_v33 : FVec F S1024x64x3 .f32) (main_v38 : IVec S1024 1) (main_v41 : IVec S2048x256 1) (main_v44 : IVec S1024x64x256 1) (main_v47 : IVec S65536x3 1) (main_v66 : IVec S1024x64 1) (main_v79 : IVec S1024x64 1) (main_v81 : FVec F S1024x64 .f32) (main_v82 : FVec F S1024x64x1 .f32) : IVec S1024 1 × IVec S2048x256 1 × IVec S1024x64x256 1 × IVec S65536x3 1 × IVec S1024x64 1 × IVec S1024x64 1 × IVec S1024x64 1 :=
  let main_v83 : FVec F S1024x64 .f32 := shapeCast S1024x64 main_v82 shapeCasts_S1024x64x1_S1024x64
  let main_v84 : IVec S1024x64 1 := cmpf .olt main_v81 main_v83
  let main_v85 : IVec S1024x64 1 := ori main_v79 main_v84
  let main_v86 : IVec S1024x1 32 := (extractStridedSlice S1024x1 ![0, 1] · slices_S1024x3_S1024x1_0_1) main_v18
  let main_v87 : IVec S1024 32 := shapeCast S1024 main_v86 shapeCasts_S1024x1_S1024
  let main_v88 : IVec S1024x1 32 := (extractStridedSlice S1024x1 ![0, 2] · slices_S1024x3_S1024x1_0_2) main_v18
  let main_v89 : IVec S1024 32 := shapeCast S1024 main_v88 shapeCasts_S1024x1_S1024
  let main_v90 : IVec S1024 1 := cmpi .eq main_v87 main_v89
  let main_v91 : IVec S1024x1 1 := broadcastInDim S1024x1 ![0] bcast_S1024_S1024x1_0 main_v90
  let main_v92 : FVec F S1024x64x1 .f32 := (extractStridedSlice S1024x64x1 ![0, 0, 1] · slices_S1024x64x3_S1024x64x1_0_0_1) main_v33
  let main_v93 : FVec F S1024x64 .f32 := shapeCast S1024x64 main_v92 shapeCasts_S1024x64x1_S1024x64
  let main_v94 : FVec F S1024x64x1 .f32 := (extractStridedSlice S1024x64x1 ![0, 0, 2] · slices_S1024x64x3_S1024x64x1_0_0_2) main_v33
  let main_v95 : FVec F S1024x64 .f32 := shapeCast S1024x64 main_v94 shapeCasts_S1024x64x1_S1024x64
  let main_v96 : IVec S1024x64 1 := cmpf .une main_v93 main_v95
  let main_v97 : IVec S1024x64 1 := broadcastInDim S1024x64 ![0, 1] bcast_S1024x1_S1024x64_0_1 main_v91
  let main_v98 : IVec S1024x64 1 := ori main_v97 main_v96
  let main_v99 : FVec F S1024x64x1 .f32 := (extractStridedSlice S1024x64x1 ![0, 0, 1] · slices_S1024x64x3_S1024x64x1_0_0_1) main_v33
  let main_v100 : FVec F S1024x64 .f32 := shapeCast S1024x64 main_v99 shapeCasts_S1024x64x1_S1024x64
  let main_v101 : FVec F S1024x64x1 .f32 := (extractStridedSlice S1024x64x1 ![0, 0, 0] · slices_S1024x64x3_S1024x64x1_0_0_0) main_v33
  let main_v102 : FVec F S1024x64 .f32 := shapeCast S1024x64 main_v101 shapeCasts_S1024x64x1_S1024x64
  let main_v103 : IVec S1024x64 1 := cmpf .olt main_v100 main_v102
  let main_v104 : IVec S1024x64 1 := ori main_v98 main_v103
  (main_v38, main_v41, main_v44, main_v47, main_v66, main_v85, main_v104)

def fn_part3 {F : FTy → Type} [FloatOps F] (main_v18 : IVec S1024x3 32) (main_v33 : FVec F S1024x64x3 .f32) (main_v38 : IVec S1024 1) (main_v41 : IVec S2048x256 1) (main_v44 : IVec S1024x64x256 1) (main_v47 : IVec S65536x3 1) (main_v53 : IVec S1024x1 1) (main_v58 : IVec S1024x64 1) : IVec S1024 1 × IVec S2048x256 1 × IVec S1024x64x256 1 × IVec S65536x3 1 × IVec S1024x64 1 × IVec S1024x64 1 × IVec S1024x64 1 :=
  let main_v59 : IVec S1024x64 1 := broadcastInDim S1024x64 ![0, 1] bcast_S1024x1_S1024x64_0_1 main_v53
  let main_v60 : IVec S1024x64 1 := ori main_v59 main_v58
  let main_v61 : FVec F S1024x64x1 .f32 := (extractStridedSlice S1024x64x1 ![0, 0, 0] · slices_S1024x64x3_S1024x64x1_0_0_0) main_v33
  let main_v62 : FVec F S1024x64 .f32 := shapeCast S1024x64 main_v61 shapeCasts_S1024x64x1_S1024x64
  let main_v63 : FVec F S1024x64x1 .f32 := (extractStridedSlice S1024x64x1 ![0, 0, 2] · slices_S1024x64x3_S1024x64x1_0_0_2) main_v33
  let main_v64 : FVec F S1024x64 .f32 := shapeCast S1024x64 main_v63 shapeCasts_S1024x64x1_S1024x64
  let main_v65 : IVec S1024x64 1 := cmpf .olt main_v62 main_v64
  let main_v66 : IVec S1024x64 1 := ori main_v60 main_v65
  let main_v67 : IVec S1024x1 32 := (extractStridedSlice S1024x1 ![0, 0] · slices_S1024x3_S1024x1_0_0) main_v18
  let main_v68 : IVec S1024 32 := shapeCast S1024 main_v67 shapeCasts_S1024x1_S1024
  let main_v69 : IVec S1024x1 32 := (extractStridedSlice S1024x1 ![0, 2] · slices_S1024x3_S1024x1_0_2) main_v18
  let main_v70 : IVec S1024 32 := shapeCast S1024 main_v69 shapeCasts_S1024x1_S1024
  let main_v71 : IVec S1024 1 := cmpi .eq main_v68 main_v70
  let main_v72 : IVec S1024x1 1 := broadcastInDim S1024x1 ![0] bcast_S1024_S1024x1_0 main_v71
  let main_v73 : FVec F S1024x64x1 .f32 := (extractStridedSlice S1024x64x1 ![0, 0, 0] · slices_S1024x64x3_S1024x64x1_0_0_0) main_v33
  let main_v74 : FVec F S1024x64 .f32 := shapeCast S1024x64 main_v73 shapeCasts_S1024x64x1_S1024x64
  let main_v75 : FVec F S1024x64x1 .f32 := (extractStridedSlice S1024x64x1 ![0, 0, 2] · slices_S1024x64x3_S1024x64x1_0_0_2) main_v33
  let main_v76 : FVec F S1024x64 .f32 := shapeCast S1024x64 main_v75 shapeCasts_S1024x64x1_S1024x64
  let main_v77 : IVec S1024x64 1 := cmpf .une main_v74 main_v76
  let main_v78 : IVec S1024x64 1 := broadcastInDim S1024x64 ![0, 1] bcast_S1024x1_S1024x64_0_1 main_v72
  let main_v79 : IVec S1024x64 1 := ori main_v78 main_v77
  let main_v80 : FVec F S1024x64x1 .f32 := (extractStridedSlice S1024x64x1 ![0, 0, 0] · slices_S1024x64x3_S1024x64x1_0_0_0) main_v33
  let main_v81 : FVec F S1024x64 .f32 := shapeCast S1024x64 main_v80 shapeCasts_S1024x64x1_S1024x64
  let main_v82 : FVec F S1024x64x1 .f32 := (extractStridedSlice S1024x64x1 ![0, 0, 1] · slices_S1024x64x3_S1024x64x1_0_0_1) main_v33
  fn_part4 (F := F) main_v18 main_v33 main_v38 main_v41 main_v44 main_v47 main_v66 main_v79 main_v81 main_v82

def fn_part2 {F : FTy → Type} [FloatOps F] (main_arg0 : FVec F S2048x256 .f32) (main_arg3 : FVec F S65536x3 .f32) (main_arg4 : FVec F S1024x64x256 .f32) (main_v18 : IVec S1024x3 32) (main_v33 : FVec F S1024x64x3 .f32) (main_v35 : IVec S1024 1) (main_v37 : IVec S1024 1) : IVec S1024 1 × IVec S2048x256 1 × IVec S1024x64x256 1 × IVec S65536x3 1 × IVec S1024x64 1 × IVec S1024x64 1 × IVec S1024x64 1 :=
  let main_v38 : IVec S1024 1 := andi main_v35 main_v37
  let main_v39 : FVec F S2048x256 .f32 := Host.absf main_arg0
  let main_cst_8 : FVec F S_ .f32 := constant S_ .f32 0x7F800000#32
  let main_v40 : FVec F S2048x256 .f32 := broadcastInDim S2048x256 ![] bcast_S_S2048x256 main_cst_8
  let main_v41 : IVec S2048x256 1 := cmpf .olt main_v39 main_v40
  let main_v42 : FVec F S1024x64x256 .f32 := Host.absf main_arg4
  let main_cst_9 : FVec F S_ .f32 := constant S_ .f32 0x7F800000#32
  let main_v43 : FVec F S1024x64x256 .f32 := broadcastInDim S1024x64x256 ![] bcast_S_S1024x64x256 main_cst_9
  let main_v44 : IVec S1024x64x256 1 := cmpf .olt main_v42 main_v43
  let main_v45 : FVec F S65536x3 .f32 := Host.absf main_arg3
  let main_cst_10 : FVec F S_ .f32 := constant S_ .f32 0x7F800000#32
  let main_v46 : FVec F S65536x3 .f32 := broadcastInDim S65536x3 ![] bcast_S_S65536x3 main_cst_10
  let main_v47 : IVec S65536x3 1 := cmpf .olt main_v45 main_v46
  let main_v48 : IVec S1024x1 32 := (extractStridedSlice S1024x1 ![0, 0] · slices_S1024x3_S1024x1_0_0) main_v18
  let main_v49 : IVec S1024 32 := shapeCast S1024 main_v48 shapeCasts_S1024x1_S1024
  let main_v50 : IVec S1024x1 32 := (extractStridedSlice S1024x1 ![0, 1] · slices_S1024x3_S1024x1_0_1) main_v18
  let main_v51 : IVec S1024 32 := shapeCast S1024 main_v50 shapeCasts_S1024x1_S1024
  let main_v52 : IVec S1024 1 := cmpi .eq main_v49 main_v51
  let main_v53 : IVec S1024x1 1 := broadcastInDim S1024x1 ![0] bcast_S1024_S1024x1_0 main_v52
  let main_v54 : FVec F S1024x64x1 .f32 := (extractStridedSlice S1024x64x1 ![0, 0, 0] · slices_S1024x64x3_S1024x64x1_0_0_0) main_v33
  let main_v55 : FVec F S1024x64 .f32 := shapeCast S1024x64 main_v54 shapeCasts_S1024x64x1_S1024x64
  let main_v56 : FVec F S1024x64x1 .f32 := (extractStridedSlice S1024x64x1 ![0, 0, 1] · slices_S1024x64x3_S1024x64x1_0_0_1) main_v33
  let main_v57 : FVec F S1024x64 .f32 := shapeCast S1024x64 main_v56 shapeCasts_S1024x64x1_S1024x64
  let main_v58 : IVec S1024x64 1 := cmpf .une main_v55 main_v57
  fn_part3 (F := F) main_v18 main_v33 main_v38 main_v41 main_v44 main_v47 main_v53 main_v58

def fn_part1 {F : FTy → Type} [FloatOps F] (main_arg0 : FVec F S2048x256 .f32) (main_arg3 : FVec F S65536x3 .f32) (main_arg4 : FVec F S1024x64x256 .f32) (main_arg6 : IVec S1024 32) (main_v18 : IVec S1024x3 32) : IVec S1024 1 × IVec S2048x256 1 × IVec S1024x64x256 1 × IVec S65536x3 1 × IVec S1024x64 1 × IVec S1024x64 1 × IVec S1024x64 1 :=
  let main_v19 : IVec S3072 32 := shapeCast S3072 main_v18 shapeCasts_S1024x3_S3072
  let main_c_4 : IVec S_ 32 := constantI S_ 32 0#32
  let main_v20 : IVec S3072 32 := broadcastInDim S3072 ![] bcast_S_S3072 main_c_4
  let main_v21 : IVec S3072 1 := cmpi .slt main_v19 main_v20
  let main_c_5 : IVec S_ 32 := constantI S_ 32 2048#32
  let main_v22 : IVec S3072 32 := broadcastInDim S3072 ![] bcast_S_S3072 main_c_5
  let main_v23 : IVec S3072 32 := addi main_v19 main_v22
  let main_v24 : IVec S3072 32 := select main_v21 main_v23 main_v19
  let main_v25 : IVec S3072x1 32 := broadcastInDim S3072x1 ![0] bcast_S3072_S3072x1_0 main_v24
  let main_v26 : FVec F S3072x256 .f32 := (fun x i => Host.gather gather_S2048x256_S3072x1_S3072x256_1_0_n_n_0_1_1256 x i) main_arg0 main_v25
  let main_v27 : FVec F S1024x3x256 .f32 := shapeCast S1024x3x256 main_v26 shapeCasts_S3072x256_S1024x3x256
  let main_v28 : FVec F S1024x64x1x256 .f32 := broadcastInDim S1024x64x1x256 ![0, 1, 3] bcast_S1024x64x256_S1024x64x1x256_0_1_3 main_arg4
  let main_v29 : FVec F S1024x1x3x256 .f32 := broadcastInDim S1024x1x3x256 ![0, 2, 3] bcast_S1024x3x256_S1024x1x3x256_0_2_3 main_v27
  let main_v30 : FVec F S1024x64x3x256 .f32 := broadcastInDim S1024x64x3x256 ![0, 1, 2, 3] bcast_S1024x64x1x256_S1024x64x3x256_0_1_2_3 main_v28
  let main_v31 : FVec F S1024x64x3x256 .f32 := broadcastInDim S1024x64x3x256 ![0, 1, 2, 3] bcast_S1024x1x3x256_S1024x64x3x256_0_1_2_3 main_v29
  let main_v32 : FVec F S1024x64x3x256 .f32 := mulf main_v30 main_v31
  let main_cst : FVec F S_ .f32 := constant S_ .f32 0x00000000#32
  let main_v33 : FVec F S1024x64x3 .f32 := (fun x v => Host.reduceAdd x v reducesTo_S1024x64x3x256_S1024x64x3_d3 h_S_) main_v32 main_cst
  let main_c_6 : IVec S_ 32 := constantI S_ 32 0#32
  let main_v34 : IVec S1024 32 := broadcastInDim S1024 ![] bcast_S_S1024 main_c_6
  let main_v35 : IVec S1024 1 := cmpi .sge main_arg6 main_v34
  let main_c_7 : IVec S_ 32 := constantI S_ 32 2048#32
  let main_v36 : IVec S1024 32 := broadcastInDim S1024 ![] bcast_S_S1024 main_c_7
  let main_v37 : IVec S1024 1 := cmpi .slt main_arg6 main_v36
  fn_part2 (F := F) main_arg0 main_arg3 main_arg4 main_v18 main_v33 main_v35 main_v37

def fn {F : FTy → Type} [FloatOps F] (main_arg0 : FVec F S2048x256 .f32) (main_arg1 : FVec F S2048x3 .f32) (main_arg2 : FVec F S65536x256 .f32) (main_arg3 : FVec F S65536x3 .f32) (main_arg4 : FVec F S1024x64x256 .f32) (main_arg5 : FVec F S1024x64x3 .f32) (main_arg6 : IVec S1024 32) : IVec S1024 1 × IVec S2048x256 1 × IVec S1024x64x256 1 × IVec S65536x3 1 × IVec S1024x64 1 × IVec S1024x64 1 × IVec S1024x64 1 :=
  let main_v0 : IVec S1024 32 := iotaInDim S1024 32 0
  let main_v1 : IVec S1024x1 32 := broadcastInDim S1024x1 ![0] bcast_S1024_S1024x1_0 main_v0
  let main_v2 : IVec S3 32 := iotaInDim S3 32 0
  let main_c : IVec S_ 32 := constantI S_ 32 4294967295#32
  let main_v3 : IVec S3 32 := broadcastInDim S3 ![] bcast_S_S3 main_c
  let main_v4 : IVec S3 32 := addi main_v3 main_v2
  let main_v5 : IVec S1x3 32 := broadcastInDim S1x3 ![1] bcast_S3_S1x3_1 main_v4
  let main_v6 : IVec S1024x3 32 := broadcastInDim S1024x3 ![0, 1] bcast_S1024x1_S1024x3_0_1 main_v1
  let main_v7 : IVec S1024x3 32 := broadcastInDim S1024x3 ![0, 1] bcast_S1x3_S1024x3_0_1 main_v5
  let main_v8 : IVec S1024x3 32 := addi main_v6 main_v7
  let main_c_0 : IVec S_ 32 := constantI S_ 32 0#32
  let main_c_1 : IVec S_ 32 := constantI S_ 32 1023#32
  let main_v9 : IVec S1024x3 32 := fn_clip (F := F) main_v8 main_c_0 main_c_1
  let main_v10 : IVec S3072 32 := shapeCast S3072 main_v9 shapeCasts_S1024x3_S3072
  let main_c_2 : IVec S_ 32 := constantI S_ 32 0#32
  let main_v11 : IVec S3072 32 := broadcastInDim S3072 ![] bcast_S_S3072 main_c_2
  let main_v12 : IVec S3072 1 := cmpi .slt main_v10 main_v11
  let main_c_3 : IVec S_ 32 := constantI S_ 32 1024#32
  let main_v13 : IVec S3072 32 := broadcastInDim S3072 ![] bcast_S_S3072 main_c_3
  let main_v14 : IVec S3072 32 := addi main_v10 main_v13
  let main_v15 : IVec S3072 32 := select main_v12 main_v14 main_v10
  let main_v16 : IVec S3072x1 32 := broadcastInDim S3072x1 ![0] bcast_S3072_S3072x1_0 main_v15
  let main_v17 : IVec S3072 32 := (fun x i => Host.gather gather_S1024_S3072x1_S3072_n_0_n_n_0_1_1 x i) main_arg6 main_v16
  let main_v18 : IVec S1024x3 32 := shapeCast S1024x3 main_v17 shapeCasts_S3072_S1024x3
  fn_part1 (F := F) main_arg0 main_arg3 main_arg4 main_arg6 main_v18
-- ==== Kernel.lean ====
abbrev S2048x256 : Shape := ⟨2, ![2048, 256]⟩
abbrev S2048x3 : Shape := ⟨2, ![2048, 3]⟩
abbrev S65536x256 : Shape := ⟨2, ![65536, 256]⟩
abbrev S65536x3 : Shape := ⟨2, ![65536, 3]⟩
abbrev S1024x64x256 : Shape := ⟨3, ![1024, 64, 256]⟩
abbrev S1024x64x3 : Shape := ⟨3, ![1024, 64, 3]⟩
abbrev S1024 : Shape := ⟨1, ![1024]⟩
abbrev S2048x1x256 : Shape := ⟨3, ![2048, 1, 256]⟩
abbrev S32x1x2048 : Shape := ⟨3, ![32, 1, 2048]⟩
abbrev S32x96x5 : Shape := ⟨3, ![32, 96, 5]⟩
abbrev S2048x32x256 : Shape := ⟨3, ![2048, 32, 256]⟩
abbrev S32x64x256 : Shape := ⟨3, ![32, 64, 256]⟩
abbrev S32x64x3 : Shape := ⟨3, ![32, 64, 3]⟩
abbrev S1x1x256 : Shape := ⟨3, ![1, 1, 256]⟩
abbrev S1 : Shape := ⟨1, ![1]⟩
abbrev S1x1x2048 : Shape := ⟨3, ![1, 1, 2048]⟩
abbrev S1x96x5 : Shape := ⟨3, ![1, 96, 5]⟩
abbrev S64x32x256 : Shape := ⟨3, ![64, 32, 256]⟩
abbrev S1x256 : Shape := ⟨2, ![1, 256]⟩
abbrev S34x256 : Shape := ⟨2, ![34, 256]⟩
abbrev S34x2048 : Shape := ⟨2, ![34, 2048]⟩
abbrev S1x2048 : Shape := ⟨2, ![1, 2048]⟩
abbrev S96x1 : Shape := ⟨2, ![96, 1]⟩
abbrev S96x2048 : Shape := ⟨2, ![96, 2048]⟩
abbrev S1x96 : Shape := ⟨2, ![1, 96]⟩
abbrev S2048x1 : Shape := ⟨2, ![2048, 1]⟩
abbrev S2048x4 : Shape := ⟨2, ![2048, 4]⟩
abbrev S96x4 : Shape := ⟨2, ![96, 4]⟩
abbrev S96x5 : Shape := ⟨2, ![96, 5]⟩
abbrev S3072x5 : Shape := ⟨2, ![3072, 5]⟩
abbrev S128x3 : Shape := ⟨2, ![128, 3]⟩
abbrev S1x128 : Shape := ⟨2, ![1, 128]⟩
abbrev S3072x1 : Shape := ⟨2, ![3072, 1]⟩
abbrev S3072x4 : Shape := ⟨2, ![3072, 4]⟩
abbrev S3072x128 : Shape := ⟨2, ![3072, 128]⟩
abbrev S128x4 : Shape := ⟨2, ![128, 4]⟩
abbrev S128x1 : Shape := ⟨2, ![128, 1]⟩
abbrev S65536 : Shape := ⟨1, ![65536]⟩

abbrev nBuf : Space → Nat
  | .hbm => 15
  | .vmem => 85
  | .smem => 1
  | _ => 0

abbrev bufTy : (tb : Table) → Fin (tcTables nBuf tb) → BufTy
  | .hbm, ⟨0, _⟩ => ⟨S2048x256, .f32⟩
  | .hbm, ⟨1, _⟩ => ⟨S2048x3, .f32⟩
  | .hbm, ⟨2, _⟩ => ⟨S65536x256, .f32⟩
  | .hbm, ⟨3, _⟩ => ⟨S65536x3, .f32⟩
  | .hbm, ⟨4, _⟩ => ⟨S1024x64x256, .f32⟩
  | .hbm, ⟨5, _⟩ => ⟨S1024x64x3, .f32⟩
  | .hbm, ⟨6, _⟩ => ⟨S1024x64x3, .f32⟩
  | .hbm, ⟨7, _⟩ => ⟨S2048x1x256, .f32⟩
  | .hbm, ⟨8, _⟩ => ⟨S32x1x2048, .i32⟩
  | .hbm, ⟨9, _⟩ => ⟨S32x96x5, .f32⟩
  | .hbm, ⟨10, _⟩ => ⟨S1024x64x256, .f32⟩
  | .hbm, ⟨11, _⟩ => ⟨S2048x32x256, .f32⟩
  | .hbm, ⟨12, _⟩ => ⟨S3072x5, .f32⟩
  | .hbm, ⟨13, _⟩ => ⟨S2048x3, .f32⟩
  | .hbm, ⟨14, _⟩ => ⟨S65536, .i32⟩
  | .local _ .vmem, ⟨0, _⟩ => ⟨S32x64x256, .f32⟩
  | .local _ .vmem, ⟨1, _⟩ => ⟨S32x64x256, .f32⟩
  | .local _ .vmem, ⟨2, _⟩ => ⟨S32x64x3, .f32⟩
  | .local _ .vmem, ⟨3, _⟩ => ⟨S32x64x3, .f32⟩
  | .local _ .vmem, ⟨4, _⟩ => ⟨S2048x256, .f32⟩
  | .local _ .vmem, ⟨5, _⟩ => ⟨S2048x256, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S1x1x256, .f32⟩
  | .local _ .vmem, ⟨19, _⟩ => ⟨S1x1x256, .f32⟩
  | .local _ .vmem, ⟨20, _⟩ => ⟨S1x1x256, .f32⟩
  | .local _ .vmem, ⟨21, _⟩ => ⟨S1x1x256, .f32⟩
  | .local _ .vmem, ⟨22, _⟩ => ⟨S1x1x256, .f32⟩
  | .local _ .vmem, ⟨23, _⟩ => ⟨S1x1x256, .f32⟩
  | .local _ .vmem, ⟨24, _⟩ => ⟨S1x1x256, .f32⟩
  | .local _ .vmem, ⟨25, _⟩ => ⟨S1x1x256, .f32⟩
  | .local _ .vmem, ⟨26, _⟩ => ⟨S1x1x256, .f32⟩
  | .local _ .vmem, ⟨27, _⟩ => ⟨S1x1x256, .f32⟩
  | .local _ .vmem, ⟨28, _⟩ => ⟨S1x1x256, .f32⟩
  | .local _ .vmem, ⟨29, _⟩ => ⟨S1x1x256, .f32⟩
  | .local _ .vmem, ⟨30, _⟩ => ⟨S1x1x256, .f32⟩
  | .local _ .vmem, ⟨31, _⟩ => ⟨S1x1x256, .f32⟩
  | .local _ .vmem, ⟨32, _⟩ => ⟨S1x1x256, .f32⟩
  | .local _ .vmem, ⟨33, _⟩ => ⟨S1x1x256, .f32⟩
  | .local _ .vmem, ⟨34, _⟩ => ⟨S1x1x256, .f32⟩
  | .local _ .vmem, ⟨35, _⟩ => ⟨S1x1x256, .f32⟩
  | .local _ .vmem, ⟨36, _⟩ => ⟨S1x1x256, .f32⟩
  | .local _ .vmem, ⟨37, _⟩ => ⟨S1x1x256, .f32⟩
  | .local _ .vmem, ⟨38, _⟩ => ⟨S1x1x256, .f32⟩
  | .local _ .vmem, ⟨39, _⟩ => ⟨S1x1x256, .f32⟩
  | .local _ .vmem, ⟨40, _⟩ => ⟨S1x1x256, .f32⟩
  | .local _ .vmem, ⟨41, _⟩ => ⟨S1x1x256, .f32⟩
  | .local _ .vmem, ⟨42, _⟩ => ⟨S1x1x256, .f32⟩
  | .local _ .vmem, ⟨43, _⟩ => ⟨S1x1x256, .f32⟩
  | .local _ .vmem, ⟨44, _⟩ => ⟨S1x1x256, .f32⟩
  | .local _ .vmem, ⟨45, _⟩ => ⟨S1x1x256, .f32⟩
  | .local _ .vmem, ⟨46, _⟩ => ⟨S1x1x256, .f32⟩
  | .local _ .vmem, ⟨47, _⟩ => ⟨S1x1x256, .f32⟩
  | .local _ .vmem, ⟨48, _⟩ => ⟨S1x1x256, .f32⟩
  | .local _ .vmem, ⟨49, _⟩ => ⟨S1x1x256, .f32⟩
  | .local _ .vmem, ⟨50, _⟩ => ⟨S1x1x256, .f32⟩
  | .local _ .vmem, ⟨51, _⟩ => ⟨S1x1x256, .f32⟩
  | .local _ .vmem, ⟨52, _⟩ => ⟨S1x1x256, .f32⟩
  | .local _ .vmem, ⟨53, _⟩ => ⟨S1x1x256, .f32⟩
  | .local _ .vmem, ⟨54, _⟩ => ⟨S1x1x256, .f32⟩
  | .local _ .vmem, ⟨55, _⟩ => ⟨S1x1x256, .f32⟩
  | .local _ .vmem, ⟨56, _⟩ => ⟨S1x1x256, .f32⟩
  | .local _ .vmem, ⟨57, _⟩ => ⟨S1x1x256, .f32⟩
  | .local _ .vmem, ⟨58, _⟩ => ⟨S1x1x256, .f32⟩
  | .local _ .vmem, ⟨59, _⟩ => ⟨S1x1x256, .f32⟩
  | .local _ .vmem, ⟨60, _⟩ => ⟨S1x1x256, .f32⟩
  | .local _ .vmem, ⟨61, _⟩ => ⟨S1x1x256, .f32⟩
  | .local _ .vmem, ⟨62, _⟩ => ⟨S1x1x256, .f32⟩
  | .local _ .vmem, ⟨63, _⟩ => ⟨S1x1x256, .f32⟩
  | .local _ .vmem, ⟨64, _⟩ => ⟨S1x1x256, .f32⟩
  | .local _ .vmem, ⟨65, _⟩ => ⟨S1x1x256, .f32⟩
  | .local _ .vmem, ⟨66, _⟩ => ⟨S1x1x256, .f32⟩
  | .local _ .vmem, ⟨67, _⟩ => ⟨S1x1x256, .f32⟩
  | .local _ .vmem, ⟨68, _⟩ => ⟨S1x1x256, .f32⟩
  | .local _ .vmem, ⟨69, _⟩ => ⟨S1x1x256, .f32⟩
  | .local _ .vmem, ⟨70, _⟩ => ⟨S1x1x256, .f32⟩
  | .local _ .vmem, ⟨71, _⟩ => ⟨S1x1x256, .f32⟩
  | .local _ .vmem, ⟨72, _⟩ => ⟨S1x1x256, .f32⟩
  | .local _ .vmem, ⟨73, _⟩ => ⟨S1x1x256, .f32⟩
  | .local _ .vmem, ⟨74, _⟩ => ⟨S1x1x2048, .i32⟩
  | .local _ .vmem, ⟨75, _⟩ => ⟨S1x1x2048, .i32⟩
  | .local _ .vmem, ⟨76, _⟩ => ⟨S1x96x5, .f32⟩
  | .local _ .vmem, ⟨77, _⟩ => ⟨S1x96x5, .f32⟩
  | .local _ .vmem, ⟨78, _⟩ => ⟨S32x64x256, .f32⟩
  | .local _ .vmem, ⟨79, _⟩ => ⟨S32x64x256, .f32⟩
  | .local _ .vmem, ⟨80, _⟩ => ⟨S64x32x256, .f32⟩
  | .local _ .vmem, ⟨81, _⟩ => ⟨S64x32x256, .f32⟩
  | .local _ .vmem, ⟨82, _⟩ => ⟨S3072x5, .f32⟩
  | .local _ .vmem, ⟨83, _⟩ => ⟨S128x3, .f32⟩
  | .local _ .vmem, ⟨84, _⟩ => ⟨S128x3, .f32⟩
  | .local _ .smem, ⟨0, _⟩ => ⟨S1024, .i32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | _, _ => false

abbrev semScoped : Fin 0 → Bool
  | ⟨_, h⟩ => absurd h (Nat.not_lt_zero _)

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTc nBuf bufTy 0 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc1_stg0_0 : Ref sig .tc := ⟨.vmem, 82, rfl⟩
abbrev cc1_stg1_0 : Ref sig .tc := ⟨.vmem, 83, rfl⟩
abbrev cc1_stg1_1 : Ref sig .tc := ⟨.vmem, 84, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc1_sem0_0 : DmaSem sig := 82
abbrev cc1_sem1_0 : DmaSem sig := 83
abbrev cc1_sem1_1 : DmaSem sig := 84

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let c1023_i32 : BitVec 32 := 1023#32
  let c0_i32_0 : BitVec 32 := 0#32
  let c32_i32 : BitVec 32 := 32#32
  let arg0 : BitVec 32 := BitVec.ofNat 32 (i 0).val
  let v0 : BitVec 32 := Scalar.muli c32_i32 arg0
  let c1_i32 : BitVec 32 := 1#32
  let v1 : BitVec 32 := Scalar.subi v0 c1_i32
  let v2 : BitVec 32 := Scalar.addi v1 c0_i32
  let v3 : BitVec 32 := Scalar.maxsi c0_i32_0 v2
  let v4 : BitVec 32 := Scalar.minsi c1023_i32 v3
  let v5 : Index := Scalar.indexCast v4
  ![v5.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c0_i32 : BitVec 32 := 0#32
  let v2 : BitVec 32 := Scalar.addi v1 c0_i32
  let c0_i32_0 : BitVec 32 := 0#32
  let c1023_i32 : BitVec 32 := 1023#32
  let v3 : BitVec 32 := Scalar.maxsi c0_i32_0 v2
  let v4 : BitVec 32 := Scalar.minsi c1023_i32 v3
  let v5 : Index := Scalar.indexCast v4
  let v6 : BitVec 32 := pf.at 0 (Rect.unit (s := S1024) ![v5.toNat] S1.size (k0_off1_inb i 0)) numel1_S1
  let c0_i32_1 : BitVec 32 := 0#32
  let c0_i32_2 : BitVec 32 := 0#32
  let c0_i32_3 : BitVec 32 := 0#32
  ![v6.toNat, c0_i32_1.toNat, c0_i32_2.toNat]

def cc0_transform_4 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c1_i32_0 : BitVec 32 := 1#32
  let v2 : BitVec 32 := Scalar.addi v1 c1_i32_0
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 1)) numel1_S1
  let c0_i32_1 : BitVec 32 := 0#32
  let c0_i32_2 : BitVec 32 := 0#32
  let c0_i32_3 : BitVec 32 := 0#32
  ![v6.toNat, c0_i32_1.toNat, c0_i32_2.toNat]

def cc0_transform_5 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c2_i32 : BitVec 32 := 2#32
  let v2 : BitVec 32 := Scalar.addi v1 c2_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 2)) numel1_S1
  let c0_i32_0 : BitVec 32 := 0#32
  let c0_i32_1 : BitVec 32 := 0#32
  let c0_i32_2 : BitVec 32 := 0#32
  ![v6.toNat, c0_i32_0.toNat, c0_i32_1.toNat]

def cc0_transform_6 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c3_i32 : BitVec 32 := 3#32
  let v2 : BitVec 32 := Scalar.addi v1 c3_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 3)) numel1_S1
  let c0_i32_0 : BitVec 32 := 0#32
  let c0_i32_1 : BitVec 32 := 0#32
  let c0_i32_2 : BitVec 32 := 0#32
  ![v6.toNat, c0_i32_0.toNat, c0_i32_1.toNat]

def cc0_transform_7 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c4_i32 : BitVec 32 := 4#32
  let v2 : BitVec 32 := Scalar.addi v1 c4_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 4)) numel1_S1
  let c0_i32_0 : BitVec 32 := 0#32
  let c0_i32_1 : BitVec 32 := 0#32
  let c0_i32_2 : BitVec 32 := 0#32
  ![v6.toNat, c0_i32_0.toNat, c0_i32_1.toNat]

def cc0_transform_8 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c5_i32 : BitVec 32 := 5#32
  let v2 : BitVec 32 := Scalar.addi v1 c5_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 5)) numel1_S1
  let c0_i32_0 : BitVec 32 := 0#32
  let c0_i32_1 : BitVec 32 := 0#32
  let c0_i32_2 : BitVec 32 := 0#32
  ![v6.toNat, c0_i32_0.toNat, c0_i32_1.toNat]

def cc0_transform_9 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c6_i32 : BitVec 32 := 6#32
  let v2 : BitVec 32 := Scalar.addi v1 c6_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 6)) numel1_S1
  let c0_i32_0 : BitVec 32 := 0#32
  let c0_i32_1 : BitVec 32 := 0#32
  let c0_i32_2 : BitVec 32 := 0#32
  ![v6.toNat, c0_i32_0.toNat, c0_i32_1.toNat]

def cc0_transform_10 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c7_i32 : BitVec 32 := 7#32
  let v2 : BitVec 32 := Scalar.addi v1 c7_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 7)) numel1_S1
  let c0_i32_0 : BitVec 32 := 0#32
  let c0_i32_1 : BitVec 32 := 0#32
  let c0_i32_2 : BitVec 32 := 0#32
  ![v6.toNat, c0_i32_0.toNat, c0_i32_1.toNat]

def cc0_transform_11 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c8_i32 : BitVec 32 := 8#32
  let v2 : BitVec 32 := Scalar.addi v1 c8_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 8)) numel1_S1
  let c0_i32_0 : BitVec 32 := 0#32
  let c0_i32_1 : BitVec 32 := 0#32
  let c0_i32_2 : BitVec 32 := 0#32
  ![v6.toNat, c0_i32_0.toNat, c0_i32_1.toNat]

def cc0_transform_12 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c9_i32 : BitVec 32 := 9#32
  let v2 : BitVec 32 := Scalar.addi v1 c9_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 9)) numel1_S1
  let c0_i32_0 : BitVec 32 := 0#32
  let c0_i32_1 : BitVec 32 := 0#32
  let c0_i32_2 : BitVec 32 := 0#32
  ![v6.toNat, c0_i32_0.toNat, c0_i32_1.toNat]

def cc0_transform_13 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c10_i32 : BitVec 32 := 10#32
  let v2 : BitVec 32 := Scalar.addi v1 c10_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 10)) numel1_S1
  let c0_i32_0 : BitVec 32 := 0#32
  let c0_i32_1 : BitVec 32 := 0#32
  let c0_i32_2 : BitVec 32 := 0#32
  ![v6.toNat, c0_i32_0.toNat, c0_i32_1.toNat]

def cc0_transform_14 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c11_i32 : BitVec 32 := 11#32
  let v2 : BitVec 32 := Scalar.addi v1 c11_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 11)) numel1_S1
  let c0_i32_0 : BitVec 32 := 0#32
  let c0_i32_1 : BitVec 32 := 0#32
  let c0_i32_2 : BitVec 32 := 0#32
  ![v6.toNat, c0_i32_0.toNat, c0_i32_1.toNat]

def cc0_transform_15 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c12_i32 : BitVec 32 := 12#32
  let v2 : BitVec 32 := Scalar.addi v1 c12_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 12)) numel1_S1
  let c0_i32_0 : BitVec 32 := 0#32
  let c0_i32_1 : BitVec 32 := 0#32
  let c0_i32_2 : BitVec 32 := 0#32
  ![v6.toNat, c0_i32_0.toNat, c0_i32_1.toNat]

def cc0_transform_16 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c13_i32 : BitVec 32 := 13#32
  let v2 : BitVec 32 := Scalar.addi v1 c13_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 13)) numel1_S1
  let c0_i32_0 : BitVec 32 := 0#32
  let c0_i32_1 : BitVec 32 := 0#32
  let c0_i32_2 : BitVec 32 := 0#32
  ![v6.toNat, c0_i32_0.toNat, c0_i32_1.toNat]

def cc0_transform_17 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c14_i32 : BitVec 32 := 14#32
  let v2 : BitVec 32 := Scalar.addi v1 c14_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 14)) numel1_S1
  let c0_i32_0 : BitVec 32 := 0#32
  let c0_i32_1 : BitVec 32 := 0#32
  let c0_i32_2 : BitVec 32 := 0#32
  ![v6.toNat, c0_i32_0.toNat, c0_i32_1.toNat]

def cc0_transform_18 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c15_i32 : BitVec 32 := 15#32
  let v2 : BitVec 32 := Scalar.addi v1 c15_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 15)) numel1_S1
  let c0_i32_0 : BitVec 32 := 0#32
  let c0_i32_1 : BitVec 32 := 0#32
  let c0_i32_2 : BitVec 32 := 0#32
  ![v6.toNat, c0_i32_0.toNat, c0_i32_1.toNat]

def cc0_transform_19 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c16_i32 : BitVec 32 := 16#32
  let v2 : BitVec 32 := Scalar.addi v1 c16_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 16)) numel1_S1
  let c0_i32_0 : BitVec 32 := 0#32
  let c0_i32_1 : BitVec 32 := 0#32
  let c0_i32_2 : BitVec 32 := 0#32
  ![v6.toNat, c0_i32_0.toNat, c0_i32_1.toNat]

def cc0_transform_20 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c17_i32 : BitVec 32 := 17#32
  let v2 : BitVec 32 := Scalar.addi v1 c17_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 17)) numel1_S1
  let c0_i32_0 : BitVec 32 := 0#32
  let c0_i32_1 : BitVec 32 := 0#32
  let c0_i32_2 : BitVec 32 := 0#32
  ![v6.toNat, c0_i32_0.toNat, c0_i32_1.toNat]

def cc0_transform_21 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c18_i32 : BitVec 32 := 18#32
  let v2 : BitVec 32 := Scalar.addi v1 c18_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 18)) numel1_S1
  let c0_i32_0 : BitVec 32 := 0#32
  let c0_i32_1 : BitVec 32 := 0#32
  let c0_i32_2 : BitVec 32 := 0#32
  ![v6.toNat, c0_i32_0.toNat, c0_i32_1.toNat]

def cc0_transform_22 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c19_i32 : BitVec 32 := 19#32
  let v2 : BitVec 32 := Scalar.addi v1 c19_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 19)) numel1_S1
  let c0_i32_0 : BitVec 32 := 0#32
  let c0_i32_1 : BitVec 32 := 0#32
  let c0_i32_2 : BitVec 32 := 0#32
  ![v6.toNat, c0_i32_0.toNat, c0_i32_1.toNat]

def cc0_transform_23 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c20_i32 : BitVec 32 := 20#32
  let v2 : BitVec 32 := Scalar.addi v1 c20_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 20)) numel1_S1
  let c0_i32_0 : BitVec 32 := 0#32
  let c0_i32_1 : BitVec 32 := 0#32
  let c0_i32_2 : BitVec 32 := 0#32
  ![v6.toNat, c0_i32_0.toNat, c0_i32_1.toNat]

def cc0_transform_24 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c21_i32 : BitVec 32 := 21#32
  let v2 : BitVec 32 := Scalar.addi v1 c21_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 21)) numel1_S1
  let c0_i32_0 : BitVec 32 := 0#32
  let c0_i32_1 : BitVec 32 := 0#32
  let c0_i32_2 : BitVec 32 := 0#32
  ![v6.toNat, c0_i32_0.toNat, c0_i32_1.toNat]

def cc0_transform_25 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c22_i32 : BitVec 32 := 22#32
  let v2 : BitVec 32 := Scalar.addi v1 c22_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 22)) numel1_S1
  let c0_i32_0 : BitVec 32 := 0#32
  let c0_i32_1 : BitVec 32 := 0#32
  let c0_i32_2 : BitVec 32 := 0#32
  ![v6.toNat, c0_i32_0.toNat, c0_i32_1.toNat]

def cc0_transform_26 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c23_i32 : BitVec 32 := 23#32
  let v2 : BitVec 32 := Scalar.addi v1 c23_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 23)) numel1_S1
  let c0_i32_0 : BitVec 32 := 0#32
  let c0_i32_1 : BitVec 32 := 0#32
  let c0_i32_2 : BitVec 32 := 0#32
  ![v6.toNat, c0_i32_0.toNat, c0_i32_1.toNat]

def cc0_transform_27 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c24_i32 : BitVec 32 := 24#32
  let v2 : BitVec 32 := Scalar.addi v1 c24_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 24)) numel1_S1
  let c0_i32_0 : BitVec 32 := 0#32
  let c0_i32_1 : BitVec 32 := 0#32
  let c0_i32_2 : BitVec 32 := 0#32
  ![v6.toNat, c0_i32_0.toNat, c0_i32_1.toNat]

def cc0_transform_28 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c25_i32 : BitVec 32 := 25#32
  let v2 : BitVec 32 := Scalar.addi v1 c25_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 25)) numel1_S1
  let c0_i32_0 : BitVec 32 := 0#32
  let c0_i32_1 : BitVec 32 := 0#32
  let c0_i32_2 : BitVec 32 := 0#32
  ![v6.toNat, c0_i32_0.toNat, c0_i32_1.toNat]

def cc0_transform_29 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c26_i32 : BitVec 32 := 26#32
  let v2 : BitVec 32 := Scalar.addi v1 c26_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 26)) numel1_S1
  let c0_i32_0 : BitVec 32 := 0#32
  let c0_i32_1 : BitVec 32 := 0#32
  let c0_i32_2 : BitVec 32 := 0#32
  ![v6.toNat, c0_i32_0.toNat, c0_i32_1.toNat]

def cc0_transform_30 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c27_i32 : BitVec 32 := 27#32
  let v2 : BitVec 32 := Scalar.addi v1 c27_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 27)) numel1_S1
  let c0_i32_0 : BitVec 32 := 0#32
  let c0_i32_1 : BitVec 32 := 0#32
  let c0_i32_2 : BitVec 32 := 0#32
  ![v6.toNat, c0_i32_0.toNat, c0_i32_1.toNat]

def cc0_transform_31 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c28_i32 : BitVec 32 := 28#32
  let v2 : BitVec 32 := Scalar.addi v1 c28_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 28)) numel1_S1
  let c0_i32_0 : BitVec 32 := 0#32
  let c0_i32_1 : BitVec 32 := 0#32
  let c0_i32_2 : BitVec 32 := 0#32
  ![v6.toNat, c0_i32_0.toNat, c0_i32_1.toNat]

def cc0_transform_32 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c29_i32 : BitVec 32 := 29#32
  let v2 : BitVec 32 := Scalar.addi v1 c29_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 29)) numel1_S1
  let c0_i32_0 : BitVec 32 := 0#32
  let c0_i32_1 : BitVec 32 := 0#32
  let c0_i32_2 : BitVec 32 := 0#32
  ![v6.toNat, c0_i32_0.toNat, c0_i32_1.toNat]

def cc0_transform_33 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c30_i32 : BitVec 32 := 30#32
  let v2 : BitVec 32 := Scalar.addi v1 c30_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 30)) numel1_S1
  let c0_i32_0 : BitVec 32 := 0#32
  let c0_i32_1 : BitVec 32 := 0#32
  let c0_i32_2 : BitVec 32 := 0#32
  ![v6.toNat, c0_i32_0.toNat, c0_i32_1.toNat]

def cc0_transform_34 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c31_i32 : BitVec 32 := 31#32
  let v2 : BitVec 32 := Scalar.addi v1 c31_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 31)) numel1_S1
  let c0_i32_0 : BitVec 32 := 0#32
  let c0_i32_1 : BitVec 32 := 0#32
  let c0_i32_2 : BitVec 32 := 0#32
  ![v6.toNat, c0_i32_0.toNat, c0_i32_1.toNat]

def cc0_transform_35 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c32_i32_0 : BitVec 32 := 32#32
  let v2 : BitVec 32 := Scalar.addi v1 c32_i32_0
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 32)) numel1_S1
  let c0_i32_1 : BitVec 32 := 0#32
  let c0_i32_2 : BitVec 32 := 0#32
  let c0_i32_3 : BitVec 32 := 0#32
  ![v6.toNat, c0_i32_1.toNat, c0_i32_2.toNat]

def cc0_transform_36 (k0_off1_inb : ∀ i : grid0.Coords, ∀ (r : Fin 34), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.muli c32_i32 arg0
  let c1_i32 : BitVec 32 := 1#32
  let v1 : BitVec 32 := Scalar.subi v0 c1_i32
  let c33_i32 : BitVec 32 := 33#32
  let v2 : BitVec 32 := Scalar.addi v1 c33_i32
  let c0_i32 : BitVec 32 := 0#32
  let c1023_i32 : BitVec 32 := 1023#32
  let v3 : BitVec 32 := Scalar.maxsi c0_i32 v2
  let v4 : BitVec 32 := Scalar.minsi c1023_i32 v3
  let v5 : Index := Scalar.indexCast v4
  let v6 : BitVec 32 := pf.at 0 (Rect.unit (s := S1024) ![v5.toNat] S1.size (k0_off1_inb i 33)) numel1_S1
  let c0_i32_0 : BitVec 32 := 0#32
  let c0_i32_1 : BitVec 32 := 0#32
  let c0_i32_2 : BitVec 32 := 0#32
  ![v6.toNat, c0_i32_0.toNat, c0_i32_1.toNat]

def cc0_transform_37 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_38 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_39 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_40 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x1x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x1x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x1x256 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x1x256 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x1x256 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x1x256 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x1x256 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x1x256 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x1x256 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x1x256 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x1x256 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x1x2048 .i32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1x96x5 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S32x64x256 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S64x32x256 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S3072x5 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S2048x256 : Shape := ⟨2, ![2048, 256]⟩
abbrev S2048x3 : Shape := ⟨2, ![2048, 3]⟩
abbrev S65536x256 : Shape := ⟨2, ![65536, 256]⟩
abbrev S65536x3 : Shape := ⟨2, ![65536, 3]⟩
abbrev S1024x64x256 : Shape := ⟨3, ![1024, 64, 256]⟩
abbrev S1024x64x3 : Shape := ⟨3, ![1024, 64, 3]⟩
abbrev S1024 : Shape := ⟨1, ![1024]⟩
abbrev S3 : Shape := ⟨1, ![3]⟩
abbrev S_ : Shape := ⟨0, ![]⟩
abbrev S1024x1 : Shape := ⟨2, ![1024, 1]⟩
abbrev S1x3 : Shape := ⟨2, ![1, 3]⟩
abbrev S1024x3 : Shape := ⟨2, ![1024, 3]⟩
abbrev S3072 : Shape := ⟨1, ![3072]⟩
abbrev S3072x1 : Shape := ⟨2, ![3072, 1]⟩
abbrev S3072x256 : Shape := ⟨2, ![3072, 256]⟩
abbrev S1024x3x256 : Shape := ⟨3, ![1024, 3, 256]⟩
abbrev S3072x3 : Shape := ⟨2, ![3072, 3]⟩
abbrev S1024x3x3 : Shape := ⟨3, ![1024, 3, 3]⟩
abbrev S1024x64x1x3 : Shape := ⟨4, ![1024, 64, 1, 3]⟩
abbrev S1024x1x3x3 : Shape := ⟨4, ![1024, 1, 3, 3]⟩
abbrev S1024x64x3x3 : Shape := ⟨4, ![1024, 64, 3, 3]⟩
abbrev S1024x1x1 : Shape := ⟨3, ![1024, 1, 1]⟩
abbrev S1024x64x3x1 : Shape := ⟨4, ![1024, 64, 3, 1]⟩
abbrev S1024x64x3x2 : Shape := ⟨4, ![1024, 64, 3, 2]⟩
abbrev S1024x64x3x256 : Shape := ⟨4, ![1024, 64, 3, 256]⟩
abbrev S1024x64x1x256 : Shape := ⟨4, ![1024, 64, 1, 256]⟩
abbrev S1024x64 : Shape := ⟨2, ![1024, 64]⟩
abbrev S1024x64x1 : Shape := ⟨3, ![1024, 64, 1]⟩
abbrev S1024x1x3 : Shape := ⟨3, ![1024, 1, 3]⟩
abbrev S1 : Shape := ⟨1, ![1]⟩
abbrev S1x1x1x1 : Shape := ⟨4, ![1, 1, 1, 1]⟩
abbrev S1024x64x1x1 : Shape := ⟨4, ![1024, 64, 1, 1]⟩
abbrev S65536 : Shape := ⟨1, ![65536]⟩
abbrev S65536x1 : Shape := ⟨2, ![65536, 1]⟩
abbrev S2048 : Shape := ⟨1, ![2048]⟩
abbrev S2048x1 : Shape := ⟨2, ![2048, 1]⟩
abbrev S2048x32x256 : Shape := ⟨3, ![2048, 32, 256]⟩

abbrev nBuf : Space → Nat
  | .hbm => 185
  | .vmem => 0
  | .smem => 0
  | _ => 0

abbrev hbmTy0_0 (i : Nat) : BufTy := match i % 128 with
  | 0 => ⟨S2048x256, .f32⟩
  | 1 => ⟨S2048x3, .f32⟩
  | 2 => ⟨S65536x256, .f32⟩
  | 3 => ⟨S65536x3, .f32⟩
  | 4 => ⟨S1024x64x256, .f32⟩
  | 5 => ⟨S1024x64x3, .f32⟩
  | 6 => ⟨S1024, .i32⟩
  | 7 => ⟨S3, .i32⟩
  | 8 => ⟨S_, .i32⟩
  | 9 => ⟨S3, .i32⟩
  | 10 => ⟨S3, .i32⟩
  | 11 => ⟨S1024, .i32⟩
  | 12 => ⟨S1024x1, .i32⟩
  | 13 => ⟨S1x3, .i32⟩
  | 14 => ⟨S1024x3, .i32⟩
  | 15 => ⟨S1024x3, .i32⟩
  | 16 => ⟨S1024x3, .i32⟩
  | 17 => ⟨S_, .i32⟩
  | 18 => ⟨S_, .i32⟩
  | 19 => ⟨S_, .i32⟩
  | 20 => ⟨S1024x3, .i32⟩
  | 21 => ⟨S1024x3, .i32⟩
  | 22 => ⟨S_, .i32⟩
  | 23 => ⟨S1024x3, .i32⟩
  | 24 => ⟨S1024x3, .i32⟩
  | 25 => ⟨S3072, .i32⟩
  | 26 => ⟨S_, .i32⟩
  | 27 => ⟨S3072, .i32⟩
  | 28 => ⟨S3072, .i1⟩
  | 29 => ⟨S_, .i32⟩
  | 30 => ⟨S3072, .i32⟩
  | 31 => ⟨S3072, .i32⟩
  | 32 => ⟨S3072, .i32⟩
  | 33 => ⟨S3072x1, .i32⟩
  | 34 => ⟨S3072, .i32⟩
  | 35 => ⟨S1024x3, .i32⟩
  | 36 => ⟨S3072, .i32⟩
  | 37 => ⟨S_, .i32⟩
  | 38 => ⟨S3072, .i32⟩
  | 39 => ⟨S3072, .i1⟩
  | 40 => ⟨S_, .i32⟩
  | 41 => ⟨S3072, .i32⟩
  | 42 => ⟨S3072, .i32⟩
  | 43 => ⟨S3072, .i32⟩
  | 44 => ⟨S3072x1, .i32⟩
  | 45 => ⟨S3072x256, .f32⟩
  | 46 => ⟨S1024x3x256, .f32⟩
  | 47 => ⟨S3072, .i32⟩
  | 48 => ⟨S_, .i32⟩
  | 49 => ⟨S3072, .i32⟩
  | 50 => ⟨S3072, .i1⟩
  | 51 => ⟨S_, .i32⟩
  | 52 => ⟨S3072, .i32⟩
  | 53 => ⟨S3072, .i32⟩
  | 54 => ⟨S3072, .i32⟩
  | 55 => ⟨S3072x1, .i32⟩
  | 56 => ⟨S3072x3, .f32⟩
  | 57 => ⟨S1024x3x3, .f32⟩
  | 58 => ⟨S1024x64x1x3, .f32⟩
  | 59 => ⟨S1024x1x3x3, .f32⟩
  | 60 => ⟨S1024x64x3x3, .f32⟩
  | 61 => ⟨S1024x64x3x3, .f32⟩
  | 62 => ⟨S1024x64x3x3, .f32⟩
  | 63 => ⟨S1024x64x3x3, .f32⟩
  | 64 => ⟨S_, .f32⟩
  | 65 => ⟨S1024x64x3, .f32⟩
  | 66 => ⟨S_, .f32⟩
  | 67 => ⟨S1024x64x3, .f32⟩
  | 68 => ⟨S1024x64x3, .f32⟩
  | 69 => ⟨S1024x64x3, .f32⟩
  | 70 => ⟨S1024x64x3, .f32⟩
  | 71 => ⟨S1024x64x3, .f32⟩
  | 72 => ⟨S1024x64x3, .i32⟩
  | 73 => ⟨S1024, .i32⟩
  | 74 => ⟨S1024x1x1, .i32⟩
  | 75 => ⟨S_, .i32⟩
  | 76 => ⟨S1024x1x1, .i32⟩
  | 77 => ⟨S1024x1x1, .i1⟩
  | 78 => ⟨S_, .i32⟩
  | 79 => ⟨S1024x1x1, .i32⟩
  | 80 => ⟨S1024x1x1, .i32⟩
  | 81 => ⟨S1024x1x1, .i32⟩
  | 82 => ⟨S_, .i32⟩
  | 83 => ⟨S1024x64x3, .i32⟩
  | 84 => ⟨S1024x64x3, .i1⟩
  | 85 => ⟨S_, .i32⟩
  | 86 => ⟨S1024x64x3, .i32⟩
  | 87 => ⟨S1024x64x3, .i32⟩
  | 88 => ⟨S1024x64x3, .i32⟩
  | 89 => ⟨S1024x64x3, .i32⟩
  | 90 => ⟨S1024x64x3x1, .i32⟩
  | 91 => ⟨S1024x64x3x1, .i32⟩
  | 92 => ⟨S1024x64x3x2, .i32⟩
  | 93 => ⟨S1024x64x3x256, .f32⟩
  | 94 => ⟨S1024x64x1x256, .f32⟩
  | 95 => ⟨S1024x64x3x256, .f32⟩
  | 96 => ⟨S1024x64x3x256, .f32⟩
  | 97 => ⟨S_, .f32⟩
  | 98 => ⟨S1024x64x3, .f32⟩
  | 99 => ⟨S_, .f32⟩
  | 100 => ⟨S1024x64, .f32⟩
  | 101 => ⟨S_, .f32⟩
  | 102 => ⟨S1024x64, .f32⟩
  | 103 => ⟨S1024x64, .f32⟩
  | 104 => ⟨S1024x64x1, .f32⟩
  | 105 => ⟨S1024x64x3, .f32⟩
  | 106 => ⟨S1024x64x3, .f32⟩
  | 107 => ⟨S1024x64x3, .f32⟩
  | 108 => ⟨S_, .f32⟩
  | 109 => ⟨S1024x64, .f32⟩
  | 110 => ⟨S1024x64x1, .f32⟩
  | 111 => ⟨S1024x64x3, .f32⟩
  | 112 => ⟨S1024x64x3, .f32⟩
  | 113 => ⟨S1024x64x3, .i32⟩
  | 114 => ⟨S_, .f32⟩
  | 115 => ⟨S_, .i32⟩
  | 116 => ⟨S1024x64, .f32⟩
  | 117 => ⟨S1024x64, .i32⟩
  | 118 => ⟨S1024x1x3, .i32⟩
  | 119 => ⟨S1024x64x3, .i32⟩
  | 120 => ⟨S_, .i32⟩
  | 121 => ⟨S1024x64x3, .i32⟩
  | 122 => ⟨S1024x64x3, .i1⟩
  | 123 => ⟨S_, .i32⟩
  | 124 => ⟨S1024x64x3, .i32⟩
  | 125 => ⟨S1024x64x3, .i32⟩
  | 126 => ⟨S1024x64x3, .i32⟩
  | 127 => ⟨S1024x64x3x1, .i32⟩
  | _ => ⟨S2048x256, .f32⟩

abbrev hbmTy0_1 (i : Nat) : BufTy := match i % 128 with
  | 0 => ⟨S1, .i32⟩
  | 1 => ⟨S_, .i32⟩
  | 2 => ⟨S1024x64x3x1, .i32⟩
  | 3 => ⟨S1024x64x3x1, .i1⟩
  | 4 => ⟨S1x1x1x1, .i32⟩
  | 5 => ⟨S1024x64x3x1, .i32⟩
  | 6 => ⟨S1024x64x3x1, .i1⟩
  | 7 => ⟨S1024x64x3x1, .i1⟩
  | 8 => ⟨S_, .i1⟩
  | 9 => ⟨S1024x64x3, .i1⟩
  | 10 => ⟨S1024x64x3, .i32⟩
  | 11 => ⟨S_, .i32⟩
  | 12 => ⟨S1024x64x3, .i32⟩
  | 13 => ⟨S1024x64x3, .i32⟩
  | 14 => ⟨S1024x64x1, .i32⟩
  | 15 => ⟨S_, .i32⟩
  | 16 => ⟨S1024x64x1, .i32⟩
  | 17 => ⟨S1024x64x1, .i1⟩
  | 18 => ⟨S_, .i32⟩
  | 19 => ⟨S1024x64x1, .i32⟩
  | 20 => ⟨S1024x64x1, .i32⟩
  | 21 => ⟨S1024x64x1, .i32⟩
  | 22 => ⟨S1024x64x1x1, .i32⟩
  | 23 => ⟨S1, .i32⟩
  | 24 => ⟨S_, .i32⟩
  | 25 => ⟨S1024x64x1x1, .i32⟩
  | 26 => ⟨S1024x64x1x1, .i1⟩
  | 27 => ⟨S1x1x1x1, .i32⟩
  | 28 => ⟨S1024x64x1x1, .i32⟩
  | 29 => ⟨S1024x64x1x1, .i1⟩
  | 30 => ⟨S1024x64x1x1, .i1⟩
  | 31 => ⟨S_, .i1⟩
  | 32 => ⟨S1024x64x1, .i1⟩
  | 33 => ⟨S1024x64x1, .i32⟩
  | 34 => ⟨S_, .i32⟩
  | 35 => ⟨S1024x64x1, .i32⟩
  | 36 => ⟨S1024x64x1, .i32⟩
  | 37 => ⟨S1024x64, .i32⟩
  | 38 => ⟨S65536, .i32⟩
  | 39 => ⟨S_, .f32⟩
  | 40 => ⟨S2048x3, .f32⟩
  | 41 => ⟨S65536x1, .i32⟩
  | 42 => ⟨S2048x3, .f32⟩
  | 43 => ⟨S_, .f32⟩
  | 44 => ⟨S65536, .f32⟩
  | 45 => ⟨S_, .f32⟩
  | 46 => ⟨S2048, .f32⟩
  | 47 => ⟨S65536x1, .i32⟩
  | 48 => ⟨S2048, .f32⟩
  | 49 => ⟨S_, .f32⟩
  | 50 => ⟨S2048, .f32⟩
  | 51 => ⟨S2048, .f32⟩
  | 52 => ⟨S2048x1, .f32⟩
  | 53 => ⟨S2048x3, .f32⟩
  | 54 => ⟨S2048x3, .f32⟩
  | 55 => ⟨S2048x32x256, .f32⟩
  | 56 => ⟨S1024x64x256, .f32⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (tcTables nBuf tb) → BufTy
  | .hbm, ⟨i, _⟩ => hbmTy i
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_values : Ref sig .tc := ⟨.hbm, 71, rfl⟩
abbrev main_indices : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_c_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_cst_15 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_call1_v0 : Ref sig .tc := ⟨.hbm, 113, rfl⟩
abbrev main_call1_cst : Ref sig .tc := ⟨.hbm, 114, rfl⟩
abbrev main_call1_c : Ref sig .tc := ⟨.hbm, 115, rfl⟩
abbrev main_call1_v1_0 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_call2_c : Ref sig .tc := ⟨.hbm, 120, rfl⟩
abbrev main_call2_v0 : Ref sig .tc := ⟨.hbm, 121, rfl⟩
abbrev main_call2_v1 : Ref sig .tc := ⟨.hbm, 122, rfl⟩
abbrev main_call2_c_0 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_c_1 : Ref sig .tc := ⟨.hbm, 128, rfl⟩
abbrev main_call2_c_2 : Ref sig .tc := ⟨.hbm, 129, rfl⟩
abbrev main_call2_v6 : Ref sig .tc := ⟨.hbm, 130, rfl⟩
abbrev main_call2_v7 : Ref sig .tc := ⟨.hbm, 131, rfl⟩
abbrev main_call2_v8 : Ref sig .tc := ⟨.hbm, 132, rfl⟩
abbrev main_call2_v9 : Ref sig .tc := ⟨.hbm, 133, rfl⟩
abbrev main_call2_v10 : Ref sig .tc := ⟨.hbm, 134, rfl⟩
abbrev main_call2_v11 : Ref sig .tc := ⟨.hbm, 135, rfl⟩
abbrev main_call2_c_3 : Ref sig .tc := ⟨.hbm, 136, rfl⟩
abbrev main_call2_v12 : Ref sig .tc := ⟨.hbm, 137, rfl⟩
abbrev main_call2_v13 : Ref sig .tc := ⟨.hbm, 138, rfl⟩
abbrev main_call2_c_4 : Ref sig .tc := ⟨.hbm, 139, rfl⟩
abbrev main_call2_v14 : Ref sig .tc := ⟨.hbm, 140, rfl⟩
abbrev main_v83 : Ref sig .tc := ⟨.hbm, 141, rfl⟩
abbrev main_v84 : Ref sig .tc := ⟨.hbm, 142, rfl⟩
abbrev main_call3_c : Ref sig .tc := ⟨.hbm, 143, rfl⟩
abbrev main_call3_v0 : Ref sig .tc := ⟨.hbm, 144, rfl⟩
abbrev main_call3_v1 : Ref sig .tc := ⟨.hbm, 145, rfl⟩
abbrev main_call3_c_0 : Ref sig .tc := ⟨.hbm, 146, rfl⟩
abbrev main_call3_v2 : Ref sig .tc := ⟨.hbm, 147, rfl⟩
abbrev main_call3_v3 : Ref sig .tc := ⟨.hbm, 148, rfl⟩
abbrev main_call3_v4 : Ref sig .tc := ⟨.hbm, 149, rfl⟩
abbrev main_call3_v5 : Ref sig .tc := ⟨.hbm, 150, rfl⟩
abbrev main_call3_c_1 : Ref sig .tc := ⟨.hbm, 151, rfl⟩
abbrev main_call3_c_2 : Ref sig .tc := ⟨.hbm, 152, rfl⟩
abbrev main_call3_v6 : Ref sig .tc := ⟨.hbm, 153, rfl⟩
abbrev main_call3_v7 : Ref sig .tc := ⟨.hbm, 154, rfl⟩
abbrev main_call3_v8 : Ref sig .tc := ⟨.hbm, 155, rfl⟩
abbrev main_call3_v9 : Ref sig .tc := ⟨.hbm, 156, rfl⟩
abbrev main_call3_v10 : Ref sig .tc := ⟨.hbm, 157, rfl⟩
abbrev main_call3_v11 : Ref sig .tc := ⟨.hbm, 158, rfl⟩
abbrev main_call3_c_3 : Ref sig .tc := ⟨.hbm, 159, rfl⟩
abbrev main_call3_v12 : Ref sig .tc := ⟨.hbm, 160, rfl⟩
abbrev main_call3_v13 : Ref sig .tc := ⟨.hbm, 161, rfl⟩
abbrev main_call3_c_4 : Ref sig .tc := ⟨.hbm, 162, rfl⟩
abbrev main_call3_v14 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_cst_17 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_cst_18 : Ref sig .tc := ⟨.hbm, 171, rfl⟩
abbrev main_v91 : Ref sig .tc := ⟨.hbm, 172, rfl⟩
abbrev main_cst_19 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_cst_20 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩

abbrev nD : Nat := 1
abbrev τ : Topo := Topo.v7x

variable {F : FTy → Type} [FloatOps F]
-- ==== Proof.KernelIdeal.Base.lean ====
/- Call 0's launch: the tables read off the launch memory, the windows' blocks and the staging memrefs, over the
   kernel program. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__assign_body (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (spec0_18.stage ((cfg0 a).slots t 18)) (hstage0_18 (((cfg0 a).slots t 18).cast nbuf0_18)) (spec0_19.stage ((cfg0 a).slots t 19)) (hstage0_19 (((cfg0 a).slots t 19).cast nbuf0_19)) (spec0_20.stage ((cfg0 a).slots t 20)) (hstage0_20 (((cfg0 a).slots t 20).cast nbuf0_20)) (spec0_21.stage ((cfg0 a).slots t 21)) (hstage0_21 (((cfg0 a).slots t 21).cast nbuf0_21)) (spec0_22.stage ((cfg0 a).slots t 22)) (hstage0_22 (((cfg0 a).slots t 22).cast nbuf0_22)) (spec0_23.stage ((cfg0 a).slots t 23)) (hstage0_23 (((cfg0 a).slots t 23).cast nbuf0_23)) (spec0_24.stage ((cfg0 a).slots t 24)) (hstage0_24 (((cfg0 a).slots t 24).cast nbuf0_24)) (spec0_25.stage ((cfg0 a).slots t 25)) (hstage0_25 (((cfg0 a).slots t 25).cast nbuf0_25)) (spec0_26.stage ((cfg0 a).slots t 26)) (hstage0_26 (((cfg0 a).slots t 26).cast nbuf0_26)) (spec0_27.stage ((cfg0 a).slots t 27)) (hstage0_27 (((cfg0 a).slots t 27).cast nbuf0_27)) (spec0_28.stage ((cfg0 a).slots t 28)) (hstage0_28 (((cfg0 a).slots t 28).cast nbuf0_28)) (spec0_29.stage ((cfg0 a).slots t 29)) (hstage0_29 (((cfg0 a).slots t 29).cast nbuf0_29)) (spec0_30.stage ((cfg0 a).slots t 30)) (hstage0_30 (((cfg0 a).slots t 30).cast nbuf0_30)) (spec0_31.stage ((cfg0 a).slots t 31)) (hstage0_31 (((cfg0 a).slots t 31).cast nbuf0_31)) (spec0_32.stage ((cfg0 a).slots t 32)) (hstage0_32 (((cfg0 a).slots t 32).cast nbuf0_32)) (spec0_33.stage ((cfg0 a).slots t 33)) (hstage0_33 (((cfg0 a).slots t 33).cast nbuf0_33)) (spec0_34.stage ((cfg0 a).slots t 34)) (hstage0_34 (((cfg0 a).slots t 34).cast nbuf0_34)) (spec0_35.stage ((cfg0 a).slots t 35)) (hstage0_35 (((cfg0 a).slots t 35).cast nbuf0_35)) (spec0_36.stage ((cfg0 a).slots t 36)) (hstage0_36 (((cfg0 a).slots t 36).cast nbuf0_36)) (spec0_37.stage ((cfg0 a).slots t 37)) (hstage0_37 (((cfg0 a).slots t 37).cast nbuf0_37)) (spec0_38.stage ((cfg0 a).slots t 38)) (hstage0_38 (((cfg0 a).slots t 38).cast nbuf0_38)) (spec0_39.stage ((cfg0 a).slots t 39)) (hstage0_39 (((cfg0 a).slots t 39).cast nbuf0_39)) (spec0_40.stage ((cfg0 a).slots t 40)) (hstage0_40 (((cfg0 a).slots t 40).cast nbuf0_40))

variable (m : (ℓ : Loc nD τ sig) → Buf (Elt F) ℓ) (ρ : Dev nD → PrngReg)

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm0 (hO : Ok m) : (pcfg0 (F := F)).Adm := ⟨tbl m, hO⟩
abbrev cfgM (hO : Ok m) : Pipeline.Cfg sig Λ₀ := cfg0 (adm0 m hO)

/-- Each table as the body is handed it: its whole buffer as a memref, and that memref's wholeness. -/
abbrev tbM0_0 : Memref sig .tc .smem S1024 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare} f

/-- The tables' halves the region hands the body (Lib/Pipeline/Frame.lean `ΦT`), table by table: what the body
    obligation hands the run and takes back. -/
theorem PhiT0_eq (c : Dev nD) : (Pipeline.prefHeld (Ix := Unit) (Name := ℕ) (U := UR sig nD τ) (Lvl := ℕ) pre0 c (fun _ => fullShare) (tbl m) : sProp 𝕄) = iprop(tbPt0 c tbM0_0 (tbl m 0)) := by
  unfold Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

section
variable {m} {hO : Ok m} {c : Dev nD} (dat : Dat τ (Elt F) Unit ℕ (UR sig nD τ) ℕ (cfgM m hO) c)
theorem before0_0_of (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of (hA : dat.A 13 = V m c (Pipeline.arrRef spec0 13))
    (hafter : ∀ t, dat.after 13 t = iblk m hO c 13 t) (t : Fin (cfgM m hO).N) (d) : dat.before 13 t d = iblk m hO c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of (hA : dat.A 14 = V m c (Pipeline.arrRef spec0 14))
    (hafter : ∀ t, dat.after 14 t = iblk m hO c 14 t) (t : Fin (cfgM m hO).N) (d) : dat.before 14 t d = iblk m hO c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of (hA : dat.A 15 = V m c (Pipeline.arrRef spec0 15))
    (hafter : ∀ t, dat.after 15 t = iblk m hO c 15 t) (t : Fin (cfgM m hO).N) (d) : dat.before 15 t d = iblk m hO c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of (hA : dat.A 16 = V m c (Pipeline.arrRef spec0 16))
    (hafter : ∀ t, dat.after 16 t = iblk m hO c 16 t) (t : Fin (cfgM m hO).N) (d) : dat.before 16 t d = iblk m hO c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of (hA : dat.A 17 = V m c (Pipeline.arrRef spec0 17))
    (hafter : ∀ t, dat.after 17 t = iblk m hO c 17 t) (t : Fin (cfgM m hO).N) (d) : dat.before 17 t d = iblk m hO c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of (hA : dat.A 18 = V m c (Pipeline.arrRef spec0 18))
    (hafter : ∀ t, dat.after 18 t = iblk m hO c 18 t) (t : Fin (cfgM m hO).N) (d) : dat.before 18 t d = iblk m hO c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of (hA : dat.A 19 = V m c (Pipeline.arrRef spec0 19))
    (hafter : ∀ t, dat.after 19 t = iblk m hO c 19 t) (t : Fin (cfgM m hO).N) (d) : dat.before 19 t d = iblk m hO c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of (hA : dat.A 20 = V m c (Pipeline.arrRef spec0 20))
    (hafter : ∀ t, dat.after 20 t = iblk m hO c 20 t) (t : Fin (cfgM m hO).N) (d) : dat.before 20 t d = iblk m hO c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of (hA : dat.A 21 = V m c (Pipeline.arrRef spec0 21))
    (hafter : ∀ t, dat.after 21 t = iblk m hO c 21 t) (t : Fin (cfgM m hO).N) (d) : dat.before 21 t d = iblk m hO c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of (hA : dat.A 22 = V m c (Pipeline.arrRef spec0 22))
    (hafter : ∀ t, dat.after 22 t = iblk m hO c 22 t) (t : Fin (cfgM m hO).N) (d) : dat.before 22 t d = iblk m hO c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before0_23_of (hA : dat.A 23 = V m c (Pipeline.arrRef spec0 23))
    (hafter : ∀ t, dat.after 23 t = iblk m hO c 23 t) (t : Fin (cfgM m hO).N) (d) : dat.before 23 t d = iblk m hO c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before0_24_of (hA : dat.A 24 = V m c (Pipeline.arrRef spec0 24))
    (hafter : ∀ t, dat.after 24 t = iblk m hO c 24 t) (t : Fin (cfgM m hO).N) (d) : dat.before 24 t d = iblk m hO c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
theorem before0_25_of (hA : dat.A 25 = V m c (Pipeline.arrRef spec0 25))
    (hafter : ∀ t, dat.after 25 t = iblk m hO c 25 t) (t : Fin (cfgM m hO).N) (d) : dat.before 25 t d = iblk m hO c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
theorem before0_26_of (hA : dat.A 26 = V m c (Pipeline.arrRef spec0 26))
    (hafter : ∀ t, dat.after 26 t = iblk m hO c 26 t) (t : Fin (cfgM m hO).N) (d) : dat.before 26 t d = iblk m hO c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)
theorem before0_27_of (hA : dat.A 27 = V m c (Pipeline.arrRef spec0 27))
    (hafter : ∀ t, dat.after 27 t = iblk m hO c 27 t) (t : Fin (cfgM m hO).N) (d) : dat.before 27 t d = iblk m hO c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)
theorem before0_28_of (hA : dat.A 28 = V m c (Pipeline.arrRef spec0 28))
    (hafter : ∀ t, dat.after 28 t = iblk m hO c 28 t) (t : Fin (cfgM m hO).N) (d) : dat.before 28 t d = iblk m hO c 28 t :=
  (dat.before_in_eq_fetched 28 rfl (fun _ => rfl) (fun _ _ _ => rfl) (fun t => by rw [hafter]; unfold Dat.blockOf iblk; rw [hA]; try rfl) t d).trans
    (by unfold Dat.fetched Dat.blockOf iblk; rw [hA]; try rfl)
theorem before0_29_of (hA : dat.A 29 = V m c (Pipeline.arrRef spec0 29))
    (hafter : ∀ t, dat.after 29 t = iblk m hO c 29 t) (t : Fin (cfgM m hO).N) (d) : dat.before 29 t d = iblk m hO c 29 t :=
  (dat.before_in_eq_fetched 29 rfl (fun _ => rfl) (fun _ _ _ => rfl) (fun t => by rw [hafter]; unfold Dat.blockOf iblk; rw [hA]; try rfl) t d).trans
    (by unfold Dat.fetched Dat.blockOf iblk; rw [hA]; try rfl)
theorem before0_30_of (hA : dat.A 30 = V m c (Pipeline.arrRef spec0 30))
    (hafter : ∀ t, dat.after 30 t = iblk m hO c 30 t) (t : Fin (cfgM m hO).N) (d) : dat.before 30 t d = iblk m hO c 30 t :=
  (dat.before_in_eq_fetched 30 rfl (fun _ => rfl) (fun _ _ _ => rfl) (fun t => by rw [hafter]; unfold Dat.blockOf iblk; rw [hA]; try rfl) t d).trans
    (by unfold Dat.fetched Dat.blockOf iblk; rw [hA]; try rfl)
theorem before0_31_of (hA : dat.A 31 = V m c (Pipeline.arrRef spec0 31))
    (hafter : ∀ t, dat.after 31 t = iblk m hO c 31 t) (t : Fin (cfgM m hO).N) (d) : dat.before 31 t d = iblk m hO c 31 t :=
  (dat.before_in_eq_fetched 31 rfl (fun _ => rfl) (fun _ _ _ => rfl) (fun t => by rw [hafter]; unfold Dat.blockOf iblk; rw [hA]; try rfl) t d).trans
    (by unfold Dat.fetched Dat.blockOf iblk; rw [hA]; try rfl)
theorem before0_32_of (hA : dat.A 32 = V m c (Pipeline.arrRef spec0 32))
    (hafter : ∀ t, dat.after 32 t = iblk m hO c 32 t) (t : Fin (cfgM m hO).N) (d) : dat.before 32 t d = iblk m hO c 32 t :=
  (dat.before_in_eq_fetched 32 rfl (fun _ => rfl) (fun _ _ _ => rfl) (fun t => by rw [hafter]; unfold Dat.blockOf iblk; rw [hA]; try rfl) t d).trans
    (by unfold Dat.fetched Dat.blockOf iblk; rw [hA]; try rfl)
theorem before0_33_of (hA : dat.A 33 = V m c (Pipeline.arrRef spec0 33))
    (hafter : ∀ t, dat.after 33 t = iblk m hO c 33 t) (t : Fin (cfgM m hO).N) (d) : dat.before 33 t d = iblk m hO c 33 t :=
  (dat.before_in_eq_fetched 33 rfl (fun _ => rfl) (fun _ _ _ => rfl) (fun t => by rw [hafter]; unfold Dat.blockOf iblk; rw [hA]; try rfl) t d).trans
    (by unfold Dat.fetched Dat.blockOf iblk; rw [hA]; try rfl)
theorem before0_34_of (hA : dat.A 34 = V m c (Pipeline.arrRef spec0 34))
    (hafter : ∀ t, dat.after 34 t = iblk m hO c 34 t) (t : Fin (cfgM m hO).N) (d) : dat.before 34 t d = iblk m hO c 34 t :=
  (dat.before_in_eq_fetched 34 rfl (fun _ => rfl) (fun _ _ _ => rfl) (fun t => by rw [hafter]; unfold Dat.blockOf iblk; rw [hA]; try rfl) t d).trans
    (by unfold Dat.fetched Dat.blockOf iblk; rw [hA]; try rfl)
theorem before0_35_of (hA : dat.A 35 = V m c (Pipeline.arrRef spec0 35))
    (hafter : ∀ t, dat.after 35 t = iblk m hO c 35 t) (t : Fin (cfgM m hO).N) (d) : dat.before 35 t d = iblk m hO c 35 t :=
  (dat.before_in_eq_fetched 35 rfl (fun _ => rfl) (fun _ _ _ => rfl) (fun t => by rw [hafter]; unfold Dat.blockOf iblk; rw [hA]; try rfl) t d).trans
    (by unfold Dat.fetched Dat.blockOf iblk; rw [hA]; try rfl)
theorem before0_36_of (hA : dat.A 36 = V m c (Pipeline.arrRef spec0 36))
    (hafter : ∀ t, dat.after 36 t = iblk m hO c 36 t) (t : Fin (cfgM m hO).N) (d) : dat.before 36 t d = iblk m hO c 36 t :=
  (dat.before_in_eq_fetched 36 rfl (fun _ => rfl) (fun _ _ _ => rfl) (fun t => by rw [hafter]; unfold Dat.blockOf iblk; rw [hA]; try rfl) t d).trans
    (by unfold Dat.fetched Dat.blockOf iblk; rw [hA]; try rfl)
end

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S32x64x256 .f32 := spec0_0.stage ((cfgM m hO).slots t 0)
abbrev ms0_1 (hO : Ok m) (t : Fin (cfgM m hO).N) : Memref sig .tc .vmem S32x64x3 .f32 := spec0_1.stage ((cfgM m hO).slots t 1)
abbrev ms0_2 (hO : Ok m) (t : Fin (cfgM m hO).N) : Memref sig .tc .vmem S2048x256 .f32 := spec0_2.stage ((cfgM m hO).slots t 2)
abbrev ms0_3 (hO : Ok m) (t : Fin (cfgM m hO).N) : Memref sig .tc .vmem S1x1x256 .f32 := spec0_3.stage ((cfgM m hO).slots t 3)
abbrev ms0_4 (hO : Ok m) (t : Fin (cfgM m hO).N) : Memref sig .tc .vmem S1x1x256 .f32 := spec0_4.stage ((cfgM m hO).slots t 4)
abbrev ms0_5 (hO : Ok m) (t : Fin (cfgM m hO).N) : Memref sig .tc .vmem S1x1x256 .f32 := spec0_5.stage ((cfgM m hO).slots t 5)
abbrev ms0_6 (hO : Ok m) (t : Fin (cfgM m hO).N) : Memref sig .tc .vmem S1x1x256 .f32 := spec0_6.stage ((cfgM m hO).slots t 6)
abbrev ms0_7 (hO : Ok m) (t : Fin (cfgM m hO).N) : Memref sig .tc .vmem S1x1x256 .f32 := spec0_7.stage ((cfgM m hO).slots t 7)
abbrev ms0_8 (hO : Ok m) (t : Fin (cfgM m hO).N) : Memref sig .tc .vmem S1x1x256 .f32 := spec0_8.stage ((cfgM m hO).slots t 8)
abbrev ms0_9 (hO : Ok m) (t : Fin (cfgM m hO).N) : Memref sig .tc .vmem S1x1x256 .f32 := spec0_9.stage ((cfgM m hO).slots t 9)
abbrev ms0_10 (hO : Ok m) (t : Fin (cfgM m hO).N) : Memref sig .tc .vmem S1x1x256 .f32 := spec0_10.stage ((cfgM m hO).slots t 10)
abbrev ms0_11 (hO : Ok m) (t : Fin (cfgM m hO).N) : Memref sig .tc .vmem S1x1x256 .f32 := spec0_11.stage ((cfgM m hO).slots t 11)
abbrev ms0_12 (hO : Ok m) (t : Fin (cfgM m hO).N) : Memref sig .tc .vmem S1x1x256 .f32 := spec0_12.stage ((cfgM m hO).slots t 12)
abbrev ms0_13 (hO : Ok m) (t : Fin (cfgM m hO).N) : Memref sig .tc .vmem S1x1x256 .f32 := spec0_13.stage ((cfgM m hO).slots t 13)
abbrev ms0_14 (hO : Ok m) (t : Fin (cfgM m hO).N) : Memref sig .tc .vmem S1x1x256 .f32 := spec0_14.stage ((cfgM m hO).slots t 14)
abbrev ms0_15 (hO : Ok m) (t : Fin (cfgM m hO).N) : Memref sig .tc .vmem S1x1x256 .f32 := spec0_15.stage ((cfgM m hO).slots t 15)
abbrev ms0_16 (hO : Ok m) (t : Fin (cfgM m hO).N) : Memref sig .tc .vmem S1x1x256 .f32 := spec0_16.stage ((cfgM m hO).slots t 16)
abbrev ms0_17 (hO : Ok m) (t : Fin (cfgM m hO).N) : Memref sig .tc .vmem S1x1x256 .f32 := spec0_17.stage ((cfgM m hO).slots t 17)
abbrev ms0_18 (hO : Ok m) (t : Fin (cfgM m hO).N) : Memref sig .tc .vmem S1x1x256 .f32 := spec0_18.stage ((cfgM m hO).slots t 18)
abbrev ms0_19 (hO : Ok m) (t : Fin (cfgM m hO).N) : Memref sig .tc .vmem S1x1x256 .f32 := spec0_19.stage ((cfgM m hO).slots t 19)
abbrev ms0_20 (hO : Ok m) (t : Fin (cfgM m hO).N) : Memref sig .tc .vmem S1x1x256 .f32 := spec0_20.stage ((cfgM m hO).slots t 20)
abbrev ms0_21 (hO : Ok m) (t : Fin (cfgM m hO).N) : Memref sig .tc .vmem S1x1x256 .f32 := spec0_21.stage ((cfgM m hO).slots t 21)
abbrev ms0_22 (hO : Ok m) (t : Fin (cfgM m hO).N) : Memref sig .tc .vmem S1x1x256 .f32 := spec0_22.stage ((cfgM m hO).slots t 22)
abbrev ms0_23 (hO : Ok m) (t : Fin (cfgM m hO).N) : Memref sig .tc .vmem S1x1x256 .f32 := spec0_23.stage ((cfgM m hO).slots t 23)
abbrev ms0_24 (hO : Ok m) (t : Fin (cfgM m hO).N) : Memref sig .tc .vmem S1x1x256 .f32 := spec0_24.stage ((cfgM m hO).slots t 24)
abbrev ms0_25 (hO : Ok m) (t : Fin (cfgM m hO).N) : Memref sig .tc .vmem S1x1x256 .f32 := spec0_25.stage ((cfgM m hO).slots t 25)
abbrev ms0_26 (hO : Ok m) (t : Fin (cfgM m hO).N) : Memref sig .tc .vmem S1x1x256 .f32 := spec0_26.stage ((cfgM m hO).slots t 26)
abbrev ms0_27 (hO : Ok m) (t : Fin (cfgM m hO).N) : Memref sig .tc .vmem S1x1x256 .f32 := spec0_27.stage ((cfgM m hO).slots t 27)
abbrev ms0_28 (hO : Ok m) (t : Fin (cfgM m hO).N) : Memref sig .tc .vmem S1x1x256 .f32 := spec0_28.stage ((cfgM m hO).slots t 28)
abbrev ms0_29 (hO : Ok m) (t : Fin (cfgM m hO).N) : Memref sig .tc .vmem S1x1x256 .f32 := spec0_29.stage ((cfgM m hO).slots t 29)
abbrev ms0_30 (hO : Ok m) (t : Fin (cfgM m hO).N) : Memref sig .tc .vmem S1x1x256 .f32 := spec0_30.stage ((cfgM m hO).slots t 30)
abbrev ms0_31 (hO : Ok m) (t : Fin (cfgM m hO).N) : Memref sig .tc .vmem S1x1x256 .f32 := spec0_31.stage ((cfgM m hO).slots t 31)
abbrev ms0_32 (hO : Ok m) (t : Fin (cfgM m hO).N) : Memref sig .tc .vmem S1x1x256 .f32 := spec0_32.stage ((cfgM m hO).slots t 32)
abbrev ms0_33 (hO : Ok m) (t : Fin (cfgM m hO).N) : Memref sig .tc .vmem S1x1x256 .f32 := spec0_33.stage ((cfgM m hO).slots t 33)
abbrev ms0_34 (hO : Ok m) (t : Fin (cfgM m hO).N) : Memref sig .tc .vmem S1x1x256 .f32 := spec0_34.stage ((cfgM m hO).slots t 34)
abbrev ms0_35 (hO : Ok m) (t : Fin (cfgM m hO).N) : Memref sig .tc .vmem S1x1x256 .f32 := spec0_35.stage ((cfgM m hO).slots t 35)
abbrev ms0_36 (hO : Ok m) (t : Fin (cfgM m hO).N) : Memref sig .tc .vmem S1x1x256 .f32 := spec0_36.stage ((cfgM m hO).slots t 36)
abbrev ms0_37 (hO : Ok m) (t : Fin (cfgM m hO).N) : Memref sig .tc .vmem S1x1x2048 .i32 := spec0_37.stage ((cfgM m hO).slots t 37)
abbrev ms0_38 (hO : Ok m) (t : Fin (cfgM m hO).N) : Memref sig .tc .vmem S1x96x5 .f32 := spec0_38.stage ((cfgM m hO).slots t 38)
abbrev ms0_39 (hO : Ok m) (t : Fin (cfgM m hO).N) : Memref sig .tc .vmem S32x64x256 .f32 := spec0_39.stage ((cfgM m hO).slots t 39)
abbrev ms0_40 (hO : Ok m) (t : Fin (cfgM m hO).N) : Memref sig .tc .vmem S64x32x256 .f32 := spec0_40.stage ((cfgM m hO).slots t 40)

end Cert.KernelIdeal.Own

end
-- ==== Proof.KernelIdeal.Body.lean ====
/- What call 0's body computes at one grid point: every value of the printed body as a function of the blocks the point
   works on, the 34 gathered rows and the prefetched table. -/
module

public import proofs.«01_k».proof.Proof.KernelIdeal.Base

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD}

/-- What the body reads: its grid point, the three blocks, the 34 gathered rows and the table. -/
structure In (F : FTy → Type) [FloatOps F] (c : Dev nD) where
  i : grid0.Coords
  x0 : Vec F S32x64x256 .f32
  x1 : Vec F S32x64x3 .f32
  x2 : Vec F S2048x256 .f32
  g0 : Vec F S1x1x256 .f32
  g1 : Vec F S1x1x256 .f32
  g2 : Vec F S1x1x256 .f32
  g3 : Vec F S1x1x256 .f32
  g4 : Vec F S1x1x256 .f32
  g5 : Vec F S1x1x256 .f32
  g6 : Vec F S1x1x256 .f32
  g7 : Vec F S1x1x256 .f32
  g8 : Vec F S1x1x256 .f32
  g9 : Vec F S1x1x256 .f32
  g10 : Vec F S1x1x256 .f32
  g11 : Vec F S1x1x256 .f32
  g12 : Vec F S1x1x256 .f32
  g13 : Vec F S1x1x256 .f32
  g14 : Vec F S1x1x256 .f32
  g15 : Vec F S1x1x256 .f32
  g16 : Vec F S1x1x256 .f32
  g17 : Vec F S1x1x256 .f32
  g18 : Vec F S1x1x256 .f32
  g19 : Vec F S1x1x256 .f32
  g20 : Vec F S1x1x256 .f32
  g21 : Vec F S1x1x256 .f32
  g22 : Vec F S1x1x256 .f32
  g23 : Vec F S1x1x256 .f32
  g24 : Vec F S1x1x256 .f32
  g25 : Vec F S1x1x256 .f32
  g26 : Vec F S1x1x256 .f32
  g27 : Vec F S1x1x256 .f32
  g28 : Vec F S1x1x256 .f32
  g29 : Vec F S1x1x256 .f32
  g30 : Vec F S1x1x256 .f32
  g31 : Vec F S1x1x256 .f32
  g32 : Vec F S1x1x256 .f32
  g33 : Vec F S1x1x256 .f32
  tb : TbBuf0 (F := F) c tbM0_0

def v_arg0 (I : In F c) : BitVec 32 := BitVec.ofNat 32 (I.i 0).val
def v0 (I : In F c) : Vec F S2048x256 .f32 := View.ld I.x2 (Rect.unit (s := S2048x256) ![0, 0] S2048x256.size inb_S2048x256_S2048x256_0_0)
def v5 (I : In F c) : Vec F S32x64x256 .f32 := View.ld I.x0 (Rect.unit (s := S32x64x256) ![0, 0, 0] S32x64x256.size inb_S32x64x256_S32x64x256_0_0_0)
def v7 (I : In F c) : Vec F S1x1x256 .f32 := View.ld I.g0 (Rect.unit (s := S1x1x256) ![0, 0, 0] S1x1x256.size inb_S1x1x256_S1x1x256_0_0_0)
def v9 (I : In F c) : Vec F S1x1x256 .f32 := View.ld I.g1 (Rect.unit (s := S1x1x256) ![0, 0, 0] S1x1x256.size inb_S1x1x256_S1x1x256_0_0_0)
def v11 (I : In F c) : Vec F S1x1x256 .f32 := View.ld I.g2 (Rect.unit (s := S1x1x256) ![0, 0, 0] S1x1x256.size inb_S1x1x256_S1x1x256_0_0_0)
def v13 (I : In F c) : Vec F S1x1x256 .f32 := View.ld I.g3 (Rect.unit (s := S1x1x256) ![0, 0, 0] S1x1x256.size inb_S1x1x256_S1x1x256_0_0_0)
def v15 (I : In F c) : Vec F S1x1x256 .f32 := View.ld I.g4 (Rect.unit (s := S1x1x256) ![0, 0, 0] S1x1x256.size inb_S1x1x256_S1x1x256_0_0_0)
def v17 (I : In F c) : Vec F S1x1x256 .f32 := View.ld I.g5 (Rect.unit (s := S1x1x256) ![0, 0, 0] S1x1x256.size inb_S1x1x256_S1x1x256_0_0_0)
def v19 (I : In F c) : Vec F S1x1x256 .f32 := View.ld I.g6 (Rect.unit (s := S1x1x256) ![0, 0, 0] S1x1x256.size inb_S1x1x256_S1x1x256_0_0_0)
def v21 (I : In F c) : Vec F S1x1x256 .f32 := View.ld I.g7 (Rect.unit (s := S1x1x256) ![0, 0, 0] S1x1x256.size inb_S1x1x256_S1x1x256_0_0_0)
def v6 (I : In F c) : FVec F S2048x256 .f32 := k0_pay4 (v5 I)
def v8 (I : In F c) : FVec F S1x256 .f32 := k0_pay5 (v7 I)
def v10 (I : In F c) : FVec F S1x256 .f32 := k0_pay6 (v9 I)
def v12 (I : In F c) : FVec F S1x256 .f32 := k0_pay7 (v11 I)
def v14 (I : In F c) : FVec F S1x256 .f32 := k0_pay8 (v13 I)
def v16 (I : In F c) : FVec F S1x256 .f32 := k0_pay9 (v15 I)
def v18 (I : In F c) : FVec F S1x256 .f32 := k0_pay10 (v17 I)
def v20 (I : In F c) : FVec F S1x256 .f32 := k0_pay11 (v19 I)
def v23 (I : In F c) : Vec F S1x1x256 .f32 := View.ld I.g8 (Rect.unit (s := S1x1x256) ![0, 0, 0] S1x1x256.size inb_S1x1x256_S1x1x256_0_0_0)
def v25 (I : In F c) : Vec F S1x1x256 .f32 := View.ld I.g9 (Rect.unit (s := S1x1x256) ![0, 0, 0] S1x1x256.size inb_S1x1x256_S1x1x256_0_0_0)
def v27 (I : In F c) : Vec F S1x1x256 .f32 := View.ld I.g10 (Rect.unit (s := S1x1x256) ![0, 0, 0] S1x1x256.size inb_S1x1x256_S1x1x256_0_0_0)
def v29 (I : In F c) : Vec F S1x1x256 .f32 := View.ld I.g11 (Rect.unit (s := S1x1x256) ![0, 0, 0] S1x1x256.size inb_S1x1x256_S1x1x256_0_0_0)
def v31 (I : In F c) : Vec F S1x1x256 .f32 := View.ld I.g12 (Rect.unit (s := S1x1x256) ![0, 0, 0] S1x1x256.size inb_S1x1x256_S1x1x256_0_0_0)
def v33 (I : In F c) : Vec F S1x1x256 .f32 := View.ld I.g13 (Rect.unit (s := S1x1x256) ![0, 0, 0] S1x1x256.size inb_S1x1x256_S1x1x256_0_0_0)
def v35 (I : In F c) : Vec F S1x1x256 .f32 := View.ld I.g14 (Rect.unit (s := S1x1x256) ![0, 0, 0] S1x1x256.size inb_S1x1x256_S1x1x256_0_0_0)
def v37 (I : In F c) : Vec F S1x1x256 .f32 := View.ld I.g15 (Rect.unit (s := S1x1x256) ![0, 0, 0] S1x1x256.size inb_S1x1x256_S1x1x256_0_0_0)
def v39 (I : In F c) : Vec F S1x1x256 .f32 := View.ld I.g16 (Rect.unit (s := S1x1x256) ![0, 0, 0] S1x1x256.size inb_S1x1x256_S1x1x256_0_0_0)
def v41 (I : In F c) : Vec F S1x1x256 .f32 := View.ld I.g17 (Rect.unit (s := S1x1x256) ![0, 0, 0] S1x1x256.size inb_S1x1x256_S1x1x256_0_0_0)
def v43 (I : In F c) : Vec F S1x1x256 .f32 := View.ld I.g18 (Rect.unit (s := S1x1x256) ![0, 0, 0] S1x1x256.size inb_S1x1x256_S1x1x256_0_0_0)
def v45 (I : In F c) : Vec F S1x1x256 .f32 := View.ld I.g19 (Rect.unit (s := S1x1x256) ![0, 0, 0] S1x1x256.size inb_S1x1x256_S1x1x256_0_0_0)
def v22 (I : In F c) : FVec F S1x256 .f32 := k0_pay12 (v21 I)
def v24 (I : In F c) : FVec F S1x256 .f32 := k0_pay13 (v23 I)
def v26 (I : In F c) : FVec F S1x256 .f32 := k0_pay14 (v25 I)
def v28 (I : In F c) : FVec F S1x256 .f32 := k0_pay15 (v27 I)
def v30 (I : In F c) : FVec F S1x256 .f32 := k0_pay16 (v29 I)
def v32 (I : In F c) : FVec F S1x256 .f32 := k0_pay17 (v31 I)
def v34 (I : In F c) : FVec F S1x256 .f32 := k0_pay18 (v33 I)
def v36 (I : In F c) : FVec F S1x256 .f32 := k0_pay19 (v35 I)
def v38 (I : In F c) : FVec F S1x256 .f32 := k0_pay20 (v37 I)
def v40 (I : In F c) : FVec F S1x256 .f32 := k0_pay21 (v39 I)
def v42 (I : In F c) : FVec F S1x256 .f32 := k0_pay22 (v41 I)
def v44 (I : In F c) : FVec F S1x256 .f32 := k0_pay23 (v43 I)
def v47 (I : In F c) : Vec F S1x1x256 .f32 := View.ld I.g20 (Rect.unit (s := S1x1x256) ![0, 0, 0] S1x1x256.size inb_S1x1x256_S1x1x256_0_0_0)
def v49 (I : In F c) : Vec F S1x1x256 .f32 := View.ld I.g21 (Rect.unit (s := S1x1x256) ![0, 0, 0] S1x1x256.size inb_S1x1x256_S1x1x256_0_0_0)
def v51 (I : In F c) : Vec F S1x1x256 .f32 := View.ld I.g22 (Rect.unit (s := S1x1x256) ![0, 0, 0] S1x1x256.size inb_S1x1x256_S1x1x256_0_0_0)
def v53 (I : In F c) : Vec F S1x1x256 .f32 := View.ld I.g23 (Rect.unit (s := S1x1x256) ![0, 0, 0] S1x1x256.size inb_S1x1x256_S1x1x256_0_0_0)
def v55 (I : In F c) : Vec F S1x1x256 .f32 := View.ld I.g24 (Rect.unit (s := S1x1x256) ![0, 0, 0] S1x1x256.size inb_S1x1x256_S1x1x256_0_0_0)
def v57 (I : In F c) : Vec F S1x1x256 .f32 := View.ld I.g25 (Rect.unit (s := S1x1x256) ![0, 0, 0] S1x1x256.size inb_S1x1x256_S1x1x256_0_0_0)
def v59 (I : In F c) : Vec F S1x1x256 .f32 := View.ld I.g26 (Rect.unit (s := S1x1x256) ![0, 0, 0] S1x1x256.size inb_S1x1x256_S1x1x256_0_0_0)
def v61 (I : In F c) : Vec F S1x1x256 .f32 := View.ld I.g27 (Rect.unit (s := S1x1x256) ![0, 0, 0] S1x1x256.size inb_S1x1x256_S1x1x256_0_0_0)
def v63 (I : In F c) : Vec F S1x1x256 .f32 := View.ld I.g28 (Rect.unit (s := S1x1x256) ![0, 0, 0] S1x1x256.size inb_S1x1x256_S1x1x256_0_0_0)
def v65 (I : In F c) : Vec F S1x1x256 .f32 := View.ld I.g29 (Rect.unit (s := S1x1x256) ![0, 0, 0] S1x1x256.size inb_S1x1x256_S1x1x256_0_0_0)
def v67 (I : In F c) : Vec F S1x1x256 .f32 := View.ld I.g30 (Rect.unit (s := S1x1x256) ![0, 0, 0] S1x1x256.size inb_S1x1x256_S1x1x256_0_0_0)
def v69 (I : In F c) : Vec F S1x1x256 .f32 := View.ld I.g31 (Rect.unit (s := S1x1x256) ![0, 0, 0] S1x1x256.size inb_S1x1x256_S1x1x256_0_0_0)
def v46 (I : In F c) : FVec F S1x256 .f32 := k0_pay24 (v45 I)
def v48 (I : In F c) : FVec F S1x256 .f32 := k0_pay25 (v47 I)
def v50 (I : In F c) : FVec F S1x256 .f32 := k0_pay26 (v49 I)
def v52 (I : In F c) : FVec F S1x256 .f32 := k0_pay27 (v51 I)
def v54 (I : In F c) : FVec F S1x256 .f32 := k0_pay28 (v53 I)
def v56 (I : In F c) : FVec F S1x256 .f32 := k0_pay29 (v55 I)
def v58 (I : In F c) : FVec F S1x256 .f32 := k0_pay30 (v57 I)
def v60 (I : In F c) : FVec F S1x256 .f32 := k0_pay31 (v59 I)
def v62 (I : In F c) : FVec F S1x256 .f32 := k0_pay32 (v61 I)
def v64 (I : In F c) : FVec F S1x256 .f32 := k0_pay33 (v63 I)
def v66 (I : In F c) : FVec F S1x256 .f32 := k0_pay34 (v65 I)
def v68 (I : In F c) : FVec F S1x256 .f32 := k0_pay35 (v67 I)
def v71 (I : In F c) : Vec F S1x1x256 .f32 := View.ld I.g32 (Rect.unit (s := S1x1x256) ![0, 0, 0] S1x1x256.size inb_S1x1x256_S1x1x256_0_0_0)
def v73 (I : In F c) : Vec F S1x1x256 .f32 := View.ld I.g33 (Rect.unit (s := S1x1x256) ![0, 0, 0] S1x1x256.size inb_S1x1x256_S1x1x256_0_0_0)
def v86 (I : In F c) : FVec F S34x2048 .f32 := k0_pay36 (v6 I) (v8 I) (v10 I) (v12 I) (v14 I) (v16 I) (v18 I) (v20 I) (v22 I) (v24 I) (v26 I) (v28 I) (v30 I) (v32 I) (v34 I) (v36 I) (v38 I) (v40 I) (v42 I) (v44 I) (v46 I) (v48 I) (v50 I) (v52 I) (v54 I) (v56 I) (v58 I) (v60 I) (v62 I) (v64 I) (v66 I) (v68 I) (v69 I) (v71 I) (v73 I)
def v111 (I : In F c) : IVec S1x2048 32 := k0_pay37
def v112 (I : In F c) : IVec S1x2048 32 := k0_pay38
def v113 (I : In F c) : IVec S1x2048 1 := k0_pay39 (v111 I) (v112 I)
def v115 (I : In F c) : IVec S1x2048 1 := k0_pay40 (v111 I)
def v117 (I : In F c) : IVec S1x2048 1 := k0_pay41 (v111 I)
def v119 (I : In F c) : IVec S1x2048 1 := k0_pay42 (v111 I)
def v121 (I : In F c) : IVec S1x2048 1 := k0_pay43 (v111 I)
def v123 (I : In F c) : IVec S1x2048 1 := k0_pay44 (v111 I)
def v125 (I : In F c) : IVec S1x2048 1 := k0_pay45 (v111 I)
def v127 (I : In F c) : IVec S1x2048 1 := k0_pay46 (v111 I)
def v129 (I : In F c) : IVec S1x2048 1 := k0_pay47 (v111 I)
def v131 (I : In F c) : IVec S1x2048 1 := k0_pay48 (v111 I)
def v133 (I : In F c) : IVec S1x2048 1 := k0_pay49 (v111 I)
def v135 (I : In F c) : IVec S1x2048 1 := k0_pay50 (v111 I)
def v137 (I : In F c) : IVec S1x2048 1 := k0_pay51 (v111 I)
def v139 (I : In F c) : IVec S1x2048 1 := k0_pay52 (v111 I)
def v141 (I : In F c) : IVec S1x2048 1 := k0_pay53 (v111 I)
def v143 (I : In F c) : IVec S1x2048 1 := k0_pay54 (v111 I)
def v145 (I : In F c) : IVec S1x2048 1 := k0_pay55 (v111 I)
def v147 (I : In F c) : IVec S1x2048 1 := k0_pay56 (v111 I)
def v149 (I : In F c) : IVec S1x2048 1 := k0_pay57 (v111 I)
def v151 (I : In F c) : IVec S1x2048 1 := k0_pay58 (v111 I)
def v152 (I : In F c) : IVec S1x2048 32 := k0_pay59
def v153 (I : In F c) : IVec S1x2048 1 := k0_pay60 (v111 I) (v152 I)
def v155 (I : In F c) : IVec S1x2048 1 := k0_pay61 (v111 I)
def v157 (I : In F c) : IVec S1x2048 1 := k0_pay62 (v111 I)
def v159 (I : In F c) : IVec S1x2048 1 := k0_pay63 (v111 I)
def v161 (I : In F c) : IVec S1x2048 1 := k0_pay64 (v111 I)
def v163 (I : In F c) : IVec S1x2048 1 := k0_pay65 (v111 I)
def v165 (I : In F c) : IVec S1x2048 1 := k0_pay66 (v111 I)
def v167 (I : In F c) : IVec S1x2048 1 := k0_pay67 (v111 I)
def v169 (I : In F c) : IVec S1x2048 1 := k0_pay68 (v111 I)
def v171 (I : In F c) : IVec S1x2048 1 := k0_pay69 (v111 I)
def v173 (I : In F c) : IVec S1x2048 1 := k0_pay70 (v111 I)
def v175 (I : In F c) : IVec S1x2048 1 := k0_pay71 (v111 I)
def v192 (I : In F c) : FVec F S1x2048 .f32 := k0_pay72 (v86 I) (v113 I) (v115 I) (v117 I) (v119 I)
def v195 (I : In F c) : FVec F S1x2048 .f32 := k0_pay73 (v86 I) (v121 I)
def v240 (I : In F c) : FVec F S1x2048 .f32 := k0_pay74 (v86 I) (v123 I) (v125 I) (v127 I) (v129 I) (v131 I) (v133 I) (v135 I) (v137 I) (v139 I) (v141 I) (v143 I) (v192 I) (v195 I)
def v243 (I : In F c) : FVec F S1x2048 .f32 := k0_pay75 (v86 I) (v145 I)
def v288 (I : In F c) : FVec F S1x2048 .f32 := k0_pay76 (v86 I) (v147 I) (v149 I) (v151 I) (v153 I) (v155 I) (v157 I) (v159 I) (v161 I) (v163 I) (v165 I) (v167 I) (v240 I) (v243 I)
def v291 (I : In F c) : FVec F S1x2048 .f32 := k0_pay77 (v86 I) (v169 I)
def cst_162 : F .f32 := Scalar.ofBits .f32 0x00000000#32
def v304 (I : In F c) : FVec F S1x2048 .f32 := k0_pay78 (v86 I) (v171 I) (v173 I) (v175 I) (v288 I) (v291 I)
def v337 (I : In F c) : FVec F S1x2048 .f32 := k0_pay79 (v86 I) (v113 I) (v115 I) (v117 I) (v119 I) (v121 I) (v123 I) (v125 I) (v127 I)
def v338 (I : In F c) : FVec F S1x2048 .f32 := k0_pay80 (v86 I)
def cst_174 : F .f32 := Scalar.ofBits .f32 0x00000000#32
def v385 (I : In F c) : FVec F S1x2048 .f32 := k0_pay81 (v86 I) (v129 I) (v131 I) (v133 I) (v135 I) (v137 I) (v139 I) (v141 I) (v143 I) (v145 I) (v147 I) (v149 I) (v151 I) (v337 I) (v338 I) cst_162
def v386 (I : In F c) : FVec F S1x2048 .f32 := k0_pay82 (v86 I)
def v433 (I : In F c) : FVec F S1x2048 .f32 := k0_pay83 (v86 I) (v153 I) (v155 I) (v157 I) (v159 I) (v161 I) (v163 I) (v165 I) (v167 I) (v169 I) (v171 I) (v173 I) (v175 I) (v385 I) (v386 I) cst_174
def v434 (I : In F c) : FVec F S1x2048 .f32 := k0_pay84 (F := F)
def v482 (I : In F c) : FVec F S1x2048 .f32 := k0_pay85 (v86 I) (v113 I) (v115 I) (v117 I) (v119 I) (v121 I) (v123 I) (v125 I) (v127 I) (v129 I) (v131 I) (v133 I) (v135 I) (v434 I)
def v530 (I : In F c) : FVec F S1x2048 .f32 := k0_pay86 (v86 I) (v137 I) (v139 I) (v141 I) (v143 I) (v145 I) (v147 I) (v149 I) (v151 I) (v153 I) (v155 I) (v157 I) (v159 I) (v482 I)
def v571 (I : In F c) : BitVec 32 := Scalar.muli 32#32 (v_arg0 I)
def v572 (I : In F c) : BitVec 32 := Scalar.subi (v571 I) 1#32
def v573 (I : In F c) : BitVec 32 := Scalar.addi (v572 I) 0#32
def v574 (I : In F c) : BitVec 32 := Scalar.maxsi 0#32 (v573 I)
def v570 (I : In F c) : IVec S1x2048 32 := k0_pay87 (v86 I) (v161 I) (v163 I) (v165 I) (v167 I) (v169 I) (v171 I) (v173 I) (v175 I) (v304 I) (v433 I) (v530 I)
def c1023_i32 : BitVec 32 := 1023#32
def v577 (I : In F c) : Elt F .i32 := View.readAt (Elt F) tbM0_0.view (Rect.unit (s := S1024) (k0_off1 I.i 0#32) S1.size (k0_off1_inb I.i 0)).toLoadRect I.tb (Shape.Idx.first (numel1_S1.symm ▸ Nat.one_pos))
def v584 (I : In F c) : Elt F .i32 := View.readAt (Elt F) tbM0_0.view (Rect.unit (s := S1024) (k0_off1 I.i 1#32) S1.size (k0_off1_inb I.i 1)).toLoadRect I.tb (Shape.Idx.first (numel1_S1.symm ▸ Nat.one_pos))
def v591 (I : In F c) : Elt F .i32 := View.readAt (Elt F) tbM0_0.view (Rect.unit (s := S1024) (k0_off1 I.i 2#32) S1.size (k0_off1_inb I.i 2)).toLoadRect I.tb (Shape.Idx.first (numel1_S1.symm ▸ Nat.one_pos))
def v598 (I : In F c) : Elt F .i32 := View.readAt (Elt F) tbM0_0.view (Rect.unit (s := S1024) (k0_off1 I.i 3#32) S1.size (k0_off1_inb I.i 3)).toLoadRect I.tb (Shape.Idx.first (numel1_S1.symm ▸ Nat.one_pos))
def v605 (I : In F c) : Elt F .i32 := View.readAt (Elt F) tbM0_0.view (Rect.unit (s := S1024) (k0_off1 I.i 4#32) S1.size (k0_off1_inb I.i 4)).toLoadRect I.tb (Shape.Idx.first (numel1_S1.symm ▸ Nat.one_pos))
def v606 (I : In F c) : BitVec 32 := Scalar.muli 32#32 (v_arg0 I)
def v607 (I : In F c) : BitVec 32 := Scalar.subi (v606 I) 1#32
def v608 (I : In F c) : BitVec 32 := Scalar.addi (v607 I) 5#32
def v609 (I : In F c) : BitVec 32 := Scalar.maxsi 0#32 (v608 I)
def c1023_i32_249 : BitVec 32 := 1023#32
def v612 (I : In F c) : Elt F .i32 := View.readAt (Elt F) tbM0_0.view (Rect.unit (s := S1024) (k0_off1 I.i 5#32) S1.size (k0_off1_inb I.i 5)).toLoadRect I.tb (Shape.Idx.first (numel1_S1.symm ▸ Nat.one_pos))
def v619 (I : In F c) : Elt F .i32 := View.readAt (Elt F) tbM0_0.view (Rect.unit (s := S1024) (k0_off1 I.i 6#32) S1.size (k0_off1_inb I.i 6)).toLoadRect I.tb (Shape.Idx.first (numel1_S1.symm ▸ Nat.one_pos))
def v626 (I : In F c) : Elt F .i32 := View.readAt (Elt F) tbM0_0.view (Rect.unit (s := S1024) (k0_off1 I.i 7#32) S1.size (k0_off1_inb I.i 7)).toLoadRect I.tb (Shape.Idx.first (numel1_S1.symm ▸ Nat.one_pos))
def v633 (I : In F c) : Elt F .i32 := View.readAt (Elt F) tbM0_0.view (Rect.unit (s := S1024) (k0_off1 I.i 8#32) S1.size (k0_off1_inb I.i 8)).toLoadRect I.tb (Shape.Idx.first (numel1_S1.symm ▸ Nat.one_pos))
def v640 (I : In F c) : Elt F .i32 := View.readAt (Elt F) tbM0_0.view (Rect.unit (s := S1024) (k0_off1 I.i 9#32) S1.size (k0_off1_inb I.i 9)).toLoadRect I.tb (Shape.Idx.first (numel1_S1.symm ▸ Nat.one_pos))
def v641 (I : In F c) : BitVec 32 := Scalar.muli 32#32 (v_arg0 I)
def v642 (I : In F c) : BitVec 32 := Scalar.subi (v641 I) 1#32
def v643 (I : In F c) : BitVec 32 := Scalar.addi (v642 I) 10#32
def v644 (I : In F c) : BitVec 32 := Scalar.maxsi 0#32 (v643 I)
def c1023_i32_274 : BitVec 32 := 1023#32
def v647 (I : In F c) : Elt F .i32 := View.readAt (Elt F) tbM0_0.view (Rect.unit (s := S1024) (k0_off1 I.i 10#32) S1.size (k0_off1_inb I.i 10)).toLoadRect I.tb (Shape.Idx.first (numel1_S1.symm ▸ Nat.one_pos))
def v654 (I : In F c) : Elt F .i32 := View.readAt (Elt F) tbM0_0.view (Rect.unit (s := S1024) (k0_off1 I.i 11#32) S1.size (k0_off1_inb I.i 11)).toLoadRect I.tb (Shape.Idx.first (numel1_S1.symm ▸ Nat.one_pos))
def v661 (I : In F c) : Elt F .i32 := View.readAt (Elt F) tbM0_0.view (Rect.unit (s := S1024) (k0_off1 I.i 12#32) S1.size (k0_off1_inb I.i 12)).toLoadRect I.tb (Shape.Idx.first (numel1_S1.symm ▸ Nat.one_pos))
def v668 (I : In F c) : Elt F .i32 := View.readAt (Elt F) tbM0_0.view (Rect.unit (s := S1024) (k0_off1 I.i 13#32) S1.size (k0_off1_inb I.i 13)).toLoadRect I.tb (Shape.Idx.first (numel1_S1.symm ▸ Nat.one_pos))
def v675 (I : In F c) : Elt F .i32 := View.readAt (Elt F) tbM0_0.view (Rect.unit (s := S1024) (k0_off1 I.i 14#32) S1.size (k0_off1_inb I.i 14)).toLoadRect I.tb (Shape.Idx.first (numel1_S1.symm ▸ Nat.one_pos))
def v676 (I : In F c) : BitVec 32 := Scalar.muli 32#32 (v_arg0 I)
def v677 (I : In F c) : BitVec 32 := Scalar.subi (v676 I) 1#32
def v678 (I : In F c) : BitVec 32 := Scalar.addi (v677 I) 15#32
def v679 (I : In F c) : BitVec 32 := Scalar.maxsi 0#32 (v678 I)
def c1023_i32_299 : BitVec 32 := 1023#32
def v682 (I : In F c) : Elt F .i32 := View.readAt (Elt F) tbM0_0.view (Rect.unit (s := S1024) (k0_off1 I.i 15#32) S1.size (k0_off1_inb I.i 15)).toLoadRect I.tb (Shape.Idx.first (numel1_S1.symm ▸ Nat.one_pos))
def v689 (I : In F c) : Elt F .i32 := View.readAt (Elt F) tbM0_0.view (Rect.unit (s := S1024) (k0_off1 I.i 16#32) S1.size (k0_off1_inb I.i 16)).toLoadRect I.tb (Shape.Idx.first (numel1_S1.symm ▸ Nat.one_pos))
def v696 (I : In F c) : Elt F .i32 := View.readAt (Elt F) tbM0_0.view (Rect.unit (s := S1024) (k0_off1 I.i 17#32) S1.size (k0_off1_inb I.i 17)).toLoadRect I.tb (Shape.Idx.first (numel1_S1.symm ▸ Nat.one_pos))
def v703 (I : In F c) : Elt F .i32 := View.readAt (Elt F) tbM0_0.view (Rect.unit (s := S1024) (k0_off1 I.i 18#32) S1.size (k0_off1_inb I.i 18)).toLoadRect I.tb (Shape.Idx.first (numel1_S1.symm ▸ Nat.one_pos))
def v710 (I : In F c) : Elt F .i32 := View.readAt (Elt F) tbM0_0.view (Rect.unit (s := S1024) (k0_off1 I.i 19#32) S1.size (k0_off1_inb I.i 19)).toLoadRect I.tb (Shape.Idx.first (numel1_S1.symm ▸ Nat.one_pos))
def v711 (I : In F c) : BitVec 32 := Scalar.muli 32#32 (v_arg0 I)
def v712 (I : In F c) : BitVec 32 := Scalar.subi (v711 I) 1#32
def v713 (I : In F c) : BitVec 32 := Scalar.addi (v712 I) 20#32
def v714 (I : In F c) : BitVec 32 := Scalar.maxsi 0#32 (v713 I)
def c1023_i32_324 : BitVec 32 := 1023#32
def v717 (I : In F c) : Elt F .i32 := View.readAt (Elt F) tbM0_0.view (Rect.unit (s := S1024) (k0_off1 I.i 20#32) S1.size (k0_off1_inb I.i 20)).toLoadRect I.tb (Shape.Idx.first (numel1_S1.symm ▸ Nat.one_pos))
def v724 (I : In F c) : Elt F .i32 := View.readAt (Elt F) tbM0_0.view (Rect.unit (s := S1024) (k0_off1 I.i 21#32) S1.size (k0_off1_inb I.i 21)).toLoadRect I.tb (Shape.Idx.first (numel1_S1.symm ▸ Nat.one_pos))
def v731 (I : In F c) : Elt F .i32 := View.readAt (Elt F) tbM0_0.view (Rect.unit (s := S1024) (k0_off1 I.i 22#32) S1.size (k0_off1_inb I.i 22)).toLoadRect I.tb (Shape.Idx.first (numel1_S1.symm ▸ Nat.one_pos))
def v738 (I : In F c) : Elt F .i32 := View.readAt (Elt F) tbM0_0.view (Rect.unit (s := S1024) (k0_off1 I.i 23#32) S1.size (k0_off1_inb I.i 23)).toLoadRect I.tb (Shape.Idx.first (numel1_S1.symm ▸ Nat.one_pos))
def v745 (I : In F c) : Elt F .i32 := View.readAt (Elt F) tbM0_0.view (Rect.unit (s := S1024) (k0_off1 I.i 24#32) S1.size (k0_off1_inb I.i 24)).toLoadRect I.tb (Shape.Idx.first (numel1_S1.symm ▸ Nat.one_pos))
def v746 (I : In F c) : BitVec 32 := Scalar.muli 32#32 (v_arg0 I)
def v747 (I : In F c) : BitVec 32 := Scalar.subi (v746 I) 1#32
def v748 (I : In F c) : BitVec 32 := Scalar.addi (v747 I) 25#32
def v749 (I : In F c) : BitVec 32 := Scalar.maxsi 0#32 (v748 I)
def c1023_i32_349 : BitVec 32 := 1023#32
def v752 (I : In F c) : Elt F .i32 := View.readAt (Elt F) tbM0_0.view (Rect.unit (s := S1024) (k0_off1 I.i 25#32) S1.size (k0_off1_inb I.i 25)).toLoadRect I.tb (Shape.Idx.first (numel1_S1.symm ▸ Nat.one_pos))
def v759 (I : In F c) : Elt F .i32 := View.readAt (Elt F) tbM0_0.view (Rect.unit (s := S1024) (k0_off1 I.i 26#32) S1.size (k0_off1_inb I.i 26)).toLoadRect I.tb (Shape.Idx.first (numel1_S1.symm ▸ Nat.one_pos))
def v766 (I : In F c) : Elt F .i32 := View.readAt (Elt F) tbM0_0.view (Rect.unit (s := S1024) (k0_off1 I.i 27#32) S1.size (k0_off1_inb I.i 27)).toLoadRect I.tb (Shape.Idx.first (numel1_S1.symm ▸ Nat.one_pos))
def v773 (I : In F c) : Elt F .i32 := View.readAt (Elt F) tbM0_0.view (Rect.unit (s := S1024) (k0_off1 I.i 28#32) S1.size (k0_off1_inb I.i 28)).toLoadRect I.tb (Shape.Idx.first (numel1_S1.symm ▸ Nat.one_pos))
def v780 (I : In F c) : Elt F .i32 := View.readAt (Elt F) tbM0_0.view (Rect.unit (s := S1024) (k0_off1 I.i 29#32) S1.size (k0_off1_inb I.i 29)).toLoadRect I.tb (Shape.Idx.first (numel1_S1.symm ▸ Nat.one_pos))
def v781 (I : In F c) : BitVec 32 := Scalar.muli 32#32 (v_arg0 I)
def v782 (I : In F c) : BitVec 32 := Scalar.subi (v781 I) 1#32
def v783 (I : In F c) : BitVec 32 := Scalar.addi (v782 I) 30#32
def v784 (I : In F c) : BitVec 32 := Scalar.maxsi 0#32 (v783 I)
def c1023_i32_374 : BitVec 32 := 1023#32
def v787 (I : In F c) : Elt F .i32 := View.readAt (Elt F) tbM0_0.view (Rect.unit (s := S1024) (k0_off1 I.i 30#32) S1.size (k0_off1_inb I.i 30)).toLoadRect I.tb (Shape.Idx.first (numel1_S1.symm ▸ Nat.one_pos))
def v794 (I : In F c) : Elt F .i32 := View.readAt (Elt F) tbM0_0.view (Rect.unit (s := S1024) (k0_off1 I.i 31#32) S1.size (k0_off1_inb I.i 31)).toLoadRect I.tb (Shape.Idx.first (numel1_S1.symm ▸ Nat.one_pos))
def v801 (I : In F c) : Elt F .i32 := View.readAt (Elt F) tbM0_0.view (Rect.unit (s := S1024) (k0_off1 I.i 32#32) S1.size (k0_off1_inb I.i 32)).toLoadRect I.tb (Shape.Idx.first (numel1_S1.symm ▸ Nat.one_pos))
def v808 (I : In F c) : Elt F .i32 := View.readAt (Elt F) tbM0_0.view (Rect.unit (s := S1024) (k0_off1 I.i 33#32) S1.size (k0_off1_inb I.i 33)).toLoadRect I.tb (Shape.Idx.first (numel1_S1.symm ▸ Nat.one_pos))
def v818 (I : In F c) : IVec S1x96 32 := iota .tc S1x96 32 [1] iota_S1x96_d1_w32
def v817 (I : In F c) : FVec F S96x2048 .f32 := k0_pay88 (F := F) (v111 I) (v570 I)
def c3_i32_390 : BitVec 32 := 3#32
def v820 (I : In F c) : IVec S1x96 32 := k0_pay89
def v823 (I : In F c) : IVec S1x96 32 := k0_pay90
def v825 (I : In F c) : IVec S1x96 1 := k0_pay91
def v859 (I : In F c) : IVec S1x96 32 := k0_pay92 (v818 I) c3_i32_390 (v820 I) (v823 I) (v825 I)
def v868 (I : In F c) : FVec F S1x96 .f32 := k0_pay93 (v577 I) (v818 I) c3_i32_390 (v820 I) (v823 I) (v825 I)
def v870 (I : In F c) : IVec S1x96 1 := k0_pay94 (v818 I) c3_i32_390 (v820 I) (v823 I) (v825 I)
def cst_424 : F .f32 := Scalar.ofBits .f32 0x00000000#32
def v908 (I : In F c) : FVec F S1x96 .f32 := k0_pay95 (v584 I) (v591 I) (v598 I) (v605 I) (v612 I) (v859 I) (v868 I) (v870 I)
def v910 (I : In F c) : IVec S1x96 1 := k0_pay96 (v859 I)
def v913 (I : In F c) : FVec F S1x96 .f32 := k0_pay97 (v619 I)
def v956 (I : In F c) : FVec F S1x96 .f32 := k0_pay98 (v626 I) (v633 I) (v640 I) (v647 I) (v654 I) (v859 I) (v908 I) (v910 I) cst_424 (v913 I)
def v957 (I : In F c) : IVec S1x96 32 := k0_pay99
def cst_457 : F .f32 := Scalar.ofBits .f32 0x00000000#32
def v996 (I : In F c) : FVec F S1x96 .f32 := k0_pay100 (v661 I) (v668 I) (v675 I) (v682 I) (v689 I) (v859 I) (v956 I) (v957 I)
def v998 (I : In F c) : IVec S1x96 1 := k0_pay101 (v859 I)
def v1000 (I : In F c) : F .f32 := k0_pay102 (v696 I)
def v1044 (I : In F c) : FVec F S1x96 .f32 := k0_pay103 (v703 I) (v710 I) (v717 I) (v724 I) (v731 I) (v859 I) (v996 I) (v998 I) (v1000 I) cst_457
def c23_i32_473 : BitVec 32 := 23#32
def v1084 (I : In F c) : FVec F S1x96 .f32 := k0_pay104 (v738 I) (v745 I) (v752 I) (v759 I) (v766 I) (v859 I) (v1044 I) c23_i32_473
def v1086 (I : In F c) : IVec S1x96 1 := k0_pay105 (v859 I)
def v1088 (I : In F c) : F .f32 := k0_pay106 (v773 I)
def v1132 (I : In F c) : FVec F S1x96 .f32 := k0_pay107 (v780 I) (v787 I) (v794 I) (v801 I) (v808 I) (v859 I) (v1084 I) (v1086 I) (v1088 I)
def v1143 (I : In F c) : Vec F S32x64x3 .f32 := View.ld I.x1 (Rect.unit (s := S32x64x3) ![0, 0, 0] S32x64x3.size inb_S32x64x3_S32x64x3_0_0_0)
def v1154 (I : In F c) : IVec S96x1 32 := iota .tc S96x1 32 [0] iota_S96x1_d0_w32
def v1153 (I : In F c) : FVec F S96x4 .f32 := k0_pay109 (v817 I) (v1143 I)
def v1156 (I : In F c) : IVec S96x1 32 := k0_pay110
def v1170 (I : In F c) : IVec S96x1 1 := k0_pay111
def v1174 (I : In F c) : IVec S96x1 1 := k0_pay112
def cst_539 : F .f32 := Scalar.ofBits .f32 0x00000000#32
def v1195 (I : In F c) : IVec S96x1 32 := k0_pay113 (v1154 I) (v1156 I) (v1170 I) (v1174 I)
def v1212 (I : In F c) : FVec F S96x1 .f32 := k0_pay114 (v577 I) (v584 I) (v1154 I) (v1156 I) (v1170 I) (v1174 I)
def v1214 (I : In F c) : IVec S96x1 1 := k0_pay115 (v1154 I) (v1156 I) (v1170 I) (v1174 I)
def v1217 (I : In F c) : FVec F S96x1 .f32 := k0_pay116 (v591 I)
def v1260 (I : In F c) : FVec F S96x1 .f32 := k0_pay117 (v598 I) (v605 I) (v612 I) (v619 I) (v626 I) (v1195 I) (v1212 I) (v1214 I) cst_539 (v1217 I)
def v1261 (I : In F c) : IVec S96x1 32 := k0_pay118
def cst_572 : F .f32 := Scalar.ofBits .f32 0x00000000#32
def v1300 (I : In F c) : FVec F S96x1 .f32 := k0_pay119 (v633 I) (v640 I) (v647 I) (v654 I) (v661 I) (v1195 I) (v1260 I) (v1261 I)
def v1302 (I : In F c) : IVec S96x1 1 := k0_pay120 (v1195 I)
def v1304 (I : In F c) : F .f32 := k0_pay121 (v668 I)
def v1348 (I : In F c) : FVec F S96x1 .f32 := k0_pay122 (v675 I) (v682 I) (v689 I) (v696 I) (v703 I) (v1195 I) (v1300 I) (v1302 I) (v1304 I) cst_572
def c19_i32_588 : BitVec 32 := 19#32
def v1388 (I : In F c) : FVec F S96x1 .f32 := k0_pay123 (v710 I) (v717 I) (v724 I) (v731 I) (v738 I) (v1195 I) (v1348 I) c19_i32_588
def v1390 (I : In F c) : IVec S96x1 1 := k0_pay124 (v1195 I)
def v1392 (I : In F c) : F .f32 := k0_pay125 (v745 I)
def v1436 (I : In F c) : FVec F S96x1 .f32 := k0_pay126 (v752 I) (v759 I) (v766 I) (v773 I) (v780 I) (v1195 I) (v1388 I) (v1390 I) (v1392 I)
def v1452 (I : In F c) : FVec F S96x1 .f32 := k0_pay127 (v787 I) (v794 I) (v1195 I) (v1436 I)
def v1454 (I : In F c) : IVec S96x1 1 := k0_pay128 (v1195 I)

/-- The rectangle window 37 is stored at: the whole buffer. -/
abbrev rect37 : Rect S1x1x2048 := (Rect.unit (s := S1x1x2048) ![0, 0, 0] S1x1x2048.size inb_S1x1x2048_S1x1x2048_0_0_0)

/-- What window 37's buffer holds after the body. -/
def out37 (I : In F c) : Vec F S1x1x2048 .i32 := View.canon [⟨rect37, (k0_pay108 (v817 I) (v1132 I))⟩]

theorem cover37 (p0 : Vec F S1x1x2048 .i32) (y : S1x1x2048.Idx) :
    ∃ pc ∈ ([⟨rect37, p0⟩] : List (View.Piece (Elt F) S1x1x2048 .i32)), y ∈ pc.1.set :=
  View.cover_of_tiled [⟨rect37, p0⟩] S1x1x2048.size (by rfl) y

/-- The rectangle window 38 is stored at: the whole buffer. -/
abbrev rect38 : Rect S1x96x5 := (Rect.unit (s := S1x96x5) ![0, 0, 0] S1x96x5.size inb_S1x96x5_S1x96x5_0_0_0)

/-- What window 38's buffer holds after the body. -/
def out38 (I : In F c) : Vec F S1x96x5 .f32 := View.canon [⟨rect38, (k0_pay1 (v801 I) (v808 I) (v1153 I) (v1195 I) (v1452 I) (v1454 I))⟩]

theorem cover38 (p0 : Vec F S1x96x5 .f32) (y : S1x96x5.Idx) :
    ∃ pc ∈ ([⟨rect38, p0⟩] : List (View.Piece (Elt F) S1x96x5 .f32)), y ∈ pc.1.set :=
  View.cover_of_tiled [⟨rect38, p0⟩] S1x96x5.size (by rfl) y

/-- The rectangle window 39 is stored at: the whole buffer. -/
abbrev rect39 : Rect S32x64x256 := (Rect.unit (s := S32x64x256) ![0, 0, 0] S32x64x256.size inb_S32x64x256_S32x64x256_0_0_0)

/-- What window 39's buffer holds after the body. -/
def out39 (I : In F c) : Vec F S32x64x256 .f32 := View.canon [⟨rect39, (k0_pay2 (v0 I))⟩]

theorem cover39 (p0 : Vec F S32x64x256 .f32) (y : S32x64x256.Idx) :
    ∃ pc ∈ ([⟨rect39, p0⟩] : List (View.Piece (Elt F) S32x64x256 .f32)), y ∈ pc.1.set :=
  View.cover_of_tiled [⟨rect39, p0⟩] S32x64x256.size (by rfl) y

/-- The rectangle window 40 is stored at: the whole buffer. -/
abbrev rect40 : Rect S64x32x256 := (Rect.unit (s := S64x32x256) ![0, 0, 0] S64x32x256.size inb_S64x32x256_S64x32x256_0_0_0)

/-- What window 40's buffer holds after the body. -/
def out40 (I : In F c) : Vec F S64x32x256 .f32 := View.canon [⟨rect40, (k0_pay3 (v0 I))⟩]

theorem cover40 (p0 : Vec F S64x32x256 .f32) (y : S64x32x256.Idx) :
    ∃ pc ∈ ([⟨rect40, p0⟩] : List (View.Piece (Elt F) S64x32x256 .f32)), y ∈ pc.1.set :=
  View.cover_of_tiled [⟨rect40, p0⟩] S64x32x256.size (by rfl) y

end Cert.KernelIdeal.Own

end
-- ==== Proof.KernelIdeal.Parts.lean ====
/- Call 0's body, run: every output's buffer ends at its named value. -/
module

public import proofs.«01_k».proof.Proof.KernelIdeal.Body

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD}
variable {arg1 : Memref sig .tc .smem S1024 .i32} {harg1 : arg1.IsWhole}
variable {arg2 : Memref sig .tc .vmem S32x64x256 .f32} {harg2 : arg2.IsWhole} {arg3 : Memref sig .tc .vmem S32x64x3 .f32} {harg3 : arg3.IsWhole} {arg4 : Memref sig .tc .vmem S2048x256 .f32} {harg4 : arg4.IsWhole} {arg5 : Memref sig .tc .vmem S1x1x256 .f32} {harg5 : arg5.IsWhole} {arg6 : Memref sig .tc .vmem S1x1x256 .f32} {harg6 : arg6.IsWhole} {arg7 : Memref sig .tc .vmem S1x1x256 .f32} {harg7 : arg7.IsWhole} {arg8 : Memref sig .tc .vmem S1x1x256 .f32} {harg8 : arg8.IsWhole} {arg9 : Memref sig .tc .vmem S1x1x256 .f32} {harg9 : arg9.IsWhole} {arg10 : Memref sig .tc .vmem S1x1x256 .f32} {harg10 : arg10.IsWhole} {arg11 : Memref sig .tc .vmem S1x1x256 .f32} {harg11 : arg11.IsWhole} {arg12 : Memref sig .tc .vmem S1x1x256 .f32} {harg12 : arg12.IsWhole} {arg13 : Memref sig .tc .vmem S1x1x256 .f32} {harg13 : arg13.IsWhole} {arg14 : Memref sig .tc .vmem S1x1x256 .f32} {harg14 : arg14.IsWhole} {arg15 : Memref sig .tc .vmem S1x1x256 .f32} {harg15 : arg15.IsWhole} {arg16 : Memref sig .tc .vmem S1x1x256 .f32} {harg16 : arg16.IsWhole} {arg17 : Memref sig .tc .vmem S1x1x256 .f32} {harg17 : arg17.IsWhole} {arg18 : Memref sig .tc .vmem S1x1x256 .f32} {harg18 : arg18.IsWhole} {arg19 : Memref sig .tc .vmem S1x1x256 .f32} {harg19 : arg19.IsWhole} {arg20 : Memref sig .tc .vmem S1x1x256 .f32} {harg20 : arg20.IsWhole} {arg21 : Memref sig .tc .vmem S1x1x256 .f32} {harg21 : arg21.IsWhole} {arg22 : Memref sig .tc .vmem S1x1x256 .f32} {harg22 : arg22.IsWhole} {arg23 : Memref sig .tc .vmem S1x1x256 .f32} {harg23 : arg23.IsWhole} {arg24 : Memref sig .tc .vmem S1x1x256 .f32} {harg24 : arg24.IsWhole} {arg25 : Memref sig .tc .vmem S1x1x256 .f32} {harg25 : arg25.IsWhole} {arg26 : Memref sig .tc .vmem S1x1x256 .f32} {harg26 : arg26.IsWhole} {arg27 : Memref sig .tc .vmem S1x1x256 .f32} {harg27 : arg27.IsWhole} {arg28 : Memref sig .tc .vmem S1x1x256 .f32} {harg28 : arg28.IsWhole} {arg29 : Memref sig .tc .vmem S1x1x256 .f32} {harg29 : arg29.IsWhole} {arg30 : Memref sig .tc .vmem S1x1x256 .f32} {harg30 : arg30.IsWhole} {arg31 : Memref sig .tc .vmem S1x1x256 .f32} {harg31 : arg31.IsWhole} {arg32 : Memref sig .tc .vmem S1x1x256 .f32} {harg32 : arg32.IsWhole} {arg33 : Memref sig .tc .vmem S1x1x256 .f32} {harg33 : arg33.IsWhole} {arg34 : Memref sig .tc .vmem S1x1x256 .f32} {harg34 : arg34.IsWhole} {arg35 : Memref sig .tc .vmem S1x1x256 .f32} {harg35 : arg35.IsWhole} {arg36 : Memref sig .tc .vmem S1x1x256 .f32} {harg36 : arg36.IsWhole} {arg37 : Memref sig .tc .vmem S1x1x256 .f32} {harg37 : arg37.IsWhole} {arg38 : Memref sig .tc .vmem S1x1x256 .f32} {harg38 : arg38.IsWhole} {arg39 : Memref sig .tc .vmem S1x1x2048 .i32} {harg39 : arg39.IsWhole} {arg40 : Memref sig .tc .vmem S1x96x5 .f32} {harg40 : arg40.IsWhole} {arg41 : Memref sig .tc .vmem S32x64x256 .f32} {harg41 : arg41.IsWhole} {arg42 : Memref sig .tc .vmem S64x32x256 .f32} {harg42 : arg42.IsWhole}

theorem part1_run (I : In F c) (E : Set ℕ) (K : (Σ' (arg0 : BitVec 32) (v6 : FVec F S2048x256 .f32) (v8 : FVec F S1x256 .f32) (v10 : FVec F S1x256 .f32) (v12 : FVec F S1x256 .f32) (v14 : FVec F S1x256 .f32) (v16 : FVec F S1x256 .f32) (v18 : FVec F S1x256 .f32) (v20 : FVec F S1x256 .f32), Vec F S1x1x256 .f32) → sProp 𝕄) :
    iprop(owns (c : Thread nD τ) arg4 fullShare I.x2 ∗ owns (c : Thread nD τ) arg2 fullShare I.x0 ∗ owns (c : Thread nD τ) arg5 fullShare I.g0 ∗ owns (c : Thread nD τ) arg6 fullShare I.g1 ∗ owns (c : Thread nD τ) arg7 fullShare I.g2 ∗ owns (c : Thread nD τ) arg8 fullShare I.g3 ∗ owns (c : Thread nD τ) arg9 fullShare I.g4 ∗ owns (c : Thread nD τ) arg10 fullShare I.g5 ∗ owns (c : Thread nD τ) arg11 fullShare I.g6 ∗ owns (c : Thread nD τ) arg12 fullShare I.g7 ∗ (∃ d, owns (c : Thread nD τ) arg41 fullShare d) ∗ (∃ d, owns (c : Thread nD τ) arg42 fullShare d) ∗ (∀ r : (Σ' (arg0 : BitVec 32) (v6 : FVec F S2048x256 .f32) (v8 : FVec F S1x256 .f32) (v10 : FVec F S1x256 .f32) (v12 : FVec F S1x256 .f32) (v14 : FVec F S1x256 .f32) (v16 : FVec F S1x256 .f32) (v18 : FVec F S1x256 .f32) (v20 : FVec F S1x256 .f32), Vec F S1x1x256 .f32), iprop(⌜r = ⟨v_arg0 I, v6 I, v8 I, v10 I, v12 I, v14 I, v16 I, v18 I, v20 I, v21 I⟩⌝ ∗ owns (c : Thread nD τ) arg4 fullShare I.x2 ∗ owns (c : Thread nD τ) arg2 fullShare I.x0 ∗ owns (c : Thread nD τ) arg5 fullShare I.g0 ∗ owns (c : Thread nD τ) arg6 fullShare I.g1 ∗ owns (c : Thread nD τ) arg7 fullShare I.g2 ∗ owns (c : Thread nD τ) arg8 fullShare I.g3 ∗ owns (c : Thread nD τ) arg9 fullShare I.g4 ∗ owns (c : Thread nD τ) arg10 fullShare I.g5 ∗ owns (c : Thread nD τ) arg11 fullShare I.g6 ∗ owns (c : Thread nD τ) arg12 fullShare I.g7 ∗ owns (c : Thread nD τ) arg41 fullShare (out39 I) ∗ owns (c : Thread nD τ) arg42 fullShare (out40 I)) -∗ K r))
      ⊢ wp frame (wpE (defs₀ (F := F)) Variants.none c none) E (k0_part1 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K := by
  rcases I with ⟨i, x0, x1, x2, g0, g1, g2, g3, g4, g5, g6, g7, g8, g9, g10, g11, g12, g13, g14, g15, g16, g17, g18, g19, g20, g21, g22, g23, g24, g25, g26, g27, g28, g29, g30, g31, g32, g33, tb⟩; dsimp only
  rw [k0_part1_eq_skeleton]; unfold k0_part1_skel
  unfold owns
  iintro ⟨⟨%farg4, %hfarg4, Harg4⟩, ⟨%farg2, %hfarg2, Harg2⟩, ⟨%farg5, %hfarg5, Harg5⟩, ⟨%farg6, %hfarg6, Harg6⟩, ⟨%farg7, %hfarg7, Harg7⟩, ⟨%farg8, %hfarg8, Harg8⟩, ⟨%farg9, %hfarg9, Harg9⟩, ⟨%farg10, %hfarg10, Harg10⟩, ⟨%farg11, %hfarg11, Harg11⟩, ⟨%farg12, %hfarg12, Harg12⟩, ⟨%darg41, %farg41, -, Harg41⟩, ⟨%darg42, %farg42, -, Harg42⟩, Hk⟩
  subst hfarg4
  subst hfarg2
  subst hfarg5
  subst hfarg6
  subst hfarg7
  subst hfarg8
  subst hfarg9
  subst hfarg10
  subst hfarg11
  subst hfarg12
  sl_exec
  sl_step
  iapply Hk
  isplitr
  · ipureintro; rfl
  isplitl [Harg4]
  · iexists _; isplitr; · ipureintro; rfl
    iexact Harg4
  isplitl [Harg2]
  · iexists _; isplitr; · ipureintro; rfl
    iexact Harg2
  isplitl [Harg5]
  · iexists _; isplitr; · ipureintro; rfl
    iexact Harg5
  isplitl [Harg6]
  · iexists _; isplitr; · ipureintro; rfl
    iexact Harg6
  isplitl [Harg7]
  · iexists _; isplitr; · ipureintro; rfl
    iexact Harg7
  isplitl [Harg8]
  · iexists _; isplitr; · ipureintro; rfl
    iexact Harg8
  isplitl [Harg9]
  · iexists _; isplitr; · ipureintro; rfl
    iexact Harg9
  isplitl [Harg10]
  · iexists _; isplitr; · ipureintro; rfl
    iexact Harg10
  isplitl [Harg11]
  · iexists _; isplitr; · ipureintro; rfl
    iexact Harg11
  isplitl [Harg12]
  · iexists _; isplitr; · ipureintro; rfl
    iexact Harg12
  isplitl [Harg41]
  · iexists _; isplitr; swap; · iexact Harg41
    ipureintro; exact View.read_writes_eq_canon _ _ _ (cover39 _)
  iexists _; isplitr; swap; · iexact Harg42
  ipureintro; exact View.read_writes_eq_canon _ _ _ (cover40 _)

theorem part2_run (I : In F c) (E : Set ℕ) (K : (Σ' (v22 : FVec F S1x256 .f32) (v24 : FVec F S1x256 .f32) (v26 : FVec F S1x256 .f32) (v28 : FVec F S1x256 .f32) (v30 : FVec F S1x256 .f32) (v32 : FVec F S1x256 .f32) (v34 : FVec F S1x256 .f32) (v36 : FVec F S1x256 .f32) (v38 : FVec F S1x256 .f32) (v40 : FVec F S1x256 .f32) (v42 : FVec F S1x256 .f32) (v44 : FVec F S1x256 .f32), Vec F S1x1x256 .f32) → sProp 𝕄) :
    iprop(owns (c : Thread nD τ) arg13 fullShare I.g8 ∗ owns (c : Thread nD τ) arg14 fullShare I.g9 ∗ owns (c : Thread nD τ) arg15 fullShare I.g10 ∗ owns (c : Thread nD τ) arg16 fullShare I.g11 ∗ owns (c : Thread nD τ) arg17 fullShare I.g12 ∗ owns (c : Thread nD τ) arg18 fullShare I.g13 ∗ owns (c : Thread nD τ) arg19 fullShare I.g14 ∗ owns (c : Thread nD τ) arg20 fullShare I.g15 ∗ owns (c : Thread nD τ) arg21 fullShare I.g16 ∗ owns (c : Thread nD τ) arg22 fullShare I.g17 ∗ owns (c : Thread nD τ) arg23 fullShare I.g18 ∗ owns (c : Thread nD τ) arg24 fullShare I.g19 ∗ (∀ r : (Σ' (v22 : FVec F S1x256 .f32) (v24 : FVec F S1x256 .f32) (v26 : FVec F S1x256 .f32) (v28 : FVec F S1x256 .f32) (v30 : FVec F S1x256 .f32) (v32 : FVec F S1x256 .f32) (v34 : FVec F S1x256 .f32) (v36 : FVec F S1x256 .f32) (v38 : FVec F S1x256 .f32) (v40 : FVec F S1x256 .f32) (v42 : FVec F S1x256 .f32) (v44 : FVec F S1x256 .f32), Vec F S1x1x256 .f32), iprop(⌜r = ⟨v22 I, v24 I, v26 I, v28 I, v30 I, v32 I, v34 I, v36 I, v38 I, v40 I, v42 I, v44 I, v45 I⟩⌝ ∗ owns (c : Thread nD τ) arg13 fullShare I.g8 ∗ owns (c : Thread nD τ) arg14 fullShare I.g9 ∗ owns (c : Thread nD τ) arg15 fullShare I.g10 ∗ owns (c : Thread nD τ) arg16 fullShare I.g11 ∗ owns (c : Thread nD τ) arg17 fullShare I.g12 ∗ owns (c : Thread nD τ) arg18 fullShare I.g13 ∗ owns (c : Thread nD τ) arg19 fullShare I.g14 ∗ owns (c : Thread nD τ) arg20 fullShare I.g15 ∗ owns (c : Thread nD τ) arg21 fullShare I.g16 ∗ owns (c : Thread nD τ) arg22 fullShare I.g17 ∗ owns (c : Thread nD τ) arg23 fullShare I.g18 ∗ owns (c : Thread nD τ) arg24 fullShare I.g19) -∗ K r))
      ⊢ wp frame (wpE (defs₀ (F := F)) Variants.none c none) E (k0_part2 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v21 I)) K := by
  rcases I with ⟨i, x0, x1, x2, g0, g1, g2, g3, g4, g5, g6, g7, g8, g9, g10, g11, g12, g13, g14, g15, g16, g17, g18, g19, g20, g21, g22, g23, g24, g25, g26, g27, g28, g29, g30, g31, g32, g33, tb⟩; dsimp only
  rw [k0_part2_eq_skeleton]; unfold k0_part2_skel
  unfold owns
  iintro ⟨⟨%farg13, %hfarg13, Harg13⟩, ⟨%farg14, %hfarg14, Harg14⟩, ⟨%farg15, %hfarg15, Harg15⟩, ⟨%farg16, %hfarg16, Harg16⟩, ⟨%farg17, %hfarg17, Harg17⟩, ⟨%farg18, %hfarg18, Harg18⟩, ⟨%farg19, %hfarg19, Harg19⟩, ⟨%farg20, %hfarg20, Harg20⟩, ⟨%farg21, %hfarg21, Harg21⟩, ⟨%farg22, %hfarg22, Harg22⟩, ⟨%farg23, %hfarg23, Harg23⟩, ⟨%farg24, %hfarg24, Harg24⟩, Hk⟩
  subst hfarg13
  subst hfarg14
  subst hfarg15
  subst hfarg16
  subst hfarg17
  subst hfarg18
  subst hfarg19
  subst hfarg20
  subst hfarg21
  subst hfarg22
  subst hfarg23
  subst hfarg24
  sl_exec
  sl_step
  iapply Hk
  isplitr
  · ipureintro; rfl
  isplitl [Harg13]
  · iexists _; isplitr; · ipureintro; rfl
    iexact Harg13
  isplitl [Harg14]
  · iexists _; isplitr; · ipureintro; rfl
    iexact Harg14
  isplitl [Harg15]
  · iexists _; isplitr; · ipureintro; rfl
    iexact Harg15
  isplitl [Harg16]
  · iexists _; isplitr; · ipureintro; rfl
    iexact Harg16
  isplitl [Harg17]
  · iexists _; isplitr; · ipureintro; rfl
    iexact Harg17
  isplitl [Harg18]
  · iexists _; isplitr; · ipureintro; rfl
    iexact Harg18
  isplitl [Harg19]
  · iexists _; isplitr; · ipureintro; rfl
    iexact Harg19
  isplitl [Harg20]
  · iexists _; isplitr; · ipureintro; rfl
    iexact Harg20
  isplitl [Harg21]
  · iexists _; isplitr; · ipureintro; rfl
    iexact Harg21
  isplitl [Harg22]
  · iexists _; isplitr; · ipureintro; rfl
    iexact Harg22
  isplitl [Harg23]
  · iexists _; isplitr; · ipureintro; rfl
    iexact Harg23
  iexists _; isplitr; · ipureintro; rfl
  iexact Harg24

theorem part3_run (I : In F c) (E : Set ℕ) (K : (Σ' (v46 : FVec F S1x256 .f32) (v48 : FVec F S1x256 .f32) (v50 : FVec F S1x256 .f32) (v52 : FVec F S1x256 .f32) (v54 : FVec F S1x256 .f32) (v56 : FVec F S1x256 .f32) (v58 : FVec F S1x256 .f32) (v60 : FVec F S1x256 .f32) (v62 : FVec F S1x256 .f32) (v64 : FVec F S1x256 .f32) (v66 : FVec F S1x256 .f32) (v68 : FVec F S1x256 .f32), Vec F S1x1x256 .f32) → sProp 𝕄) :
    iprop(owns (c : Thread nD τ) arg25 fullShare I.g20 ∗ owns (c : Thread nD τ) arg26 fullShare I.g21 ∗ owns (c : Thread nD τ) arg27 fullShare I.g22 ∗ owns (c : Thread nD τ) arg28 fullShare I.g23 ∗ owns (c : Thread nD τ) arg29 fullShare I.g24 ∗ owns (c : Thread nD τ) arg30 fullShare I.g25 ∗ owns (c : Thread nD τ) arg31 fullShare I.g26 ∗ owns (c : Thread nD τ) arg32 fullShare I.g27 ∗ owns (c : Thread nD τ) arg33 fullShare I.g28 ∗ owns (c : Thread nD τ) arg34 fullShare I.g29 ∗ owns (c : Thread nD τ) arg35 fullShare I.g30 ∗ owns (c : Thread nD τ) arg36 fullShare I.g31 ∗ (∀ r : (Σ' (v46 : FVec F S1x256 .f32) (v48 : FVec F S1x256 .f32) (v50 : FVec F S1x256 .f32) (v52 : FVec F S1x256 .f32) (v54 : FVec F S1x256 .f32) (v56 : FVec F S1x256 .f32) (v58 : FVec F S1x256 .f32) (v60 : FVec F S1x256 .f32) (v62 : FVec F S1x256 .f32) (v64 : FVec F S1x256 .f32) (v66 : FVec F S1x256 .f32) (v68 : FVec F S1x256 .f32), Vec F S1x1x256 .f32), iprop(⌜r = ⟨v46 I, v48 I, v50 I, v52 I, v54 I, v56 I, v58 I, v60 I, v62 I, v64 I, v66 I, v68 I, v69 I⟩⌝ ∗ owns (c : Thread nD τ) arg25 fullShare I.g20 ∗ owns (c : Thread nD τ) arg26 fullShare I.g21 ∗ owns (c : Thread nD τ) arg27 fullShare I.g22 ∗ owns (c : Thread nD τ) arg28 fullShare I.g23 ∗ owns (c : Thread nD τ) arg29 fullShare I.g24 ∗ owns (c : Thread nD τ) arg30 fullShare I.g25 ∗ owns (c : Thread nD τ) arg31 fullShare I.g26 ∗ owns (c : Thread nD τ) arg32 fullShare I.g27 ∗ owns (c : Thread nD τ) arg33 fullShare I.g28 ∗ owns (c : Thread nD τ) arg34 fullShare I.g29 ∗ owns (c : Thread nD τ) arg35 fullShare I.g30 ∗ owns (c : Thread nD τ) arg36 fullShare I.g31) -∗ K r))
      ⊢ wp frame (wpE (defs₀ (F := F)) Variants.none c none) E (k0_part3 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v45 I)) K := by
  rcases I with ⟨i, x0, x1, x2, g0, g1, g2, g3, g4, g5, g6, g7, g8, g9, g10, g11, g12, g13, g14, g15, g16, g17, g18, g19, g20, g21, g22, g23, g24, g25, g26, g27, g28, g29, g30, g31, g32, g33, tb⟩; dsimp only
  rw [k0_part3_eq_skeleton]; unfold k0_part3_skel
  unfold owns
  iintro ⟨⟨%farg25, %hfarg25, Harg25⟩, ⟨%farg26, %hfarg26, Harg26⟩, ⟨%farg27, %hfarg27, Harg27⟩, ⟨%farg28, %hfarg28, Harg28⟩, ⟨%farg29, %hfarg29, Harg29⟩, ⟨%farg30, %hfarg30, Harg30⟩, ⟨%farg31, %hfarg31, Harg31⟩, ⟨%farg32, %hfarg32, Harg32⟩, ⟨%farg33, %hfarg33, Harg33⟩, ⟨%farg34, %hfarg34, Harg34⟩, ⟨%farg35, %hfarg35, Harg35⟩, ⟨%farg36, %hfarg36, Harg36⟩, Hk⟩
  subst hfarg25
  subst hfarg26
  subst hfarg27
  subst hfarg28
  subst hfarg29
  subst hfarg30
  subst hfarg31
  subst hfarg32
  subst hfarg33
  subst hfarg34
  subst hfarg35
  subst hfarg36
  sl_exec
  sl_step
  iapply Hk
  isplitr
  · ipureintro; rfl
  isplitl [Harg25]
  · iexists _; isplitr; · ipureintro; rfl
    iexact Harg25
  isplitl [Harg26]
  · iexists _; isplitr; · ipureintro; rfl
    iexact Harg26
  isplitl [Harg27]
  · iexists _; isplitr; · ipureintro; rfl
    iexact Harg27
  isplitl [Harg28]
  · iexists _; isplitr; · ipureintro; rfl
    iexact Harg28
  isplitl [Harg29]
  · iexists _; isplitr; · ipureintro; rfl
    iexact Harg29
  isplitl [Harg30]
  · iexists _; isplitr; · ipureintro; rfl
    iexact Harg30
  isplitl [Harg31]
  · iexists _; isplitr; · ipureintro; rfl
    iexact Harg31
  isplitl [Harg32]
  · iexists _; isplitr; · ipureintro; rfl
    iexact Harg32
  isplitl [Harg33]
  · iexists _; isplitr; · ipureintro; rfl
    iexact Harg33
  isplitl [Harg34]
  · iexists _; isplitr; · ipureintro; rfl
    iexact Harg34
  isplitl [Harg35]
  · iexists _; isplitr; · ipureintro; rfl
    iexact Harg35
  iexists _; isplitr; · ipureintro; rfl
  iexact Harg36

theorem part4_run (I : In F c) (E : Set ℕ) (K : (Σ' (v86 : FVec F S34x2048 .f32) (v111 : IVec S1x2048 32), IVec S1x2048 32) → sProp 𝕄) :
    iprop(owns (c : Thread nD τ) arg37 fullShare I.g32 ∗ owns (c : Thread nD τ) arg38 fullShare I.g33 ∗ (∀ r : (Σ' (v86 : FVec F S34x2048 .f32) (v111 : IVec S1x2048 32), IVec S1x2048 32), iprop(⌜r = ⟨v86 I, v111 I, v112 I⟩⌝ ∗ owns (c : Thread nD τ) arg37 fullShare I.g32 ∗ owns (c : Thread nD τ) arg38 fullShare I.g33) -∗ K r))
      ⊢ wp frame (wpE (defs₀ (F := F)) Variants.none c none) E (k0_part4 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v6 I) (v8 I) (v10 I) (v12 I) (v14 I) (v16 I) (v18 I) (v20 I) (v22 I) (v24 I) (v26 I) (v28 I) (v30 I) (v32 I) (v34 I) (v36 I) (v38 I) (v40 I) (v42 I) (v44 I) (v46 I) (v48 I) (v50 I) (v52 I) (v54 I) (v56 I) (v58 I) (v60 I) (v62 I) (v64 I) (v66 I) (v68 I) (v69 I)) K := by
  rcases I with ⟨i, x0, x1, x2, g0, g1, g2, g3, g4, g5, g6, g7, g8, g9, g10, g11, g12, g13, g14, g15, g16, g17, g18, g19, g20, g21, g22, g23, g24, g25, g26, g27, g28, g29, g30, g31, g32, g33, tb⟩; dsimp only
  rw [k0_part4_eq_skeleton]; unfold k0_part4_skel
  unfold owns
  iintro ⟨⟨%farg37, %hfarg37, Harg37⟩, ⟨%farg38, %hfarg38, Harg38⟩, Hk⟩
  subst hfarg37
  subst hfarg38
  sl_exec
  sl_step
  iapply Hk
  isplitr
  · ipureintro; rfl
  isplitl [Harg37]
  · iexists _; isplitr; · ipureintro; rfl
    iexact Harg37
  iexists _; isplitr; · ipureintro; rfl
  iexact Harg38

theorem part5_val (I : In F c) : k0_part5 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v111 I) (v112 I) = pure ⟨v113 I, v115 I, v117 I, v119 I, v121 I, v123 I, v125 I, v127 I, v129 I, v131 I, v133 I, v135 I, v137 I, v139 I, v141 I, v143 I, v145 I, v147 I, v149 I, v151 I, v152 I⟩ := by
  rw [k0_part5_eq_skeleton]; rfl

theorem part6_val (I : In F c) : k0_part6 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v86 I) (v111 I) (v113 I) (v115 I) (v117 I) (v119 I) (v121 I) (v152 I) = pure ⟨v153 I, v155 I, v157 I, v159 I, v161 I, v163 I, v165 I, v167 I, v169 I, v171 I, v173 I, v175 I, v192 I, v195 I⟩ := by
  rw [k0_part6_eq_skeleton]; rfl

theorem part7_val (I : In F c) : k0_part7 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v86 I) (v123 I) (v125 I) (v127 I) (v129 I) (v131 I) (v133 I) (v135 I) (v137 I) (v139 I) (v141 I) (v143 I) (v145 I) (v192 I) (v195 I) = pure ⟨v240 I, v243 I⟩ := by
  rw [k0_part7_eq_skeleton]; rfl

theorem part8_val (I : In F c) : k0_part8 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v86 I) (v147 I) (v149 I) (v151 I) (v153 I) (v155 I) (v157 I) (v159 I) (v161 I) (v163 I) (v165 I) (v167 I) (v169 I) (v240 I) (v243 I) = pure ⟨v288 I, v291 I⟩ := by
  rw [k0_part8_eq_skeleton]; rfl

theorem part9_val (I : In F c) : k0_part9 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v86 I) (v113 I) (v115 I) (v117 I) (v119 I) (v121 I) (v123 I) (v125 I) (v127 I) (v171 I) (v173 I) (v175 I) (v288 I) (v291 I) = pure ⟨v304 I, v337 I, v338 I, cst_162⟩ := by
  rw [k0_part9_eq_skeleton]; rfl

theorem part10_val (I : In F c) : k0_part10 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v86 I) (v129 I) (v131 I) (v133 I) (v135 I) (v137 I) (v139 I) (v141 I) (v143 I) (v145 I) (v147 I) (v149 I) (v151 I) (v337 I) (v338 I) cst_162 = pure ⟨v385 I, v386 I, cst_174⟩ := by
  rw [k0_part10_eq_skeleton]; rfl

theorem part11_val (I : In F c) : k0_part11 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v86 I) (v153 I) (v155 I) (v157 I) (v159 I) (v161 I) (v163 I) (v165 I) (v167 I) (v169 I) (v171 I) (v173 I) (v175 I) (v385 I) (v386 I) cst_174 = pure ⟨v433 I, v434 I⟩ := by
  rw [k0_part11_eq_skeleton]; rfl

theorem part12_val (I : In F c) : k0_part12 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v86 I) (v113 I) (v115 I) (v117 I) (v119 I) (v121 I) (v123 I) (v125 I) (v127 I) (v129 I) (v131 I) (v133 I) (v135 I) (v434 I) = pure (v482 I) := by
  rw [k0_part12_eq_skeleton]; rfl

theorem part13_val (I : In F c) : k0_part13 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v86 I) (v137 I) (v139 I) (v141 I) (v143 I) (v145 I) (v147 I) (v149 I) (v151 I) (v153 I) (v155 I) (v157 I) (v159 I) (v482 I) = pure (v530 I) := by
  rw [k0_part13_eq_skeleton]; rfl

theorem part14_val (I : In F c) : k0_part14 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v_arg0 I) (v86 I) (v161 I) (v163 I) (v165 I) (v167 I) (v169 I) (v171 I) (v173 I) (v175 I) (v304 I) (v433 I) (v530 I) = pure ⟨v570 I, c1023_i32, v574 I⟩ := by
  rw [k0_part14_eq_skeleton]; rfl

theorem part15_run (I : In F c) (E : Set ℕ) (K : (Σ' (v577 : Elt F .i32) (v584 : Elt F .i32) (v591 : Elt F .i32) (v598 : Elt F .i32) (v605 : Elt F .i32) (c1023_i32_249 : BitVec 32), BitVec 32) → sProp 𝕄) :
    iprop(tbPt0 c tbM0_0 I.tb ∗ (∀ r : (Σ' (v577 : Elt F .i32) (v584 : Elt F .i32) (v591 : Elt F .i32) (v598 : Elt F .i32) (v605 : Elt F .i32) (c1023_i32_249 : BitVec 32), BitVec 32), iprop(⌜r = ⟨v577 I, v584 I, v591 I, v598 I, v605 I, c1023_i32_249, v609 I⟩⌝ ∗ tbPt0 c tbM0_0 I.tb) -∗ K r))
      ⊢ wp frame (wpE (defs₀ (F := F)) Variants.none c none) E (k0_part15 (F := F) I.i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v_arg0 I) c1023_i32 (v574 I)) K := by
  rcases I with ⟨i, x0, x1, x2, g0, g1, g2, g3, g4, g5, g6, g7, g8, g9, g10, g11, g12, g13, g14, g15, g16, g17, g18, g19, g20, g21, g22, g23, g24, g25, g26, g27, g28, g29, g30, g31, g32, g33, tb⟩; dsimp only
  rw [k0_part15_eq_skeleton]; unfold k0_part15_skel
  iintro ⟨HT, Hk⟩
  sl_exec
  sl_step
  iapply Hk
  isplitr
  · ipureintro; rfl
  iexact HT

theorem part16_run (I : In F c) (E : Set ℕ) (K : (Σ' (v612 : Elt F .i32) (v619 : Elt F .i32) (v626 : Elt F .i32) (v633 : Elt F .i32) (v640 : Elt F .i32) (c1023_i32_274 : BitVec 32), BitVec 32) → sProp 𝕄) :
    iprop(tbPt0 c tbM0_0 I.tb ∗ (∀ r : (Σ' (v612 : Elt F .i32) (v619 : Elt F .i32) (v626 : Elt F .i32) (v633 : Elt F .i32) (v640 : Elt F .i32) (c1023_i32_274 : BitVec 32), BitVec 32), iprop(⌜r = ⟨v612 I, v619 I, v626 I, v633 I, v640 I, c1023_i32_274, v644 I⟩⌝ ∗ tbPt0 c tbM0_0 I.tb) -∗ K r))
      ⊢ wp frame (wpE (defs₀ (F := F)) Variants.none c none) E (k0_part16 (F := F) I.i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v_arg0 I) c1023_i32_249 (v609 I)) K := by
  rcases I with ⟨i, x0, x1, x2, g0, g1, g2, g3, g4, g5, g6, g7, g8, g9, g10, g11, g12, g13, g14, g15, g16, g17, g18, g19, g20, g21, g22, g23, g24, g25, g26, g27, g28, g29, g30, g31, g32, g33, tb⟩; dsimp only
  rw [k0_part16_eq_skeleton]; unfold k0_part16_skel
  iintro ⟨HT, Hk⟩
  sl_exec
  sl_step
  iapply Hk
  isplitr
  · ipureintro; rfl
  iexact HT

theorem part17_run (I : In F c) (E : Set ℕ) (K : (Σ' (v647 : Elt F .i32) (v654 : Elt F .i32) (v661 : Elt F .i32) (v668 : Elt F .i32) (v675 : Elt F .i32) (c1023_i32_299 : BitVec 32), BitVec 32) → sProp 𝕄) :
    iprop(tbPt0 c tbM0_0 I.tb ∗ (∀ r : (Σ' (v647 : Elt F .i32) (v654 : Elt F .i32) (v661 : Elt F .i32) (v668 : Elt F .i32) (v675 : Elt F .i32) (c1023_i32_299 : BitVec 32), BitVec 32), iprop(⌜r = ⟨v647 I, v654 I, v661 I, v668 I, v675 I, c1023_i32_299, v679 I⟩⌝ ∗ tbPt0 c tbM0_0 I.tb) -∗ K r))
      ⊢ wp frame (wpE (defs₀ (F := F)) Variants.none c none) E (k0_part17 (F := F) I.i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v_arg0 I) c1023_i32_274 (v644 I)) K := by
  rcases I with ⟨i, x0, x1, x2, g0, g1, g2, g3, g4, g5, g6, g7, g8, g9, g10, g11, g12, g13, g14, g15, g16, g17, g18, g19, g20, g21, g22, g23, g24, g25, g26, g27, g28, g29, g30, g31, g32, g33, tb⟩; dsimp only
  rw [k0_part17_eq_skeleton]; unfold k0_part17_skel
  iintro ⟨HT, Hk⟩
  sl_exec
  sl_step
  iapply Hk
  isplitr
  · ipureintro; rfl
  iexact HT

theorem part18_run (I : In F c) (E : Set ℕ) (K : (Σ' (v682 : Elt F .i32) (v689 : Elt F .i32) (v696 : Elt F .i32) (v703 : Elt F .i32) (v710 : Elt F .i32) (c1023_i32_324 : BitVec 32), BitVec 32) → sProp 𝕄) :
    iprop(tbPt0 c tbM0_0 I.tb ∗ (∀ r : (Σ' (v682 : Elt F .i32) (v689 : Elt F .i32) (v696 : Elt F .i32) (v703 : Elt F .i32) (v710 : Elt F .i32) (c1023_i32_324 : BitVec 32), BitVec 32), iprop(⌜r = ⟨v682 I, v689 I, v696 I, v703 I, v710 I, c1023_i32_324, v714 I⟩⌝ ∗ tbPt0 c tbM0_0 I.tb) -∗ K r))
      ⊢ wp frame (wpE (defs₀ (F := F)) Variants.none c none) E (k0_part18 (F := F) I.i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v_arg0 I) c1023_i32_299 (v679 I)) K := by
  rcases I with ⟨i, x0, x1, x2, g0, g1, g2, g3, g4, g5, g6, g7, g8, g9, g10, g11, g12, g13, g14, g15, g16, g17, g18, g19, g20, g21, g22, g23, g24, g25, g26, g27, g28, g29, g30, g31, g32, g33, tb⟩; dsimp only
  rw [k0_part18_eq_skeleton]; unfold k0_part18_skel
  iintro ⟨HT, Hk⟩
  sl_exec
  sl_step
  iapply Hk
  isplitr
  · ipureintro; rfl
  iexact HT

theorem part19_run (I : In F c) (E : Set ℕ) (K : (Σ' (v717 : Elt F .i32) (v724 : Elt F .i32) (v731 : Elt F .i32) (v738 : Elt F .i32) (v745 : Elt F .i32) (c1023_i32_349 : BitVec 32), BitVec 32) → sProp 𝕄) :
    iprop(tbPt0 c tbM0_0 I.tb ∗ (∀ r : (Σ' (v717 : Elt F .i32) (v724 : Elt F .i32) (v731 : Elt F .i32) (v738 : Elt F .i32) (v745 : Elt F .i32) (c1023_i32_349 : BitVec 32), BitVec 32), iprop(⌜r = ⟨v717 I, v724 I, v731 I, v738 I, v745 I, c1023_i32_349, v749 I⟩⌝ ∗ tbPt0 c tbM0_0 I.tb) -∗ K r))
      ⊢ wp frame (wpE (defs₀ (F := F)) Variants.none c none) E (k0_part19 (F := F) I.i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v_arg0 I) c1023_i32_324 (v714 I)) K := by
  rcases I with ⟨i, x0, x1, x2, g0, g1, g2, g3, g4, g5, g6, g7, g8, g9, g10, g11, g12, g13, g14, g15, g16, g17, g18, g19, g20, g21, g22, g23, g24, g25, g26, g27, g28, g29, g30, g31, g32, g33, tb⟩; dsimp only
  rw [k0_part19_eq_skeleton]; unfold k0_part19_skel
  iintro ⟨HT, Hk⟩
  sl_exec
  sl_step
  iapply Hk
  isplitr
  · ipureintro; rfl
  iexact HT

theorem part20_run (I : In F c) (E : Set ℕ) (K : (Σ' (v752 : Elt F .i32) (v759 : Elt F .i32) (v766 : Elt F .i32) (v773 : Elt F .i32) (v780 : Elt F .i32) (c1023_i32_374 : BitVec 32), BitVec 32) → sProp 𝕄) :
    iprop(tbPt0 c tbM0_0 I.tb ∗ (∀ r : (Σ' (v752 : Elt F .i32) (v759 : Elt F .i32) (v766 : Elt F .i32) (v773 : Elt F .i32) (v780 : Elt F .i32) (c1023_i32_374 : BitVec 32), BitVec 32), iprop(⌜r = ⟨v752 I, v759 I, v766 I, v773 I, v780 I, c1023_i32_374, v784 I⟩⌝ ∗ tbPt0 c tbM0_0 I.tb) -∗ K r))
      ⊢ wp frame (wpE (defs₀ (F := F)) Variants.none c none) E (k0_part20 (F := F) I.i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v_arg0 I) c1023_i32_349 (v749 I)) K := by
  rcases I with ⟨i, x0, x1, x2, g0, g1, g2, g3, g4, g5, g6, g7, g8, g9, g10, g11, g12, g13, g14, g15, g16, g17, g18, g19, g20, g21, g22, g23, g24, g25, g26, g27, g28, g29, g30, g31, g32, g33, tb⟩; dsimp only
  rw [k0_part20_eq_skeleton]; unfold k0_part20_skel
  iintro ⟨HT, Hk⟩
  sl_exec
  sl_step
  iapply Hk
  isplitr
  · ipureintro; rfl
  iexact HT

theorem part21_run (I : In F c) (E : Set ℕ) (K : (Σ' (v787 : Elt F .i32) (v794 : Elt F .i32) (v801 : Elt F .i32) (v808 : Elt F .i32) (v817 : FVec F S96x2048 .f32) (v818 : IVec S1x96 32) (c3_i32_390 : BitVec 32) (v820 : IVec S1x96 32) (v823 : IVec S1x96 32), IVec S1x96 1) → sProp 𝕄) :
    iprop(tbPt0 c tbM0_0 I.tb ∗ (∀ r : (Σ' (v787 : Elt F .i32) (v794 : Elt F .i32) (v801 : Elt F .i32) (v808 : Elt F .i32) (v817 : FVec F S96x2048 .f32) (v818 : IVec S1x96 32) (c3_i32_390 : BitVec 32) (v820 : IVec S1x96 32) (v823 : IVec S1x96 32), IVec S1x96 1), iprop(⌜r = ⟨v787 I, v794 I, v801 I, v808 I, v817 I, v818 I, c3_i32_390, v820 I, v823 I, v825 I⟩⌝ ∗ tbPt0 c tbM0_0 I.tb) -∗ K r))
      ⊢ wp frame (wpE (defs₀ (F := F)) Variants.none c none) E (k0_part21 (F := F) I.i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v_arg0 I) (v111 I) (v570 I) c1023_i32_374 (v784 I)) K := by
  rcases I with ⟨i, x0, x1, x2, g0, g1, g2, g3, g4, g5, g6, g7, g8, g9, g10, g11, g12, g13, g14, g15, g16, g17, g18, g19, g20, g21, g22, g23, g24, g25, g26, g27, g28, g29, g30, g31, g32, g33, tb⟩; dsimp only
  rw [k0_part21_eq_skeleton]; unfold k0_part21_skel
  iintro ⟨HT, Hk⟩
  sl_exec
  sl_step
  iapply Hk
  isplitr
  · ipureintro; rfl
  iexact HT

theorem part22_val (I : In F c) : k0_part22 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v577 I) (v818 I) c3_i32_390 (v820 I) (v823 I) (v825 I) = pure ⟨v859 I, v868 I, v870 I⟩ := by
  rw [k0_part22_eq_skeleton]; rfl

theorem part23_val (I : In F c) : k0_part23 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v584 I) (v591 I) (v598 I) (v605 I) (v612 I) (v619 I) (v859 I) (v868 I) (v870 I) = pure ⟨v908 I, v910 I, cst_424, v913 I⟩ := by
  rw [k0_part23_eq_skeleton]; rfl

theorem part24_val (I : In F c) : k0_part24 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v626 I) (v633 I) (v640 I) (v647 I) (v654 I) (v859 I) (v908 I) (v910 I) cst_424 (v913 I) = pure ⟨v956 I, v957 I⟩ := by
  rw [k0_part24_eq_skeleton]; rfl

theorem part25_val (I : In F c) : k0_part25 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v661 I) (v668 I) (v675 I) (v682 I) (v689 I) (v696 I) (v859 I) (v956 I) (v957 I) = pure ⟨v996 I, v998 I, v1000 I, cst_457⟩ := by
  rw [k0_part25_eq_skeleton]; rfl

theorem part26_val (I : In F c) : k0_part26 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v703 I) (v710 I) (v717 I) (v724 I) (v731 I) (v859 I) (v996 I) (v998 I) (v1000 I) cst_457 = pure ⟨v1044 I, c23_i32_473⟩ := by
  rw [k0_part26_eq_skeleton]; rfl

theorem part27_val (I : In F c) : k0_part27 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v738 I) (v745 I) (v752 I) (v759 I) (v766 I) (v773 I) (v859 I) (v1044 I) c23_i32_473 = pure ⟨v1084 I, v1086 I, v1088 I⟩ := by
  rw [k0_part27_eq_skeleton]; rfl

theorem part28_val (I : In F c) : k0_part28 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v780 I) (v787 I) (v794 I) (v801 I) (v808 I) (v859 I) (v1084 I) (v1086 I) (v1088 I) = pure (v1132 I) := by
  rw [k0_part28_eq_skeleton]; rfl

theorem part29_run (I : In F c) (E : Set ℕ) (K : (Σ' (v1153 : FVec F S96x4 .f32) (v1154 : IVec S96x1 32) (v1156 : IVec S96x1 32) (v1170 : IVec S96x1 1), IVec S96x1 1) → sProp 𝕄) :
    iprop(owns (c : Thread nD τ) arg3 fullShare I.x1 ∗ (∃ d, owns (c : Thread nD τ) arg39 fullShare d) ∗ (∀ r : (Σ' (v1153 : FVec F S96x4 .f32) (v1154 : IVec S96x1 32) (v1156 : IVec S96x1 32) (v1170 : IVec S96x1 1), IVec S96x1 1), iprop(⌜r = ⟨v1153 I, v1154 I, v1156 I, v1170 I, v1174 I⟩⌝ ∗ owns (c : Thread nD τ) arg3 fullShare I.x1 ∗ owns (c : Thread nD τ) arg39 fullShare (out37 I)) -∗ K r))
      ⊢ wp frame (wpE (defs₀ (F := F)) Variants.none c none) E (k0_part29 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v817 I) (v1132 I)) K := by
  rcases I with ⟨i, x0, x1, x2, g0, g1, g2, g3, g4, g5, g6, g7, g8, g9, g10, g11, g12, g13, g14, g15, g16, g17, g18, g19, g20, g21, g22, g23, g24, g25, g26, g27, g28, g29, g30, g31, g32, g33, tb⟩; dsimp only
  rw [k0_part29_eq_skeleton]; unfold k0_part29_skel
  unfold owns
  iintro ⟨⟨%farg3, %hfarg3, Harg3⟩, ⟨%darg39, %farg39, -, Harg39⟩, Hk⟩
  subst hfarg3
  sl_exec
  sl_step
  iapply Hk
  isplitr
  · ipureintro; rfl
  isplitl [Harg3]
  · iexists _; isplitr; · ipureintro; rfl
    iexact Harg3
  iexists _; isplitr; swap; · iexact Harg39
  ipureintro; exact View.read_writes_eq_canon _ _ _ (cover37 _)

theorem part30_val (I : In F c) : k0_part30 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v577 I) (v584 I) (v591 I) (v1154 I) (v1156 I) (v1170 I) (v1174 I) = pure ⟨v1195 I, v1212 I, v1214 I, cst_539, v1217 I⟩ := by
  rw [k0_part30_eq_skeleton]; rfl

theorem part31_val (I : In F c) : k0_part31 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v598 I) (v605 I) (v612 I) (v619 I) (v626 I) (v1195 I) (v1212 I) (v1214 I) cst_539 (v1217 I) = pure ⟨v1260 I, v1261 I⟩ := by
  rw [k0_part31_eq_skeleton]; rfl

theorem part32_val (I : In F c) : k0_part32 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v633 I) (v640 I) (v647 I) (v654 I) (v661 I) (v668 I) (v1195 I) (v1260 I) (v1261 I) = pure ⟨v1300 I, v1302 I, v1304 I, cst_572⟩ := by
  rw [k0_part32_eq_skeleton]; rfl

theorem part33_val (I : In F c) : k0_part33 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v675 I) (v682 I) (v689 I) (v696 I) (v703 I) (v1195 I) (v1300 I) (v1302 I) (v1304 I) cst_572 = pure ⟨v1348 I, c19_i32_588⟩ := by
  rw [k0_part33_eq_skeleton]; rfl

theorem part34_val (I : In F c) : k0_part34 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v710 I) (v717 I) (v724 I) (v731 I) (v738 I) (v745 I) (v1195 I) (v1348 I) c19_i32_588 = pure ⟨v1388 I, v1390 I, v1392 I⟩ := by
  rw [k0_part34_eq_skeleton]; rfl

theorem part35_val (I : In F c) : k0_part35 (F := F) I.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 (v752 I) (v759 I) (v766 I) (v773 I) (v780 I) (v1195 I) (v1388 I) (v1390 I) (v1392 I) = pure (v1436 I) := by
  rw [k0_part35_eq_skeleton]; rfl

end Cert.KernelIdeal.Own

end
-- ==== Proof.KernelIdeal.Run0.lean ====
/- Call 0's body, run: every output's buffer ends at its named value. -/
module

public import proofs.«01_k».proof.Proof.KernelIdeal.Parts

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body run on whole staging memrefs: the inputs' are handed back as they were and each output's holds its
    named value. -/
theorem assign_run (c : Dev nD) (arg2 : Memref sig .tc .vmem S32x64x256 .f32) (harg2 : arg2.IsWhole) (arg3 : Memref sig .tc .vmem S32x64x3 .f32) (harg3 : arg3.IsWhole) (arg4 : Memref sig .tc .vmem S2048x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1x1x256 .f32) (harg13 : arg13.IsWhole) (arg14 : Memref sig .tc .vmem S1x1x256 .f32) (harg14 : arg14.IsWhole) (arg15 : Memref sig .tc .vmem S1x1x256 .f32) (harg15 : arg15.IsWhole) (arg16 : Memref sig .tc .vmem S1x1x256 .f32) (harg16 : arg16.IsWhole) (arg17 : Memref sig .tc .vmem S1x1x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S1x1x256 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x1x256 .f32) (harg23 : arg23.IsWhole) (arg24 : Memref sig .tc .vmem S1x1x256 .f32) (harg24 : arg24.IsWhole) (arg25 : Memref sig .tc .vmem S1x1x256 .f32) (harg25 : arg25.IsWhole) (arg26 : Memref sig .tc .vmem S1x1x256 .f32) (harg26 : arg26.IsWhole) (arg27 : Memref sig .tc .vmem S1x1x256 .f32) (harg27 : arg27.IsWhole) (arg28 : Memref sig .tc .vmem S1x1x256 .f32) (harg28 : arg28.IsWhole) (arg29 : Memref sig .tc .vmem S1x1x256 .f32) (harg29 : arg29.IsWhole) (arg30 : Memref sig .tc .vmem S1x1x256 .f32) (harg30 : arg30.IsWhole) (arg31 : Memref sig .tc .vmem S1x1x256 .f32) (harg31 : arg31.IsWhole) (arg32 : Memref sig .tc .vmem S1x1x256 .f32) (harg32 : arg32.IsWhole) (arg33 : Memref sig .tc .vmem S1x1x256 .f32) (harg33 : arg33.IsWhole) (arg34 : Memref sig .tc .vmem S1x1x256 .f32) (harg34 : arg34.IsWhole) (arg35 : Memref sig .tc .vmem S1x1x256 .f32) (harg35 : arg35.IsWhole) (arg36 : Memref sig .tc .vmem S1x1x256 .f32) (harg36 : arg36.IsWhole) (arg37 : Memref sig .tc .vmem S1x1x256 .f32) (harg37 : arg37.IsWhole) (arg38 : Memref sig .tc .vmem S1x1x256 .f32) (harg38 : arg38.IsWhole) (arg39 : Memref sig .tc .vmem S1x1x2048 .i32) (harg39 : arg39.IsWhole) (arg40 : Memref sig .tc .vmem S1x96x5 .f32) (harg40 : arg40.IsWhole) (arg41 : Memref sig .tc .vmem S32x64x256 .f32) (harg41 : arg41.IsWhole) (arg42 : Memref sig .tc .vmem S64x32x256 .f32) (harg42 : arg42.IsWhole)
    (I : In F c) :
      ∀ (E : Set ℕ) (K : PUnit → sProp 𝕄),
        iprop(owns (c : Thread nD τ) arg2 fullShare I.x0 ∗ owns (c : Thread nD τ) arg3 fullShare I.x1 ∗ owns (c : Thread nD τ) arg4 fullShare I.x2 ∗ owns (c : Thread nD τ) arg5 fullShare I.g0 ∗ owns (c : Thread nD τ) arg6 fullShare I.g1 ∗ owns (c : Thread nD τ) arg7 fullShare I.g2 ∗ owns (c : Thread nD τ) arg8 fullShare I.g3 ∗ owns (c : Thread nD τ) arg9 fullShare I.g4 ∗ owns (c : Thread nD τ) arg10 fullShare I.g5 ∗ owns (c : Thread nD τ) arg11 fullShare I.g6 ∗ owns (c : Thread nD τ) arg12 fullShare I.g7 ∗ owns (c : Thread nD τ) arg13 fullShare I.g8 ∗ owns (c : Thread nD τ) arg14 fullShare I.g9 ∗ owns (c : Thread nD τ) arg15 fullShare I.g10 ∗ owns (c : Thread nD τ) arg16 fullShare I.g11 ∗ owns (c : Thread nD τ) arg17 fullShare I.g12 ∗ owns (c : Thread nD τ) arg18 fullShare I.g13 ∗ owns (c : Thread nD τ) arg19 fullShare I.g14 ∗ owns (c : Thread nD τ) arg20 fullShare I.g15 ∗ owns (c : Thread nD τ) arg21 fullShare I.g16 ∗ owns (c : Thread nD τ) arg22 fullShare I.g17 ∗ owns (c : Thread nD τ) arg23 fullShare I.g18 ∗ owns (c : Thread nD τ) arg24 fullShare I.g19 ∗ owns (c : Thread nD τ) arg25 fullShare I.g20 ∗ owns (c : Thread nD τ) arg26 fullShare I.g21 ∗ owns (c : Thread nD τ) arg27 fullShare I.g22 ∗ owns (c : Thread nD τ) arg28 fullShare I.g23 ∗ owns (c : Thread nD τ) arg29 fullShare I.g24 ∗ owns (c : Thread nD τ) arg30 fullShare I.g25 ∗ owns (c : Thread nD τ) arg31 fullShare I.g26 ∗ owns (c : Thread nD τ) arg32 fullShare I.g27 ∗ owns (c : Thread nD τ) arg33 fullShare I.g28 ∗ owns (c : Thread nD τ) arg34 fullShare I.g29 ∗ owns (c : Thread nD τ) arg35 fullShare I.g30 ∗ owns (c : Thread nD τ) arg36 fullShare I.g31 ∗ owns (c : Thread nD τ) arg37 fullShare I.g32 ∗ owns (c : Thread nD τ) arg38 fullShare I.g33 ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ tbPt0 c tbM0_0 I.tb
            ∗ (iprop(owns (c : Thread nD τ) arg2 fullShare I.x0 ∗ owns (c : Thread nD τ) arg3 fullShare I.x1 ∗ owns (c : Thread nD τ) arg4 fullShare I.x2 ∗ owns (c : Thread nD τ) arg5 fullShare I.g0 ∗ owns (c : Thread nD τ) arg6 fullShare I.g1 ∗ owns (c : Thread nD τ) arg7 fullShare I.g2 ∗ owns (c : Thread nD τ) arg8 fullShare I.g3 ∗ owns (c : Thread nD τ) arg9 fullShare I.g4 ∗ owns (c : Thread nD τ) arg10 fullShare I.g5 ∗ owns (c : Thread nD τ) arg11 fullShare I.g6 ∗ owns (c : Thread nD τ) arg12 fullShare I.g7 ∗ owns (c : Thread nD τ) arg13 fullShare I.g8 ∗ owns (c : Thread nD τ) arg14 fullShare I.g9 ∗ owns (c : Thread nD τ) arg15 fullShare I.g10 ∗ owns (c : Thread nD τ) arg16 fullShare I.g11 ∗ owns (c : Thread nD τ) arg17 fullShare I.g12 ∗ owns (c : Thread nD τ) arg18 fullShare I.g13 ∗ owns (c : Thread nD τ) arg19 fullShare I.g14 ∗ owns (c : Thread nD τ) arg20 fullShare I.g15 ∗ owns (c : Thread nD τ) arg21 fullShare I.g16 ∗ owns (c : Thread nD τ) arg22 fullShare I.g17 ∗ owns (c : Thread nD τ) arg23 fullShare I.g18 ∗ owns (c : Thread nD τ) arg24 fullShare I.g19 ∗ owns (c : Thread nD τ) arg25 fullShare I.g20 ∗ owns (c : Thread nD τ) arg26 fullShare I.g21 ∗ owns (c : Thread nD τ) arg27 fullShare I.g22 ∗ owns (c : Thread nD τ) arg28 fullShare I.g23 ∗ owns (c : Thread nD τ) arg29 fullShare I.g24 ∗ owns (c : Thread nD τ) arg30 fullShare I.g25 ∗ owns (c : Thread nD τ) arg31 fullShare I.g26 ∗ owns (c : Thread nD τ) arg32 fullShare I.g27 ∗ owns (c : Thread nD τ) arg33 fullShare I.g28 ∗ owns (c : Thread nD τ) arg34 fullShare I.g29 ∗ owns (c : Thread nD τ) arg35 fullShare I.g30 ∗ owns (c : Thread nD τ) arg36 fullShare I.g31 ∗ owns (c : Thread nD τ) arg37 fullShare I.g32 ∗ owns (c : Thread nD τ) arg38 fullShare I.g33 ∗ owns (c : Thread nD τ) arg39 fullShare (out37 I) ∗ owns (c : Thread nD τ) arg40 fullShare (out38 I) ∗ owns (c : Thread nD τ) arg41 fullShare (out39 I) ∗ owns (c : Thread nD τ) arg42 fullShare (out40 I) ∗ tbPt0 c tbM0_0 I.tb) -∗ K ⟨⟩))
          ⊢ wp frame (wpE (defs₀ (F := F)) Variants.none c none) E (cc0__assign_body I.i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K := by
  intro E K
  rw [cc0__assign_body_eq_skeleton]; unfold cc0__assign_body_skel
  rw [k0_part36_eq_skeleton]; unfold k0_part36_skel
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, HT0, Hk⟩
  rw [wp_bind]
  rw [wp_bind]
  iapply (part1_run I E _)
  isplitl [H2]; · iexact H2
  isplitl [H0]; · iexact H0
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H39]; · iexact H39
  isplitl [H40]; · iexact H40
  iintro %r ⟨%hr, H2, H0, H3, H4, H5, H6, H7, H8, H9, H10, H39, H40⟩
  subst hr; try dsimp only
  rw [wp_bind]
  iapply (part2_run I E _)
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro %r ⟨%hr, H11, H12, H13, H14, H15, H16, H17, H18, H19, H20, H21, H22⟩
  subst hr; try dsimp only
  rw [wp_bind]
  iapply (part3_run I E _)
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iintro %r ⟨%hr, H23, H24, H25, H26, H27, H28, H29, H30, H31, H32, H33, H34⟩
  subst hr; try dsimp only
  rw [wp_bind]
  iapply (part4_run I E _)
  isplitl [H35]; · iexact H35
  isplitl [H36]; · iexact H36
  iintro %r ⟨%hr, H35, H36⟩
  subst hr; try dsimp only
  rw [part5_val I, pure_bind]; try dsimp only
  rw [part6_val I, pure_bind]; try dsimp only
  rw [part7_val I, pure_bind]; try dsimp only
  rw [part8_val I, pure_bind]; try dsimp only
  rw [part9_val I, pure_bind]; try dsimp only
  rw [part10_val I, pure_bind]; try dsimp only
  rw [part11_val I, pure_bind]; try dsimp only
  rw [part12_val I, pure_bind]; try dsimp only
  rw [part13_val I, pure_bind]; try dsimp only
  rw [part14_val I, pure_bind]; try dsimp only
  rw [wp_bind]
  iapply (part15_run I E _)
  isplitl [HT0]; · iexact HT0
  iintro %r ⟨%hr, HT0⟩
  subst hr; try dsimp only
  rw [wp_bind]
  iapply (part16_run I E _)
  isplitl [HT0]; · iexact HT0
  iintro %r ⟨%hr, HT0⟩
  subst hr; try dsimp only
  rw [wp_bind]
  iapply (part17_run I E _)
  isplitl [HT0]; · iexact HT0
  iintro %r ⟨%hr, HT0⟩
  subst hr; try dsimp only
  rw [wp_bind]
  iapply (part18_run I E _)
  isplitl [HT0]; · iexact HT0
  iintro %r ⟨%hr, HT0⟩
  subst hr; try dsimp only
  rw [wp_bind]
  iapply (part19_run I E _)
  isplitl [HT0]; · iexact HT0
  iintro %r ⟨%hr, HT0⟩
  subst hr; try dsimp only
  rw [wp_bind]
  iapply (part20_run I E _)
  isplitl [HT0]; · iexact HT0
  iintro %r ⟨%hr, HT0⟩
  subst hr; try dsimp only
  rw [wp_bind]
  iapply (part21_run I E _)
  isplitl [HT0]; · iexact HT0
  iintro %r ⟨%hr, HT0⟩
  subst hr; try dsimp only
  rw [part22_val I, pure_bind]; try dsimp only
  rw [part23_val I, pure_bind]; try dsimp only
  rw [part24_val I, pure_bind]; try dsimp only
  rw [part25_val I, pure_bind]; try dsimp only
  rw [part26_val I, pure_bind]; try dsimp only
  rw [part27_val I, pure_bind]; try dsimp only
  rw [part28_val I, pure_bind]; try dsimp only
  rw [wp_bind]
  iapply (part29_run I E _)
  isplitl [H1]; · iexact H1
  isplitl [H37]; · iexact H37
  iintro %r ⟨%hr, H1, H37⟩
  subst hr; try dsimp only
  rw [part30_val I, pure_bind]; try dsimp only
  rw [part31_val I, pure_bind]; try dsimp only
  rw [part32_val I, pure_bind]; try dsimp only
  rw [part33_val I, pure_bind]; try dsimp only
  rw [part34_val I, pure_bind]; try dsimp only
  rw [part35_val I, pure_bind]; try dsimp only
  rw [wp_pure]; dsimp only
  imodintro
  unfold owns
  icases H38 with ⟨%d38, %f38, -, H38⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]
  · iexists _; isplitr; swap; · iexact H38
    ipureintro; exact View.read_writes_eq_canon _ _ _ (cover38 _)
  isplitl [H39]; · iexact H39
  isplitl [H40]; · iexact H40
  iexact HT0

end Cert.KernelIdeal.Own

end
-- ==== Proof.KernelIdeal.Dat0.lean ====
/- Call 0's proof data and body obligation. -/
module

public import proofs.«01_k».proof.Proof.KernelIdeal.Run0

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body reads at point `t`: the point, the windows' blocks and the table. -/
def inAt (hO : Ok m) (c : Dev nD) (t : Fin (cfgM m hO).N) : In F c where
  i := grid0.coords t
  x0 := iblk m hO c 0 t
  x1 := iblk m hO c 1 t
  x2 := iblk m hO c 2 t
  g0 := iblk m hO c 3 t
  g1 := iblk m hO c 4 t
  g2 := iblk m hO c 5 t
  g3 := iblk m hO c 6 t
  g4 := iblk m hO c 7 t
  g5 := iblk m hO c 8 t
  g6 := iblk m hO c 9 t
  g7 := iblk m hO c 10 t
  g8 := iblk m hO c 11 t
  g9 := iblk m hO c 12 t
  g10 := iblk m hO c 13 t
  g11 := iblk m hO c 14 t
  g12 := iblk m hO c 15 t
  g13 := iblk m hO c 16 t
  g14 := iblk m hO c 17 t
  g15 := iblk m hO c 18 t
  g16 := iblk m hO c 19 t
  g17 := iblk m hO c 20 t
  g18 := iblk m hO c 21 t
  g19 := iblk m hO c 22 t
  g20 := iblk m hO c 23 t
  g21 := iblk m hO c 24 t
  g22 := iblk m hO c 25 t
  g23 := iblk m hO c 26 t
  g24 := iblk m hO c 27 t
  g25 := iblk m hO c 28 t
  g26 := iblk m hO c 29 t
  g27 := iblk m hO c 30 t
  g28 := iblk m hO c 31 t
  g29 := iblk m hO c 32 t
  g30 := iblk m hO c 33 t
  g31 := iblk m hO c 34 t
  g32 := iblk m hO c 35 t
  g33 := iblk m hO c 36 t
  tb := tbl m 0

/-- Call 0's proof data on core `c`: the arrays as the region finds them; after the body each input's buffer at its
    block and each output's at its named value; the invariant keeps the scoped rest, the generator register and the
    whole tables; nothing owed. -/
def dat0 (hO : Ok m) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => iblk m hO c 34 t
    | ⟨35, _⟩ => iblk m hO c 35 t
    | ⟨36, _⟩ => iblk m hO c 36 t
    | ⟨37, _⟩ => out37 (inAt m hO c t)
    | ⟨38, _⟩ => out38 (inAt m hO c t)
    | ⟨39, _⟩ => out39 (inAt m hO c t)
    | ⟨40, _⟩ => out40 (inAt m hO c t)
    | ⟨_ + 41, h⟩ => absurd h (Nat.not_lt.2 (Nat.le_add_left _ _))
  Φ _ := iprop(Pipeline.ΦA spec0 c ∗ Pipeline.prefHeld pre0 c (fun _ => fullShare) (tbl m))
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dat0 m hO c).A w = V m c (Pipeline.arrRef spec0 w) := by
  dsimp only [dat0]

/-- What the body leaves, window by window (the proof data's `match` reduced by `dsimp`). -/
theorem after0_0 (hO : Ok m) (c : Dev nD) (t : Fin (cfgM m hO).N) : (dat0 m hO c).after 0 t = iblk m hO c 0 t := by dsimp only [dat0]; try rfl
theorem after0_1 (hO : Ok m) (c : Dev nD) (t : Fin (cfgM m hO).N) : (dat0 m hO c).after 1 t = iblk m hO c 1 t := by dsimp only [dat0]; try rfl
theorem after0_2 (hO : Ok m) (c : Dev nD) (t : Fin (cfgM m hO).N) : (dat0 m hO c).after 2 t = iblk m hO c 2 t := by dsimp only [dat0]; try rfl
theorem after0_3 (hO : Ok m) (c : Dev nD) (t : Fin (cfgM m hO).N) : (dat0 m hO c).after 3 t = iblk m hO c 3 t := by dsimp only [dat0]; try rfl
theorem after0_4 (hO : Ok m) (c : Dev nD) (t : Fin (cfgM m hO).N) : (dat0 m hO c).after 4 t = iblk m hO c 4 t := by dsimp only [dat0]; try rfl
theorem after0_5 (hO : Ok m) (c : Dev nD) (t : Fin (cfgM m hO).N) : (dat0 m hO c).after 5 t = iblk m hO c 5 t := by dsimp only [dat0]; try rfl
theorem after0_6 (hO : Ok m) (c : Dev nD) (t : Fin (cfgM m hO).N) : (dat0 m hO c).after 6 t = iblk m hO c 6 t := by dsimp only [dat0]; try rfl
theorem after0_7 (hO : Ok m) (c : Dev nD) (t : Fin (cfgM m hO).N) : (dat0 m hO c).after 7 t = iblk m hO c 7 t := by dsimp only [dat0]; try rfl
theorem after0_8 (hO : Ok m) (c : Dev nD) (t : Fin (cfgM m hO).N) : (dat0 m hO c).after 8 t = iblk m hO c 8 t := by dsimp only [dat0]; try rfl
theorem after0_9 (hO : Ok m) (c : Dev nD) (t : Fin (cfgM m hO).N) : (dat0 m hO c).after 9 t = iblk m hO c 9 t := by dsimp only [dat0]; try rfl
theorem after0_10 (hO : Ok m) (c : Dev nD) (t : Fin (cfgM m hO).N) : (dat0 m hO c).after 10 t = iblk m hO c 10 t := by dsimp only [dat0]; try rfl
theorem after0_11 (hO : Ok m) (c : Dev nD) (t : Fin (cfgM m hO).N) : (dat0 m hO c).after 11 t = iblk m hO c 11 t := by dsimp only [dat0]; try rfl
theorem after0_12 (hO : Ok m) (c : Dev nD) (t : Fin (cfgM m hO).N) : (dat0 m hO c).after 12 t = iblk m hO c 12 t := by dsimp only [dat0]; try rfl
theorem after0_13 (hO : Ok m) (c : Dev nD) (t : Fin (cfgM m hO).N) : (dat0 m hO c).after 13 t = iblk m hO c 13 t := by dsimp only [dat0]; try rfl
theorem after0_14 (hO : Ok m) (c : Dev nD) (t : Fin (cfgM m hO).N) : (dat0 m hO c).after 14 t = iblk m hO c 14 t := by dsimp only [dat0]; try rfl
theorem after0_15 (hO : Ok m) (c : Dev nD) (t : Fin (cfgM m hO).N) : (dat0 m hO c).after 15 t = iblk m hO c 15 t := by dsimp only [dat0]; try rfl
theorem after0_16 (hO : Ok m) (c : Dev nD) (t : Fin (cfgM m hO).N) : (dat0 m hO c).after 16 t = iblk m hO c 16 t := by dsimp only [dat0]; try rfl
theorem after0_17 (hO : Ok m) (c : Dev nD) (t : Fin (cfgM m hO).N) : (dat0 m hO c).after 17 t = iblk m hO c 17 t := by dsimp only [dat0]; try rfl
theorem after0_18 (hO : Ok m) (c : Dev nD) (t : Fin (cfgM m hO).N) : (dat0 m hO c).after 18 t = iblk m hO c 18 t := by dsimp only [dat0]; try rfl
theorem after0_19 (hO : Ok m) (c : Dev nD) (t : Fin (cfgM m hO).N) : (dat0 m hO c).after 19 t = iblk m hO c 19 t := by dsimp only [dat0]; try rfl
theorem after0_20 (hO : Ok m) (c : Dev nD) (t : Fin (cfgM m hO).N) : (dat0 m hO c).after 20 t = iblk m hO c 20 t := by dsimp only [dat0]; try rfl
theorem after0_21 (hO : Ok m) (c : Dev nD) (t : Fin (cfgM m hO).N) : (dat0 m hO c).after 21 t = iblk m hO c 21 t := by dsimp only [dat0]; try rfl
theorem after0_22 (hO : Ok m) (c : Dev nD) (t : Fin (cfgM m hO).N) : (dat0 m hO c).after 22 t = iblk m hO c 22 t := by dsimp only [dat0]; try rfl
theorem after0_23 (hO : Ok m) (c : Dev nD) (t : Fin (cfgM m hO).N) : (dat0 m hO c).after 23 t = iblk m hO c 23 t := by dsimp only [dat0]; try rfl
theorem after0_24 (hO : Ok m) (c : Dev nD) (t : Fin (cfgM m hO).N) : (dat0 m hO c).after 24 t = iblk m hO c 24 t := by dsimp only [dat0]; try rfl
theorem after0_25 (hO : Ok m) (c : Dev nD) (t : Fin (cfgM m hO).N) : (dat0 m hO c).after 25 t = iblk m hO c 25 t := by dsimp only [dat0]; try rfl
theorem after0_26 (hO : Ok m) (c : Dev nD) (t : Fin (cfgM m hO).N) : (dat0 m hO c).after 26 t = iblk m hO c 26 t := by dsimp only [dat0]; try rfl
theorem after0_27 (hO : Ok m) (c : Dev nD) (t : Fin (cfgM m hO).N) : (dat0 m hO c).after 27 t = iblk m hO c 27 t := by dsimp only [dat0]; try rfl
theorem after0_28 (hO : Ok m) (c : Dev nD) (t : Fin (cfgM m hO).N) : (dat0 m hO c).after 28 t = iblk m hO c 28 t := by dsimp only [dat0]; try rfl
theorem after0_29 (hO : Ok m) (c : Dev nD) (t : Fin (cfgM m hO).N) : (dat0 m hO c).after 29 t = iblk m hO c 29 t := by dsimp only [dat0]; try rfl
theorem after0_30 (hO : Ok m) (c : Dev nD) (t : Fin (cfgM m hO).N) : (dat0 m hO c).after 30 t = iblk m hO c 30 t := by dsimp only [dat0]; try rfl
theorem after0_31 (hO : Ok m) (c : Dev nD) (t : Fin (cfgM m hO).N) : (dat0 m hO c).after 31 t = iblk m hO c 31 t := by dsimp only [dat0]; try rfl
theorem after0_32 (hO : Ok m) (c : Dev nD) (t : Fin (cfgM m hO).N) : (dat0 m hO c).after 32 t = iblk m hO c 32 t := by dsimp only [dat0]; try rfl
theorem after0_33 (hO : Ok m) (c : Dev nD) (t : Fin (cfgM m hO).N) : (dat0 m hO c).after 33 t = iblk m hO c 33 t := by dsimp only [dat0]; try rfl
theorem after0_34 (hO : Ok m) (c : Dev nD) (t : Fin (cfgM m hO).N) : (dat0 m hO c).after 34 t = iblk m hO c 34 t := by dsimp only [dat0]; try rfl
theorem after0_35 (hO : Ok m) (c : Dev nD) (t : Fin (cfgM m hO).N) : (dat0 m hO c).after 35 t = iblk m hO c 35 t := by dsimp only [dat0]; try rfl
theorem after0_36 (hO : Ok m) (c : Dev nD) (t : Fin (cfgM m hO).N) : (dat0 m hO c).after 36 t = iblk m hO c 36 t := by dsimp only [dat0]; try rfl
theorem after0_37 (hO : Ok m) (c : Dev nD) (t : Fin (cfgM m hO).N) : (dat0 m hO c).after 37 t = out37 (inAt m hO c t) := by dsimp only [dat0]; try rfl
theorem after0_38 (hO : Ok m) (c : Dev nD) (t : Fin (cfgM m hO).N) : (dat0 m hO c).after 38 t = out38 (inAt m hO c t) := by dsimp only [dat0]; try rfl
theorem after0_39 (hO : Ok m) (c : Dev nD) (t : Fin (cfgM m hO).N) : (dat0 m hO c).after 39 t = out39 (inAt m hO c t) := by dsimp only [dat0]; try rfl
theorem after0_40 (hO : Ok m) (c : Dev nD) (t : Fin (cfgM m hO).N) : (dat0 m hO c).after 40 t = out40 (inAt m hO c t) := by dsimp only [dat0]; try rfl

/-- Each input's current staging buffer holds its block at every point, fetched there or not (`beforeK_W_of`). -/
theorem before0_0 (hO : Ok m) (c : Dev nD) (t : Fin (cfgM m hO).N) (d) : (dat0 m hO c).before 0 t d = iblk m hO c 0 t :=
  before0_0_of (dat0 m hO c) (A_eq m hO c 0) (after0_0 m hO c) t d
theorem before0_1 (hO : Ok m) (c : Dev nD) (t : Fin (cfgM m hO).N) (d) : (dat0 m hO c).before 1 t d = iblk m hO c 1 t :=
  before0_1_of (dat0 m hO c) (A_eq m hO c 1) (after0_1 m hO c) t d
theorem before0_2 (hO : Ok m) (c : Dev nD) (t : Fin (cfgM m hO).N) (d) : (dat0 m hO c).before 2 t d = iblk m hO c 2 t :=
  before0_2_of (dat0 m hO c) (A_eq m hO c 2) (after0_2 m hO c) t d
theorem before0_3 (hO : Ok m) (c : Dev nD) (t : Fin (cfgM m hO).N) (d) : (dat0 m hO c).before 3 t d = iblk m hO c 3 t :=
  before0_3_of (dat0 m hO c) (A_eq m hO c 3) (after0_3 m hO c) t d
theorem before0_4 (hO : Ok m) (c : Dev nD) (t : Fin (cfgM m hO).N) (d) : (dat0 m hO c).before 4 t d = iblk m hO c 4 t :=
  before0_4_of (dat0 m hO c) (A_eq m hO c 4) (after0_4 m hO c) t d
theorem before0_5 (hO : Ok m) (c : Dev nD) (t : Fin (cfgM m hO).N) (d) : (dat0 m hO c).before 5 t d = iblk m hO c 5 t :=
  before0_5_of (dat0 m hO c) (A_eq m hO c 5) (after0_5 m hO c) t d
theorem before0_6 (hO : Ok m) (c : Dev nD) (t : Fin (cfgM m hO).N) (d) : (dat0 m hO c).before 6 t d = iblk m hO c 6 t :=
  before0_6_of (dat0 m hO c) (A_eq m hO c 6) (after0_6 m hO c) t d
theorem before0_7 (hO : Ok m) (c : Dev nD) (t : Fin (cfgM m hO).N) (d) : (dat0 m hO c).before 7 t d = iblk m hO c 7 t :=
  before0_7_of (dat0 m hO c) (A_eq m hO c 7) (after0_7 m hO c) t d
theorem before0_8 (hO : Ok m) (c : Dev nD) (t : Fin (cfgM m hO).N) (d) : (dat0 m hO c).before 8 t d = iblk m hO c 8 t :=
  before0_8_of (dat0 m hO c) (A_eq m hO c 8) (after0_8 m hO c) t d
theorem before0_9 (hO : Ok m) (c : Dev nD) (t : Fin (cfgM m hO).N) (d) : (dat0 m hO c).before 9 t d = iblk m hO c 9 t :=
  before0_9_of (dat0 m hO c) (A_eq m hO c 9) (after0_9 m hO c) t d
theorem before0_10 (hO : Ok m) (c : Dev nD) (t : Fin (cfgM m hO).N) (d) : (dat0 m hO c).before 10 t d = iblk m hO c 10 t :=
  before0_10_of (dat0 m hO c) (A_eq m hO c 10) (after0_10 m hO c) t d
theorem before0_11 (hO : Ok m) (c : Dev nD) (t : Fin (cfgM m hO).N) (d) : (dat0 m hO c).before 11 t d = iblk m hO c 11 t :=
  before0_11_of (dat0 m hO c) (A_eq m hO c 11) (after0_11 m hO c) t d
theorem before0_12 (hO : Ok m) (c : Dev nD) (t : Fin (cfgM m hO).N) (d) : (dat0 m hO c).before 12 t d = iblk m hO c 12 t :=
  before0_12_of (dat0 m hO c) (A_eq m hO c 12) (after0_12 m hO c) t d
theorem before0_13 (hO : Ok m) (c : Dev nD) (t : Fin (cfgM m hO).N) (d) : (dat0 m hO c).before 13 t d = iblk m hO c 13 t :=
  before0_13_of (dat0 m hO c) (A_eq m hO c 13) (after0_13 m hO c) t d
theorem before0_14 (hO : Ok m) (c : Dev nD) (t : Fin (cfgM m hO).N) (d) : (dat0 m hO c).before 14 t d = iblk m hO c 14 t :=
  before0_14_of (dat0 m hO c) (A_eq m hO c 14) (after0_14 m hO c) t d
theorem before0_15 (hO : Ok m) (c : Dev nD) (t : Fin (cfgM m hO).N) (d) : (dat0 m hO c).before 15 t d = iblk m hO c 15 t :=
  before0_15_of (dat0 m hO c) (A_eq m hO c 15) (after0_15 m hO c) t d
theorem before0_16 (hO : Ok m) (c : Dev nD) (t : Fin (cfgM m hO).N) (d) : (dat0 m hO c).before 16 t d = iblk m hO c 16 t :=
  before0_16_of (dat0 m hO c) (A_eq m hO c 16) (after0_16 m hO c) t d
theorem before0_17 (hO : Ok m) (c : Dev nD) (t : Fin (cfgM m hO).N) (d) : (dat0 m hO c).before 17 t d = iblk m hO c 17 t :=
  before0_17_of (dat0 m hO c) (A_eq m hO c 17) (after0_17 m hO c) t d
theorem before0_18 (hO : Ok m) (c : Dev nD) (t : Fin (cfgM m hO).N) (d) : (dat0 m hO c).before 18 t d = iblk m hO c 18 t :=
  before0_18_of (dat0 m hO c) (A_eq m hO c 18) (after0_18 m hO c) t d
theorem before0_19 (hO : Ok m) (c : Dev nD) (t : Fin (cfgM m hO).N) (d) : (dat0 m hO c).before 19 t d = iblk m hO c 19 t :=
  before0_19_of (dat0 m hO c) (A_eq m hO c 19) (after0_19 m hO c) t d
theorem before0_20 (hO : Ok m) (c : Dev nD) (t : Fin (cfgM m hO).N) (d) : (dat0 m hO c).before 20 t d = iblk m hO c 20 t :=
  before0_20_of (dat0 m hO c) (A_eq m hO c 20) (after0_20 m hO c) t d
theorem before0_21 (hO : Ok m) (c : Dev nD) (t : Fin (cfgM m hO).N) (d) : (dat0 m hO c).before 21 t d = iblk m hO c 21 t :=
  before0_21_of (dat0 m hO c) (A_eq m hO c 21) (after0_21 m hO c) t d
theorem before0_22 (hO : Ok m) (c : Dev nD) (t : Fin (cfgM m hO).N) (d) : (dat0 m hO c).before 22 t d = iblk m hO c 22 t :=
  before0_22_of (dat0 m hO c) (A_eq m hO c 22) (after0_22 m hO c) t d
theorem before0_23 (hO : Ok m) (c : Dev nD) (t : Fin (cfgM m hO).N) (d) : (dat0 m hO c).before 23 t d = iblk m hO c 23 t :=
  before0_23_of (dat0 m hO c) (A_eq m hO c 23) (after0_23 m hO c) t d
theorem before0_24 (hO : Ok m) (c : Dev nD) (t : Fin (cfgM m hO).N) (d) : (dat0 m hO c).before 24 t d = iblk m hO c 24 t :=
  before0_24_of (dat0 m hO c) (A_eq m hO c 24) (after0_24 m hO c) t d
theorem before0_25 (hO : Ok m) (c : Dev nD) (t : Fin (cfgM m hO).N) (d) : (dat0 m hO c).before 25 t d = iblk m hO c 25 t :=
  before0_25_of (dat0 m hO c) (A_eq m hO c 25) (after0_25 m hO c) t d
theorem before0_26 (hO : Ok m) (c : Dev nD) (t : Fin (cfgM m hO).N) (d) : (dat0 m hO c).before 26 t d = iblk m hO c 26 t :=
  before0_26_of (dat0 m hO c) (A_eq m hO c 26) (after0_26 m hO c) t d
theorem before0_27 (hO : Ok m) (c : Dev nD) (t : Fin (cfgM m hO).N) (d) : (dat0 m hO c).before 27 t d = iblk m hO c 27 t :=
  before0_27_of (dat0 m hO c) (A_eq m hO c 27) (after0_27 m hO c) t d
theorem before0_28 (hO : Ok m) (c : Dev nD) (t : Fin (cfgM m hO).N) (d) : (dat0 m hO c).before 28 t d = iblk m hO c 28 t :=
  before0_28_of (dat0 m hO c) (A_eq m hO c 28) (after0_28 m hO c) t d
theorem before0_29 (hO : Ok m) (c : Dev nD) (t : Fin (cfgM m hO).N) (d) : (dat0 m hO c).before 29 t d = iblk m hO c 29 t :=
  before0_29_of (dat0 m hO c) (A_eq m hO c 29) (after0_29 m hO c) t d
theorem before0_30 (hO : Ok m) (c : Dev nD) (t : Fin (cfgM m hO).N) (d) : (dat0 m hO c).before 30 t d = iblk m hO c 30 t :=
  before0_30_of (dat0 m hO c) (A_eq m hO c 30) (after0_30 m hO c) t d
theorem before0_31 (hO : Ok m) (c : Dev nD) (t : Fin (cfgM m hO).N) (d) : (dat0 m hO c).before 31 t d = iblk m hO c 31 t :=
  before0_31_of (dat0 m hO c) (A_eq m hO c 31) (after0_31 m hO c) t d
theorem before0_32 (hO : Ok m) (c : Dev nD) (t : Fin (cfgM m hO).N) (d) : (dat0 m hO c).before 32 t d = iblk m hO c 32 t :=
  before0_32_of (dat0 m hO c) (A_eq m hO c 32) (after0_32 m hO c) t d
theorem before0_33 (hO : Ok m) (c : Dev nD) (t : Fin (cfgM m hO).N) (d) : (dat0 m hO c).before 33 t d = iblk m hO c 33 t :=
  before0_33_of (dat0 m hO c) (A_eq m hO c 33) (after0_33 m hO c) t d
theorem before0_34 (hO : Ok m) (c : Dev nD) (t : Fin (cfgM m hO).N) (d) : (dat0 m hO c).before 34 t d = iblk m hO c 34 t :=
  before0_34_of (dat0 m hO c) (A_eq m hO c 34) (after0_34 m hO c) t d
theorem before0_35 (hO : Ok m) (c : Dev nD) (t : Fin (cfgM m hO).N) (d) : (dat0 m hO c).before 35 t d = iblk m hO c 35 t :=
  before0_35_of (dat0 m hO c) (A_eq m hO c 35) (after0_35 m hO c) t d
theorem before0_36 (hO : Ok m) (c : Dev nD) (t : Fin (cfgM m hO).N) (d) : (dat0 m hO c).before 36 t d = iblk m hO c 36 t :=
  before0_36_of (dat0 m hO c) (A_eq m hO c 36) (after0_36 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dat0 m hO c).Φ t.castSucc ∗ (dat0 m hO c).owesAt () t.castSucc
    ∗ (∃ d, owns (c : Thread nD τ) (ms0_0 m hO t) fullShare ((dat0 m hO c).before 0 t d))
    ∗ (∃ d, owns (c : Thread nD τ) (ms0_1 m hO t) fullShare ((dat0 m hO c).before 1 t d))
    ∗ (∃ d, owns (c : Thread nD τ) (ms0_2 m hO t) fullShare ((dat0 m hO c).before 2 t d))
    ∗ (∃ d, owns (c : Thread nD τ) (ms0_3 m hO t) fullShare ((dat0 m hO c).before 3 t d))
    ∗ (∃ d, owns (c : Thread nD τ) (ms0_4 m hO t) fullShare ((dat0 m hO c).before 4 t d))
    ∗ (∃ d, owns (c : Thread nD τ) (ms0_5 m hO t) fullShare ((dat0 m hO c).before 5 t d))
    ∗ (∃ d, owns (c : Thread nD τ) (ms0_6 m hO t) fullShare ((dat0 m hO c).before 6 t d))
    ∗ (∃ d, owns (c : Thread nD τ) (ms0_7 m hO t) fullShare ((dat0 m hO c).before 7 t d))
    ∗ (∃ d, owns (c : Thread nD τ) (ms0_8 m hO t) fullShare ((dat0 m hO c).before 8 t d))
    ∗ (∃ d, owns (c : Thread nD τ) (ms0_9 m hO t) fullShare ((dat0 m hO c).before 9 t d))
    ∗ (∃ d, owns (c : Thread nD τ) (ms0_10 m hO t) fullShare ((dat0 m hO c).before 10 t d))
    ∗ (∃ d, owns (c : Thread nD τ) (ms0_11 m hO t) fullShare ((dat0 m hO c).before 11 t d))
    ∗ (∃ d, owns (c : Thread nD τ) (ms0_12 m hO t) fullShare ((dat0 m hO c).before 12 t d))
    ∗ (∃ d, owns (c : Thread nD τ) (ms0_13 m hO t) fullShare ((dat0 m hO c).before 13 t d))
    ∗ (∃ d, owns (c : Thread nD τ) (ms0_14 m hO t) fullShare ((dat0 m hO c).before 14 t d))
    ∗ (∃ d, owns (c : Thread nD τ) (ms0_15 m hO t) fullShare ((dat0 m hO c).before 15 t d))
    ∗ (∃ d, owns (c : Thread nD τ) (ms0_16 m hO t) fullShare ((dat0 m hO c).before 16 t d))
    ∗ (∃ d, owns (c : Thread nD τ) (ms0_17 m hO t) fullShare ((dat0 m hO c).before 17 t d))
    ∗ (∃ d, owns (c : Thread nD τ) (ms0_18 m hO t) fullShare ((dat0 m hO c).before 18 t d))
    ∗ (∃ d, owns (c : Thread nD τ) (ms0_19 m hO t) fullShare ((dat0 m hO c).before 19 t d))
    ∗ (∃ d, owns (c : Thread nD τ) (ms0_20 m hO t) fullShare ((dat0 m hO c).before 20 t d))
    ∗ (∃ d, owns (c : Thread nD τ) (ms0_21 m hO t) fullShare ((dat0 m hO c).before 21 t d))
    ∗ (∃ d, owns (c : Thread nD τ) (ms0_22 m hO t) fullShare ((dat0 m hO c).before 22 t d))
    ∗ (∃ d, owns (c : Thread nD τ) (ms0_23 m hO t) fullShare ((dat0 m hO c).before 23 t d))
    ∗ (∃ d, owns (c : Thread nD τ) (ms0_24 m hO t) fullShare ((dat0 m hO c).before 24 t d))
    ∗ (∃ d, owns (c : Thread nD τ) (ms0_25 m hO t) fullShare ((dat0 m hO c).before 25 t d))
    ∗ (∃ d, owns (c : Thread nD τ) (ms0_26 m hO t) fullShare ((dat0 m hO c).before 26 t d))
    ∗ (∃ d, owns (c : Thread nD τ) (ms0_27 m hO t) fullShare ((dat0 m hO c).before 27 t d))
    ∗ (∃ d, owns (c : Thread nD τ) (ms0_28 m hO t) fullShare ((dat0 m hO c).before 28 t d))
    ∗ (∃ d, owns (c : Thread nD τ) (ms0_29 m hO t) fullShare ((dat0 m hO c).before 29 t d))
    ∗ (∃ d, owns (c : Thread nD τ) (ms0_30 m hO t) fullShare ((dat0 m hO c).before 30 t d))
    ∗ (∃ d, owns (c : Thread nD τ) (ms0_31 m hO t) fullShare ((dat0 m hO c).before 31 t d))
    ∗ (∃ d, owns (c : Thread nD τ) (ms0_32 m hO t) fullShare ((dat0 m hO c).before 32 t d))
    ∗ (∃ d, owns (c : Thread nD τ) (ms0_33 m hO t) fullShare ((dat0 m hO c).before 33 t d))
    ∗ (∃ d, owns (c : Thread nD τ) (ms0_34 m hO t) fullShare ((dat0 m hO c).before 34 t d))
    ∗ (∃ d, owns (c : Thread nD τ) (ms0_35 m hO t) fullShare ((dat0 m hO c).before 35 t d))
    ∗ (∃ d, owns (c : Thread nD τ) (ms0_36 m hO t) fullShare ((dat0 m hO c).before 36 t d))
    ∗ (∃ d, owns (c : Thread nD τ) (ms0_37 m hO t) fullShare ((dat0 m hO c).before 37 t d))
    ∗ (∃ d, owns (c : Thread nD τ) (ms0_38 m hO t) fullShare ((dat0 m hO c).before 38 t d))
    ∗ (∃ d, owns (c : Thread nD τ) (ms0_39 m hO t) fullShare ((dat0 m hO c).before 39 t d))
    ∗ (∃ d, owns (c : Thread nD τ) (ms0_40 m hO t) fullShare ((dat0 m hO c).before 40 t d)))

/-- and what it returns. -/
def bodyPost (hO : Ok m) (c : Dev nD) (t : Fin (cfgM m hO).N) : sProp 𝕄 :=
  iprop((dat0 m hO c).Φ t.succ ∗ (dat0 m hO c).owesAt () t.succ
    ∗ owns (c : Thread nD τ) (ms0_0 m hO t) fullShare ((dat0 m hO c).after 0 t)
    ∗ owns (c : Thread nD τ) (ms0_1 m hO t) fullShare ((dat0 m hO c).after 1 t)
    ∗ owns (c : Thread nD τ) (ms0_2 m hO t) fullShare ((dat0 m hO c).after 2 t)
    ∗ owns (c : Thread nD τ) (ms0_3 m hO t) fullShare ((dat0 m hO c).after 3 t)
    ∗ owns (c : Thread nD τ) (ms0_4 m hO t) fullShare ((dat0 m hO c).after 4 t)
    ∗ owns (c : Thread nD τ) (ms0_5 m hO t) fullShare ((dat0 m hO c).after 5 t)
    ∗ owns (c : Thread nD τ) (ms0_6 m hO t) fullShare ((dat0 m hO c).after 6 t)
    ∗ owns (c : Thread nD τ) (ms0_7 m hO t) fullShare ((dat0 m hO c).after 7 t)
    ∗ owns (c : Thread nD τ) (ms0_8 m hO t) fullShare ((dat0 m hO c).after 8 t)
    ∗ owns (c : Thread nD τ) (ms0_9 m hO t) fullShare ((dat0 m hO c).after 9 t)
    ∗ owns (c : Thread nD τ) (ms0_10 m hO t) fullShare ((dat0 m hO c).after 10 t)
    ∗ owns (c : Thread nD τ) (ms0_11 m hO t) fullShare ((dat0 m hO c).after 11 t)
    ∗ owns (c : Thread nD τ) (ms0_12 m hO t) fullShare ((dat0 m hO c).after 12 t)
    ∗ owns (c : Thread nD τ) (ms0_13 m hO t) fullShare ((dat0 m hO c).after 13 t)
    ∗ owns (c : Thread nD τ) (ms0_14 m hO t) fullShare ((dat0 m hO c).after 14 t)
    ∗ owns (c : Thread nD τ) (ms0_15 m hO t) fullShare ((dat0 m hO c).after 15 t)
    ∗ owns (c : Thread nD τ) (ms0_16 m hO t) fullShare ((dat0 m hO c).after 16 t)
    ∗ owns (c : Thread nD τ) (ms0_17 m hO t) fullShare ((dat0 m hO c).after 17 t)
    ∗ owns (c : Thread nD τ) (ms0_18 m hO t) fullShare ((dat0 m hO c).after 18 t)
    ∗ owns (c : Thread nD τ) (ms0_19 m hO t) fullShare ((dat0 m hO c).after 19 t)
    ∗ owns (c : Thread nD τ) (ms0_20 m hO t) fullShare ((dat0 m hO c).after 20 t)
    ∗ owns (c : Thread nD τ) (ms0_21 m hO t) fullShare ((dat0 m hO c).after 21 t)
    ∗ owns (c : Thread nD τ) (ms0_22 m hO t) fullShare ((dat0 m hO c).after 22 t)
    ∗ owns (c : Thread nD τ) (ms0_23 m hO t) fullShare ((dat0 m hO c).after 23 t)
    ∗ owns (c : Thread nD τ) (ms0_24 m hO t) fullShare ((dat0 m hO c).after 24 t)
    ∗ owns (c : Thread nD τ) (ms0_25 m hO t) fullShare ((dat0 m hO c).after 25 t)
    ∗ owns (c : Thread nD τ) (ms0_26 m hO t) fullShare ((dat0 m hO c).after 26 t)
    ∗ owns (c : Thread nD τ) (ms0_27 m hO t) fullShare ((dat0 m hO c).after 27 t)
    ∗ owns (c : Thread nD τ) (ms0_28 m hO t) fullShare ((dat0 m hO c).after 28 t)
    ∗ owns (c : Thread nD τ) (ms0_29 m hO t) fullShare ((dat0 m hO c).after 29 t)
    ∗ owns (c : Thread nD τ) (ms0_30 m hO t) fullShare ((dat0 m hO c).after 30 t)
    ∗ owns (c : Thread nD τ) (ms0_31 m hO t) fullShare ((dat0 m hO c).after 31 t)
    ∗ owns (c : Thread nD τ) (ms0_32 m hO t) fullShare ((dat0 m hO c).after 32 t)
    ∗ owns (c : Thread nD τ) (ms0_33 m hO t) fullShare ((dat0 m hO c).after 33 t)
    ∗ owns (c : Thread nD τ) (ms0_34 m hO t) fullShare ((dat0 m hO c).after 34 t)
    ∗ owns (c : Thread nD τ) (ms0_35 m hO t) fullShare ((dat0 m hO c).after 35 t)
    ∗ owns (c : Thread nD τ) (ms0_36 m hO t) fullShare ((dat0 m hO c).after 36 t)
    ∗ owns (c : Thread nD τ) (ms0_37 m hO t) fullShare ((dat0 m hO c).after 37 t)
    ∗ owns (c : Thread nD τ) (ms0_38 m hO t) fullShare ((dat0 m hO c).after 38 t)
    ∗ owns (c : Thread nD τ) (ms0_39 m hO t) fullShare ((dat0 m hO c).after 39 t)
    ∗ owns (c : Thread nD τ) (ms0_40 m hO t) fullShare ((dat0 m hO c).after 40 t))

set_option maxHeartbeats 4000000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm0 m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36]
  rw [show (dat0 m hO c).Φ t.succ = (dat0 m hO c).Φ t.castSucc from rfl,
    show (dat0 m hO c).owesAt () t.succ = (dat0 m hO c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40]
  rw [show (dat0 m hO c).Φ t.castSucc = iprop(Pipeline.ΦA spec0 c ∗ tbPt0 c tbM0_0 (tbl m 0)) from
    congrArg (fun x => iprop(Pipeline.ΦA spec0 c ∗ x)) (PhiT0_eq m c)]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩⟩
  iapply (assign_run c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (inAt m hO c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexists _; iexact H37
  isplitl [H38]; · iexists _; iexact H38
  isplitl [H39]; · iexists _; iexact H39
  isplitl [H40]; · iexists _; iexact H40
  isplitl [HT0]; · iexact HT0
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  iexact H40

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm0 m hO) t := by
  unfold defs₀; rw [Defs.onTc_tc]

set_option maxHeartbeats 800000 in
/-- The library's body obligation, at every point: the body's triple restated (Lib/Pipeline/FrameBody.lean `triple_restated`). -/
theorem body_obligation (hO : Ok m) (c : Dev nD) : BodyObligation (dat0 (F := F) m hO c) (defs₀ (F := F)) Variants.none () Set.univ := fun t => by
  rw [bigSep_W0, bigSep_W0, defs₀_row m hO]
  exact triple_restated (sound_body m hO c t) rfl .rfl fun _ => .rfl

end Cert.KernelIdeal.Own

end
-- ==== Proof.KernelIdeal.Dat1.lean ====
/- Call 1: its one body's triple, the proof data over any contents of the buffers at its entry, and the body obligation. -/
module

public import proofs.«01_k».proof.Proof.KernelIdeal.Base

@[expose] public section

set_option maxRecDepth 16384

noncomputable section

namespace Cert.KernelIdeal.Own.Call1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = W c (Pipeline.arrRef spec1 0))
    (hafter : ∀ t, dat.after 0 t = iblk W c 0 t) (t : Fin cfg1.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r1_0 : Rect S3072x5 := Rect.unit (s := S3072x5) ![0, 0] S3072x5.size inb_S3072x5_S3072x5_0_0
abbrev r1_1 : Rect S128x3 := Rect.unit (s := S128x3) ![0, 0] S128x3.size inb_S128x3_S128x3_0_0

/-! ## What the body leaves in each output window's buffer -/

/-- Window 1's staging buffer after the body, from the input windows' blocks: its 1 store as pieces, LAST
    FIRST (Lib/Pipeline/FrameBody.lean `View.canon`; the payloads are the skeleton's). -/
def out1_1 (i : grid1.Coords) (x0 : Vec F S3072x5 .f32) : Vec F S128x3 .f32 :=
  View.canon [⟨r1_1, k1_pay1 i (View.ld x0 r1_0)⟩]

/-- Its stores tile the buffer (checked by evaluation), so they cover it. -/
theorem cover1_1 (p0 : Vec F S128x3 .f32) (y : S128x3.Idx) :
    ∃ pc ∈ ([⟨r1_1, p0⟩] : List (View.Piece (Elt F) S128x3 .f32)), y ∈ pc.1.set :=
  View.cover_of_tiled [⟨r1_1, p0⟩] S128x3.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_scatter (c : Dev nD) (E : Set ℕ) (i : grid1.Coords) (arg1 : Memref sig .tc .vmem S3072x5 .f32) (harg1 : arg1.IsWhole) (arg2 : Memref sig .tc .vmem S128x3 .f32) (harg2 : arg2.IsWhole)
    (x0 : Vec F S3072x5 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 i x0)) -∗ K ⟨⟩))
      ⊢ wp frame (wpE (defs₀ (F := F)) Variants.none c none) E (cc1__scatter_body i arg1 harg1 arg2 harg2) K := by
  simp only [cc1__scatter_body_eq_skeleton]; unfold cc1__scatter_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := W c (Pipeline.arrRef spec1 w)
  after w t := match w with
    | ⟨0, _⟩ => iblk W c 0 t
    | ⟨1, _⟩ => out1_1 (grid1.coords t) (iblk W c 0 t)
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat1 W c).A w = W c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 W c).after 0 t = iblk W c 0 t := by dsimp only [dat1]
theorem after1_1 (c : Dev nD) (t : Fin cfg1.N) : (dat1 W c).after 1 t = out1_1 (grid1.coords t) (iblk W c 0 t) := by dsimp only [dat1]

/-- Each input's current staging buffer holds its block at every point, fetched there or not (`beforeK_W_of`). -/
theorem before1_0 (c : Dev nD) (t : Fin cfg1.N) (d) : (dat1 W c).before 0 t d = iblk W c 0 t :=
  before1_0_of W (dat1 W c) (A_eq W c 0) (after1_0 W c) t d

/-! ## The body obligation, at a generic point -/

/-- What the body is called with at point `t` (Lib/Pipeline.lean `BodyObligation`'s precondition, the windows one by one), -/
def bodyPre (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d)))

/-- and what it returns. -/
def bodyPost (c : Dev nD) (t : Fin cfg1.N) : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t))

/-- The body at any point: the inputs' memrefs hold their blocks (`before0_W`), so `sound_scatter` applies; the invariant and
    the core's `owes` pass through unread. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before1_0]
  rw [show (dat1 W c).Φ t.succ = (dat1 W c).Φ t.castSucc from rfl,
    show (dat1 W c).owesAt () t.succ = (dat1 W c).owesAt () t.castSucc from rfl,
    after1_0, after1_1]
  iintro ⟨HΦ, Ho, ⟨%d0, H0⟩, ⟨%d1, H1⟩⟩
  iapply (sound_scatter c Set.univ (grid1.coords t) _ _ _ _ (iblk W c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat1 (F := F) W c) (defs₀ (F := F)) Variants.none () Set.univ := fun t => by
  rw [bigSep_W1, bigSep_W1, defs₀_row]
  exact triple_restated (sound_body W c t) rfl .rfl fun _ => .rfl

end Cert.KernelIdeal.Own.Call1

end
-- ==== Proof.KernelIdeal.Region.lean ====
/- The launch: the contents the two calls leave, each call as a segment between the host stretches, and the run: every
   argument as it was, every result at the last contents. -/
module

public import proofs.«01_k».proof.Proof.KernelIdeal.Dat0
public import proofs.«01_k».proof.Proof.KernelIdeal.Dat1
public import Idealize.ShloMosaic.Lib.Pipeline.RegionsLoop

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Ok m) (ρ : Dev nD → PrngReg)

/-! ## The contents the calls leave -/

/-- Call 0's four results' arrays as its points leave them. -/
def fin37 (c : Dev nD) : Buf (Elt F) ((c : Thread nD τ).loc main_v2_0) := (dat0 m hO c).arrAt 37 (cfgM m hO).N
def fin38 (c : Dev nD) : Buf (Elt F) ((c : Thread nD τ).loc main_v2_1) := (dat0 m hO c).arrAt 38 (cfgM m hO).N
def fin39 (c : Dev nD) : Buf (Elt F) ((c : Thread nD τ).loc main_v2_2) := (dat0 m hO c).arrAt 39 (cfgM m hO).N
def fin40 (c : Dev nD) : Buf (Elt F) ((c : Thread nD τ).loc main_v2_3) := (dat0 m hO c).arrAt 40 (cfgM m hO).N

/-- Core `c`'s buffers after call 0: its four results' arrays as its points leave them. -/
def V2own (c : Dev nD) : Valuation τ sig (Elt F) :=
  Function.update (Function.update (Function.update (Function.update (V1 m c) main_v2_0 (fin37 m hO c))
    main_v2_1 (fin38 m hO c)) main_v2_2 (fin39 m hO c)) main_v2_3 (fin40 m hO c)

/-- The contents of core `c`'s buffers at call 1's entry. -/
abbrev W3 (c : Dev nD) (b : Ref sig .tc) : Buf (Elt F) ((c : Thread nD τ).loc b) := StableHlo.after hostOps1 (V2own m hO c) b

/-- Call 1's result's array as its points leave it. -/
def fin1 (c : Dev nD) : Buf (Elt F) ((c : Thread nD τ).loc main_v4) := (Call1.dat1 (W3 m hO) c).arrAt 1 cfg1.N

/-- Core `c`'s buffers after call 1: its result's array as its points leave it. -/
def V4own (c : Dev nD) : Valuation τ sig (Elt F) :=
  Function.update (StableHlo.after hostOps1 (V2own m hO c)) main_v4 (fin1 m hO c)

/-- What each call leaves, as the launch's statement names it. -/
def outsOwn : Outs (F := F) := fun n r c => if n = 2 then V2own m hO c r else V4own m hO c r

theorem V2own_of (c : Dev nD) (r : Ref sig .tc) (h : r ∉ ([main_v2_0, main_v2_1, main_v2_2, main_v2_3] : List (Ref sig .tc))) :
    V2own m hO c r = V1 m c r := by
  have h0 := List.ne_of_not_mem_cons h
  have h1 := List.ne_of_not_mem_cons (List.not_mem_of_not_mem_cons h)
  have h2 := List.ne_of_not_mem_cons (List.not_mem_of_not_mem_cons (List.not_mem_of_not_mem_cons h))
  have h3 := List.ne_of_not_mem_cons (List.not_mem_of_not_mem_cons (List.not_mem_of_not_mem_cons (List.not_mem_of_not_mem_cons h)))
  rw [V2own, Function.update_of_ne (StableHlo.devRef_ne_of_ne h3), Function.update_of_ne (StableHlo.devRef_ne_of_ne h2),
    Function.update_of_ne (StableHlo.devRef_ne_of_ne h1), Function.update_of_ne (StableHlo.devRef_ne_of_ne h0)]

theorem ne_01 : (Proc.devRef .tc main_v2_0 : DevRef τ sig) ≠ Proc.devRef .tc main_v2_1 := StableHlo.devRef_ne_of_ne (by decide)
theorem ne_02 : (Proc.devRef .tc main_v2_0 : DevRef τ sig) ≠ Proc.devRef .tc main_v2_2 := StableHlo.devRef_ne_of_ne (by decide)
theorem ne_03 : (Proc.devRef .tc main_v2_0 : DevRef τ sig) ≠ Proc.devRef .tc main_v2_3 := StableHlo.devRef_ne_of_ne (by decide)
theorem ne_12 : (Proc.devRef .tc main_v2_1 : DevRef τ sig) ≠ Proc.devRef .tc main_v2_2 := StableHlo.devRef_ne_of_ne (by decide)
theorem ne_13 : (Proc.devRef .tc main_v2_1 : DevRef τ sig) ≠ Proc.devRef .tc main_v2_3 := StableHlo.devRef_ne_of_ne (by decide)
theorem ne_23 : (Proc.devRef .tc main_v2_2 : DevRef τ sig) ≠ Proc.devRef .tc main_v2_3 := StableHlo.devRef_ne_of_ne (by decide)

theorem V2own_0 (c : Dev nD) : V2own m hO c main_v2_0 = fin37 m hO c := by
  rw [V2own, Function.update_of_ne ne_03, Function.update_of_ne ne_02, Function.update_of_ne ne_01, Function.update_self]
theorem V2own_1 (c : Dev nD) : V2own m hO c main_v2_1 = fin38 m hO c := by
  rw [V2own, Function.update_of_ne ne_13, Function.update_of_ne ne_12, Function.update_self]
theorem V2own_2 (c : Dev nD) : V2own m hO c main_v2_2 = fin39 m hO c := by
  rw [V2own, Function.update_of_ne ne_23, Function.update_self]
theorem V2own_3 (c : Dev nD) : V2own m hO c main_v2_3 = fin40 m hO c := by
  rw [V2own, Function.update_self]
theorem V4own_4 (c : Dev nD) : V4own m hO c main_v4 = fin1 m hO c := by
  rw [V4own, Function.update_self]

theorem V4own_of (c : Dev nD) (r : Ref sig .tc) (h : r ≠ main_v4) : V4own m hO c r = W3 m hO c r := by
  unfold V4own
  exact Function.update_of_ne (StableHlo.devRef_ne_of_ne h : (Proc.devRef .tc r : DevRef τ sig) ≠ Proc.devRef .tc main_v4) _ _

theorem outs_2 (c : Dev nD) (r : Ref sig .tc) : outsOwn m hO 2 r c = V2own m hO c r := if_pos rfl
theorem outs_4 (c : Dev nD) (r : Ref sig .tc) : outsOwn m hO 4 r c = V4own m hO c r := if_neg (by decide)

theorem V2_own (c : Dev nD) : V2 m (outsOwn m hO) c = V2own m hO c := by
  unfold V2
  rw [outs_2, outs_2, outs_2, outs_2, V2own_0, V2own_1, V2own_2, V2own_3]
  unfold V2own
  rfl
theorem V3_own (c : Dev nD) : V3 m (outsOwn m hO) c = StableHlo.after hostOps1 (V2own m hO c) := by
  unfold V3; rw [V2_own]
theorem V4_own (c : Dev nD) : V4 m (outsOwn m hO) c = V4own m hO c := by
  unfold V4; rw [V3_own, outs_4, V4own_4]; unfold V4own; rfl

/-! ## The calls as segments -/

/-- The tables' contents each call is at. -/
def adms : (p : Fin 2) → (pcfgs (F := F) p).Adm
  | ⟨0, _⟩ => adm0 m hO
  | ⟨1, _⟩ => cfg1.toPCfg_adm

/-- The calls' proof data. -/
def pdats : (p : Fin 2) → (c : Dev nD) → Dat τ (Elt F) Unit ℕ (UR sig nD τ) ℕ (Pipeline.pin (pcfgs (F := F)) (adms m hO) p) c
  | ⟨0, _⟩ => fun c => dat0 m hO c
  | ⟨1, _⟩ => fun c => Call1.dat1 (W3 m hO) c

abbrev Lo : GSem nD τ sig → Finset Unit := fun _ => ∅
abbrev lvo : GSem nD τ sig → Unit → ℕ := fun _ _ => 0

/-- What rides beside the buffers: the generator register and the core's dues, none. -/
abbrev Ex (c : Dev nD) : sProp 𝕄 := iprop((∃ r, prngReg c r) ∗ ∃ W, owes (c : Thread nD τ) (0 : CellTallies nD τ sig Unit) W)

theorem in0_facts : ∀ w : Fin 41, w.val < 37 → (spec0 w).isOut = false ∧ Pipeline.arrRef spec0 w ∉ ([main_v2_0, main_v2_1, main_v2_2, main_v2_3] : List (Ref sig .tc)) := by decide

theorem arr0_last (c : Dev nD) (w : Fin 41) : (dat0 m hO c).arrAt w (cfgM m hO).N = V2own m hO c (Pipeline.arrRef spec0 w) := by
  by_cases h : w.val < 37
  · exact ((dat0 m hO c).arrAt_in w (in0_facts w h).1 _).trans ((A_eq m hO c w).trans (V2own_of m hO c (Pipeline.arrRef spec0 w) (in0_facts w h).2).symm)
  · have h4 : w = 37 ∨ w = 38 ∨ w = 39 ∨ w = 40 := by omega
    rcases h4 with rfl | rfl | rfl | rfl
    · exact (V2own_0 m hO c).symm
    · exact (V2own_1 m hO c).symm
    · exact (V2own_2 m hO c).symm
    · exact (V2own_3 m hO c).symm

theorem rest0_last (c : Dev nD) (b : Ref sig .tc) (hb : b ∉ Finset.univ.image (Pipeline.arrRef spec0)) : V2own m hO c b = V1 m c b :=
  V2own_of m hO c b fun h => hb (by
    rcases List.mem_cons.mp h with rfl | h
    · exact Finset.mem_image.mpr ⟨37, Finset.mem_univ _, rfl⟩
    rcases List.mem_cons.mp h with rfl | h
    · exact Finset.mem_image.mpr ⟨38, Finset.mem_univ _, rfl⟩
    rcases List.mem_cons.mp h with rfl | h
    · exact Finset.mem_image.mpr ⟨39, Finset.mem_univ _, rfl⟩
    rcases List.mem_cons.mp h with rfl | h
    · exact Finset.mem_image.mpr ⟨40, Finset.mem_univ _, rfl⟩
    exact absurd h (List.not_mem_nil))

theorem arr1_last (c : Dev nD) : ∀ w : Fin 2, (Call1.dat1 (W3 m hO) c).arrAt w cfg1.N = V4own m hO c (Pipeline.arrRef spec1 w)
  | ⟨0, _⟩ => ((Call1.dat1 (W3 m hO) c).arrAt_in 0 rfl _).trans ((Call1.A_eq (W3 m hO) c 0).trans (V4own_of m hO c main_v3 (by decide)).symm)
  | ⟨1, _⟩ => (V4own_4 m hO c).symm

theorem rest1_last (c : Dev nD) (b : Ref sig .tc) (hb : b ∉ Finset.univ.image (Pipeline.arrRef spec1)) : V4own m hO c b = W3 m hO c b := by
  refine V4own_of m hO c b ?_
  rintro rfl
  exact hb (Finset.mem_image.mpr ⟨1, Finset.mem_univ _, rfl⟩)

set_option backward.isDefEq.respectTransparency.types false in
set_option maxHeartbeats 1000000 in
/-- Call 0 between its neighbours. -/
def R0 : Pipeline.RegionSeg (pcfgs (F := F)) (adms m hO) (pdats m hO) () defs₀ Variants.none Lo lvo 0 where
  win := (launch₀0 (F := F)).win
  block_pos := (launch₀0 (F := F)).block_pos
  stage_whole := (launch₀0 (F := F)).stage_whole
  K := PEmpty
  osem k := k.elim
  ho := Pipeline.OwnSemFacts.none _
  hbody c := (body_obligation m hO c).loose
  hwaits := Pipeline.hwaits_of_owed_zero _ _ _ _ Lo lvo 0 fun _ _ => rfl
  pre c := iprop(StableHlo.held (c : Thread nD τ) (Pipeline.ucRefs τ sig) (V1 m c) ∗ Ex c)
  post c := iprop(StableHlo.held (c : Thread nD τ) (Pipeline.ucRefs τ sig) (V2own m hO c) ∗ Ex c)
  X c := iprop(∃ r, prngReg c r)
  Y c := iprop((∃ r, prngReg c r) ∗ Pipeline.prefHeld pre0 c (fun _ => fullShare) (tbl m))
  Z c := Pipeline.unscopedRestP pre0 spec0 c (V m c)
  hentry c := by
    rw [show StableHlo.held (c : Thread nD τ) (Pipeline.ucRefs τ sig) (V1 m c) = unscopedBufs c (V m c) from (Pipeline.unscopedBufs_held c _).symm,
      Pipeline.ownSems0_none]
    have hsplit := (Pipeline.arrays_of_unscopedBufs_shared (pcfgs (F := F)) (adms m hO) (pdats m hO) (p := 0) (launch₀0 (F := F)).win (launch₀0 (F := F)).sharedIn (launch₀0 (F := F)).arr_whole c
      (fun _ _ => rfl) (V m c) (A_eq m hO c)).trans (sep_mono .rfl (Entails.of_eq (Pipeline.unscopedRest_split preFacts0 c (V m c))))
    have htbl : (Pipeline.prefHeld (Ix := Unit) (Name := ℕ) (U := UR sig nD τ) (Lvl := ℕ) pre0 c (fun _ => fullShare) (fun k => V m c (pre0.ref k)) : sProp 𝕄)
        = Pipeline.prefHeld pre0 c (fun _ => fullShare) (tbl m) := by
      congr 1; funext k; exact V_pre m c k
    iintro ⟨⟨Hub, Hg, HO⟩, Hos, -⟩
    ihave H := hsplit $$ Hub
    icases H with ⟨Ha, Ht, Hz⟩
    imodintro
    isplitl [Ha]; · iexact Ha
    isplitl [Ht]
    · iapply (Entails.of_eq htbl); iexact Ht
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hz
  hin c := by
    rw [show (pdats m hO 0 c).Φ 0 = iprop(Pipeline.ΦA spec0 c ∗ Pipeline.prefHeld pre0 c (fun _ => fullShare) (tbl m)) from rfl]; unfold Pipeline.ΦA
    iintro ⟨Hg, Ht, Hr⟩
    isplitl [Hg Hr]
    · isplitl [Hr]; · iexact Hr
      iexact Hg
    iexact Ht
  hout c := by
    rw [Pipeline.ownSems0_none, show (pdats m hO 0 c).Φ (Fin.last (Pipeline.pin (pcfgs (F := F)) (adms m hO) 0).N) = iprop(Pipeline.ΦA spec0 c ∗ Pipeline.prefHeld pre0 c (fun _ => fullShare) (tbl m)) from rfl]; unfold Pipeline.ΦA
    iintro ⟨⟨Hr, Hg⟩, Ht⟩
    isplitl [Hg Ht]
    · isplitl [Hg]; · iexact Hg
      iexact Ht
    isplitr; · iempintro
    iexact Hr
  hexit c := by
    rw [show StableHlo.held (c : Thread nD τ) (Pipeline.ucRefs τ sig) (V2own m hO c) = unscopedBufs c (fun b => V2own m hO c b) from (Pipeline.unscopedBufs_held c _).symm]
    have hjoin := (sep_mono .rfl (Entails.of_eq (Pipeline.unscopedRest_split preFacts0 c (V m c)).symm)).trans (Pipeline.unscopedBufs_of_arrays_shared (pcfgs (F := F)) (adms m hO) (p := 0) (launch₀0 (F := F)).win (launch₀0 (F := F)).sharedIn (launch₀0 (F := F)).arr_whole c (pdats m hO)
      (fun _ _ => rfl) (V m c) (fun b => V2own m hO c b) _ (arr0_last m hO c) (rest0_last m hO c))
    have htbl : (Pipeline.prefHeld (Ix := Unit) (Name := ℕ) (U := UR sig nD τ) (Lvl := ℕ) pre0 c (fun _ => fullShare) (fun k => V m c (pre0.ref k)) : sProp 𝕄)
        = Pipeline.prefHeld pre0 c (fun _ => fullShare) (tbl m) := by
      congr 1; funext k; exact V_pre m c k
    iintro ⟨Ha, HO, ⟨Hg, Ht⟩, HZ⟩
    imodintro
    isplitl [Ha Ht HZ]
    · iapply hjoin
      isplitl [Ha]; · iexact Ha
      isplitl [Ht]
      · iapply (Entails.of_eq htbl.symm); iexact Ht
      iexact HZ
    isplitl [Hg]; · iexact Hg
    unfold Pipeline.Dat.owesAt Pipeline.owesWithin
    icases HO with ⟨%W, -, HO⟩; iexists W; iexact HO

set_option backward.isDefEq.respectTransparency.types false in
set_option maxHeartbeats 1000000 in
/-- Call 1 between its neighbours. -/
def R1 : Pipeline.RegionSeg (pcfgs (F := F)) (adms m hO) (pdats m hO) () defs₀ Variants.none Lo lvo 1 where
  win := (launch1 (F := F)).win.to₀
  block_pos := (launch1 (F := F)).block_pos
  stage_whole := (launch1 (F := F)).stage_whole
  K := PEmpty
  osem k := k.elim
  ho := Pipeline.OwnSemFacts.none _
  hbody c := (Call1.body_obligation (W3 m hO) c).loose
  hwaits := Pipeline.hwaits_of_owed_zero _ _ _ _ Lo lvo 1 fun _ _ => rfl
  pre c := iprop(StableHlo.held (c : Thread nD τ) (Pipeline.ucRefs τ sig) (StableHlo.after hostOps1 (V2own m hO c)) ∗ Ex c)
  post c := iprop(StableHlo.held (c : Thread nD τ) (Pipeline.ucRefs τ sig) (V4own m hO c) ∗ Ex c)
  X c := iprop(∃ r, prngReg c r)
  Y c := iprop(∃ r, prngReg c r)
  Z c := Pipeline.unscopedRest spec1 c (W3 m hO c)
  hentry c := by
    rw [show StableHlo.held (c : Thread nD τ) (Pipeline.ucRefs τ sig) (StableHlo.after hostOps1 (V2own m hO c)) = unscopedBufs c (W3 m hO c) from (Pipeline.unscopedBufs_held c _).symm,
      Pipeline.ownSems0_none]
    have hsplit := Pipeline.arrays_of_unscopedBufs (pcfgs (F := F)) (adms m hO) (pdats m hO) (p := 1) (launch1 (F := F)).win (launch1 (F := F)).arr_whole c
      ((Call1.dat1 (W3 m hO) c).share_full fun _ => rfl) (W3 m hO c) (Call1.A_eq (W3 m hO) c)
    iintro ⟨⟨Hub, Hg, HO⟩, Hos, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hz
  hin c := by
    rw [show (pdats m hO 1 c).Φ 0 = Pipeline.ΦA spec1 c from rfl]; unfold Pipeline.ΦA
    iintro ⟨Hg, -, Hr⟩
    isplitl [Hr]; · iexact Hr
    iexact Hg
  hout c := by
    rw [Pipeline.ownSems0_none, show (pdats m hO 1 c).Φ (Fin.last (Pipeline.pin (pcfgs (F := F)) (adms m hO) 1).N) = Pipeline.ΦA spec1 c from rfl]; unfold Pipeline.ΦA
    iintro ⟨Hr, Hg⟩
    isplitl [Hg]; · iexact Hg
    isplitr; · iempintro
    iexact Hr
  hexit c := by
    rw [show StableHlo.held (c : Thread nD τ) (Pipeline.ucRefs τ sig) (V4own m hO c) = unscopedBufs c (fun b => V4own m hO c b) from (Pipeline.unscopedBufs_held c _).symm]
    have hjoin := Pipeline.unscopedBufs_of_arrays (pcfgs (F := F)) (adms m hO) (p := 1) (launch1 (F := F)).win (launch1 (F := F)).arr_whole c (pdats m hO)
      ((Call1.dat1 (W3 m hO) c).share_full fun _ => rfl) (W3 m hO c) (fun b => V4own m hO c b) _ (arr1_last m hO c) (rest1_last m hO c)
    iintro ⟨Ha, HO, Hg, HZ⟩
    imodintro
    isplitl [Ha HZ]
    · iapply hjoin
      isplitl [Ha]; · iexact Ha
      iexact HZ
    isplitl [Hg]; · iexact Hg
    unfold Pipeline.Dat.owesAt Pipeline.owesWithin
    icases HO with ⟨%W, -, HO⟩; iexists W; iexact HO

end Cert.KernelIdeal.Own

end
-- ==== Proof.KernelIdeal.Run.lean ====
/- The run: from any memory whose tables are in range, @main terminates with every buffer at its last contents and
   every semaphore counter at zero; the arguments among them are as launched. -/
module

public import proofs.«01_k».proof.Proof.KernelIdeal.Region

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Ok m) (ρ : Dev nD → PrngReg)

/-- The launch element: the pipeline library's at the staging cells and the calls' transfers. -/
def u₀ : UR sig nD τ := initOf (Pipeline.cells (Pipeline.pin (pcfgs (F := F)) (adms m hO)) (cellOf_inj (adms m hO))) (Pipeline.launchToks (Pipeline.pin (pcfgs (F := F)) (adms m hO)) (cellOf_inj (adms m hO)))

/-- What every final state says: every unscoped buffer at the last contents. -/
def Post (c : Dev nD) (s : MemSt nD τ sig (Elt F)) : Prop := ∀ b ∈ Pipeline.ucRefs τ sig, s.mem (c, b) = V5 m (outsOwn m hO) c b

set_option backward.isDefEq.respectTransparency.types false in
set_option maxHeartbeats 1000000 in
theorem run_main : θ_run defs (onTc (τ := τ) (main (F := F))) ⟨m, fun _ => 0, ρ⟩ (fun r => (∀ c : Dev nD, Post m hO c r.2) ∧ r.2.sem = fun _ => 0) := by
  refine Pipeline.θ_run_regions_kit_dev_sems (pcfgs (F := F)) (adms m hO) (pdats m hO) () (cellOf_inj (adms m hO)) (emb₁ : Emb _ 𝕄) defs₀ Variants.none Lo lvo m ρ main
    (segs m (outsOwn m hO) Variants.none Lo lvo (fun _ c => Ex c) () (adms m hO) (pdats m hO) (R0 m hO) (R1 m hO))
    (fun c Q => by
      rewrite [main_chain c, Pipeline.Seg.run_eq_chain,
        show (segs m (outsOwn m hO) Variants.none Lo lvo (fun _ c => Ex c) () (adms m hO) (pdats m hO) (R0 m hO) (R1 m hO) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide)
    (fun _ => 0) (fun _ _ => rfl) (fun _ => iprop(emp)) (u₀ m hO) ?_
    (T₀ := fun c => iprop(StableHlo.held (c : Thread nD τ) (Pipeline.ucRefs τ sig) (V0 m c) ∗ Ex c))
    (Tₙ := fun c => StableHlo.held (c : Thread nD τ) (Pipeline.ucRefs τ sig) (V5 m (outsOwn m hO) c))
    (hch := fun c => ⟨.rfl, .rfl, ?_, ?_, ?_, ?_⟩)
    (hinit := ?_) (QY := Post m hO)
    (hfin := fun c s' => ?_) (hQ := fun _ h hz => ⟨h, funext fun g => hz g (.inr (regions_no_unscoped g.2))⟩)
  · unfold u₀
    iintro Hu
    imodintro
    isplitl [Hu]
    · iapply (show (ownU (initOf (Pipeline.cells (Pipeline.pin (pcfgs (F := F)) (adms m hO)) (cellOf_inj (adms m hO))) (Pipeline.launchToks (Pipeline.pin (pcfgs (F := F)) (adms m hO)) (cellOf_inj (adms m hO)))) : sProp 𝕄)
        ⊢ BI.own (emb₁ (initOf (Pipeline.cells (Pipeline.pin (pcfgs (F := F)) (adms m hO)) (cellOf_inj (adms m hO))) (Pipeline.launchToks (Pipeline.pin (pcfgs (F := F)) (adms m hO)) (cellOf_inj (adms m hO))))) from .rfl)
      iexact Hu
    iapply (show (BI.emp : sProp 𝕄) ⊢ bigSep Finset.univ (fun _ : Dev nD => (BI.emp : sProp 𝕄)) from by rw [BI.bigSep_emp_const])
    iempintro
  · show _ ⊢ iprop(StableHlo.held (c : Thread nD τ) (Pipeline.ucRefs τ sig) (V2 m (outsOwn m hO) c) ∗ Ex c)
    rw [V2_own]; exact .rfl
  · show iprop(StableHlo.held (c : Thread nD τ) (Pipeline.ucRefs τ sig) (V3 m (outsOwn m hO) c) ∗ Ex c) ⊢ _
    rw [V3_own]; exact .rfl
  · show _ ⊢ iprop(StableHlo.held (c : Thread nD τ) (Pipeline.ucRefs τ sig) (V4 m (outsOwn m hO) c) ∗ Ex c)
    rw [V4_own]; exact .rfl
  · refine sep_mono .rfl ?_
    iintro ⟨-, H⟩; iexact H
  · refine Pipeline.initEach Lo lvo fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, Hg, -⟩, -⟩
    imodintro
    isplitl [Hh]; · iexact Hh
    isplitl [Hg]; · iexists _; iexact Hg
    iexists ∅; iexact HO
  · unfold StableHlo.held
    iintro ⟨Hh, HSI⟩
    ihave Hr := (pointsTo_read_all (Pipeline.ucRefs τ sig) (fun b => ((c : Thread nD τ).1, b)) (V5 m (outsOwn m hO) c) s') $$ [Hh HSI]
    · isplitl [Hh] <;> iassumption
    icases Hr with ⟨%h, HSI⟩
    imodintro
    isplitr
    · ipureintro
      exact h
    · iexact HSI

include hO in
/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨
    (h.1 c (Proc.devRef .tc main_arg0) (Finset.mem_filter.mpr ⟨StableHlo.devRef_mem_tcRefs main_arg0, by decide⟩)).trans (V5_main_arg0 m (outsOwn m hO) c),
    (h.1 c (Proc.devRef .tc main_arg1) (Finset.mem_filter.mpr ⟨StableHlo.devRef_mem_tcRefs main_arg1, by decide⟩)).trans (V5_main_arg1 m (outsOwn m hO) c),
    (h.1 c (Proc.devRef .tc main_arg2) (Finset.mem_filter.mpr ⟨StableHlo.devRef_mem_tcRefs main_arg2, by decide⟩)).trans (V5_main_arg2 m (outsOwn m hO) c),
    (h.1 c (Proc.devRef .tc main_arg3) (Finset.mem_filter.mpr ⟨StableHlo.devRef_mem_tcRefs main_arg3, by decide⟩)).trans (V5_main_arg3 m (outsOwn m hO) c),
    (h.1 c (Proc.devRef .tc main_arg4) (Finset.mem_filter.mpr ⟨StableHlo.devRef_mem_tcRefs main_arg4, by decide⟩)).trans (V5_main_arg4 m (outsOwn m hO) c),
    (h.1 c (Proc.devRef .tc main_arg5) (Finset.mem_filter.mpr ⟨StableHlo.devRef_mem_tcRefs main_arg5, by decide⟩)).trans (V5_main_arg5 m (outsOwn m hO) c),
    (h.1 c (Proc.devRef .tc main_arg6) (Finset.mem_filter.mpr ⟨StableHlo.devRef_mem_tcRefs main_arg6, by decide⟩)).trans (V5_main_arg6 m (outsOwn m hO) c)⟩, h.2⟩) (run_main m hO ρ)

end Cert.KernelIdeal.Own

end
-- ==== Proof.KernelIdeal.Tables.lean ====
/- The tables in range: every gathered block lies in its array. -/
module

public import proofs.«01_k».proof.Proof.KernelIdeal.Base
public import proofs.«01_k».proof.Proof.Gen.KernelIdeal

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem row_in (n : ℕ) (hn : n < 2048) : ∀ a, ((![n, (0#32).toNat, (0#32).toNat] : Fin 3 → ℕ) a + 1) * S1x1x256.size a ≤ S2048x1x256.size a
  | ⟨0, _⟩ => by show (n + 1) * 1 ≤ 2048; omega
  | ⟨1, _⟩ => by show (0 + 1) * 1 ≤ 1; omega
  | ⟨2, _⟩ => by show (0 + 1) * 256 ≤ 256; omega

theorem ok_of (pf : pre0.Contents (Elt F)) (h : ∀ x : S1024.Idx, ((pf 0 x : BitVec 32)).toNat < 2048) : ok0 (F := F) pf :=
  ⟨fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩,
    fun i => ⟨row_in _ (h _), Or.inl rfl⟩⟩

end Cert.KernelIdeal.Own

end
-- ==== Proof.KernelIdeal.S1.lean ====
module

public import proofs.«01_k».proof.Proof.KernelIdeal.Body
public import Idealize.ShloMosaic.Lib.Pointwise

@[expose] public section

set_option maxRecDepth 16384

noncomputable section

namespace Cert.KernelIdeal.Own

open Cert.KernelIdeal.Gen
open Idealize.ShloMosaic Idealize.ShloMosaic.TcCoe Idealize.ShloMosaic.Tactic

variable {c : Dev nD}

/-- The row of a point: its position divided by 64. -/
theorem v111_at (I : In Ideal c) (p : Fin 2048) : v111 I (ix2 0 p) = BitVec.ofNat 32 (p.val / 64) := by
  unfold v111
  pointwise [k0_pay37]
  revert p
  decide +kernel

set_option maxHeartbeats 2000000 in
theorem v304_at (I : In Ideal c) (p : Fin 2048) :
    v304 I (ix2 0 p) = v86 I (ix2 ⟨p.val / 64 + 0, by omega⟩ p) := by
  unfold v304 v288 v291 v240 v243 v192 v195
  unfold v113 v115 v117 v119 v121 v123 v125 v127 v129 v131 v133 v135 v137 v139 v141 v143 v145 v147 v149 v151 v155 v157 v159 v161 v163 v165 v167 v169 v171 v173 v175 v153 v112 v152
  unfold_payloads
  generalize v86 I = S
  have hj := v111_at I p
  generalize v111 I = J at hj ⊢
  pointwise
  rw [hj]
  obtain ⟨q, hq⟩ : ∃ q : ℕ, q = p.val / 64 := ⟨_, rfl⟩
  have hq' : q < 32 := by omega
  simp only [← hq]
  interval_cases q <;> simp [Scalar.select, IntOp.cmpi]

set_option maxHeartbeats 2000000 in
theorem v433_at (I : In Ideal c) (p : Fin 2048) :
    v433 I (ix2 0 p) = v86 I (ix2 ⟨p.val / 64 + 1, by omega⟩ p) := by
  unfold v433 v385 v386 v337 v338 cst_162 cst_174
  unfold v113 v115 v117 v119 v121 v123 v125 v127 v129 v131 v133 v135 v137 v139 v141 v143 v145 v147 v149 v151 v155 v157 v159 v161 v163 v165 v167 v169 v171 v173 v175 v153 v112 v152
  unfold_payloads
  generalize v86 I = S
  have hj := v111_at I p
  generalize v111 I = J at hj ⊢
  pointwise
  rw [hj]
  obtain ⟨q, hq⟩ : ∃ q : ℕ, q = p.val / 64 := ⟨_, rfl⟩
  have hq' : q < 32 := by omega
  simp only [← hq]
  interval_cases q <;> simp [Scalar.select, IntOp.cmpi]

/-- The sum that the second and third candidates' similarities are compared by. -/
def pick3 (a b d : EReal) : ℕ := if (if b ≤ a then a else b) < d then 2 else if b ≤ a then 0 else 1

set_option maxHeartbeats 2000000 in
theorem v570_at (I : In Ideal c) (p : Fin 2048) :
    v570 I (ix2 0 p) = BitVec.ofNat 32 (pick3 (v86 I (ix2 ⟨p.val / 64 + 0, by omega⟩ p)) (v86 I (ix2 ⟨p.val / 64 + 1, by omega⟩ p))
      (v86 I (ix2 ⟨p.val / 64 + 2, by omega⟩ p))) := by
  rw [← v304_at, ← v433_at]
  unfold v570 v530 v482 v434
  generalize v304 I = A
  generalize v433 I = B
  unfold v113 v115 v117 v119 v121 v123 v125 v127 v129 v131 v133 v135 v137 v139 v141 v143 v145 v147 v149 v151 v155 v157 v159 v161 v163 v165 v167 v169 v171 v173 v175 v153 v112 v152
  unfold_payloads
  generalize v86 I = S
  have hj := v111_at I p
  generalize v111 I = J at hj ⊢
  pointwise
  rw [hj]
  obtain ⟨q, hq⟩ : ∃ q : ℕ, q = p.val / 64 := ⟨_, rfl⟩
  have hq' : q < 32 := by omega
  simp only [← hq]
  generalize hD : (_ : EReal) + Scalar.select (IntOp.cmpi CmpIPredicate.eq (BitVec.ofNat 32 q) 31#32) _ _ = D
  have hD' : D = S (ix2 ⟨q + 2, by omega⟩ p) := by
    rw [← hD]
    interval_cases q <;> simp [Scalar.select, IntOp.cmpi]
  rw [hD', pick3]
  by_cases h1 : (if B (ix2 0 p) ≤ A (ix2 0 p) then A (ix2 0 p) else B (ix2 0 p)) < S (ix2 ⟨q + 2, by omega⟩ p)
  · rw [if_pos h1, if_pos h1]
  · rw [if_neg h1, if_neg h1]
    by_cases h2 : B (ix2 0 p) ≤ A (ix2 0 p)
    · rw [if_pos h2, if_pos h2]
    · rw [if_neg h2, if_neg h2]

/-- The 34 gathered rows, by position. -/
def grow (I : In Ideal c) : Fin 34 → Vec Ideal S1x1x256 .f32 :=
  ![I.g0, I.g1, I.g2, I.g3, I.g4, I.g5, I.g6, I.g7, I.g8, I.g9, I.g10, I.g11, I.g12, I.g13, I.g14, I.g15, I.g16, I.g17, I.g18, I.g19, I.g20, I.g21, I.g22, I.g23, I.g24, I.g25, I.g26, I.g27, I.g28, I.g29, I.g30, I.g31, I.g32, I.g33]

/-- The 34 names read from the table, by position. -/
def idw (I : In Ideal c) : Fin 34 → BitVec 32 :=
  ![v577 I, v584 I, v591 I, v598 I, v605 I, v612 I, v619 I, v626 I, v633 I, v640 I, v647 I, v654 I, v661 I, v668 I, v675 I, v682 I, v689 I, v696 I, v703 I, v710 I, v717 I, v724 I, v731 I, v738 I, v745 I, v752 I, v759 I, v766 I, v773 I, v780 I, v787 I, v794 I, v801 I, v808 I]

set_option maxHeartbeats 2000000 in
theorem v86_at (I : In Ideal c) (hx : ∀ j, (I.x0 j : EReal) ≠ ⊤ ∧ (I.x0 j : EReal) ≠ ⊥)
    (hg : ∀ q j, (grow I q j : EReal) ≠ ⊤ ∧ (grow I q j : EReal) ≠ ⊥) (q : Fin 34) (p : Fin 2048) :
    v86 I (ix2 q p) = ∑ k : Fin 256, (grow I q (ix3 0 0 k) : EReal) *
      I.x0 (ix3 ⟨p.val / 64, by omega⟩ ⟨p.val % 64, by omega⟩ k) := by
  have h6 : ∀ k, v6 I (ix2 p k) = I.x0 (ix3 ⟨p.val / 64, by omega⟩ ⟨p.val % 64, by omega⟩ k) := by
    intro k
    unfold v6 v5
    unfold_payloads
    pointwise
  unfold v86
  unfold_payloads
  generalize hB : concatenate S34x256 _ _ _ = B
  have hb : ∀ k, B (ix2 q k) = grow I q (ix3 0 0 k) := by
    intro k
    rw [← hB]
    clear h6 hx hg hB B
    unfold v8 v10 v12 v14 v16 v18 v20 v22 v24 v26 v28 v30 v32 v34 v36 v38 v40 v42 v44 v46 v48 v50 v52 v54 v56 v58 v60 v62 v64 v66 v68 v7 v9 v11 v13 v15 v17 v19 v21 v23 v25 v27 v29 v31 v33 v35 v37 v39 v41 v43 v45 v47 v49 v51 v53 v55 v57 v59 v61 v63 v65 v67 v69 v71 v73
    unfold_payloads
    pointwise
    fin_vals q with hk
    all_goals simp only [hk, Nat.reduceSub, Nat.reduceLT, ↓reduceDIte]
    all_goals rw [Fin.ext (a := q) (b := ⟨_, hk ▸ q.isLt⟩) hk]; rfl
  pointwise
  simp only [hb, h6]
  have hs : ∀ y : EReal, y ≠ ⊤ ∧ y ≠ ⊥ → y - y = 0 := fun y h => EReal.sub_self h.1 h.2
  simp only [hs _ (hx _), hs _ (hg _ _), mul_zero, zero_mul, Finset.sum_const_zero, add_zero]

end Cert.KernelIdeal.Own
-- ==== Proof.KernelIdeal.S2.lean ====
module

public import proofs.«01_k».proof.Proof.KernelIdeal.S1
public import Idealize.ShloMosaic.Lib.Pointwise

@[expose] public section

set_option maxRecDepth 16384

noncomputable section

namespace Cert.KernelIdeal.Own

open Cert.KernelIdeal.Gen
open Idealize.ShloMosaic Idealize.ShloMosaic.TcCoe Idealize.ShloMosaic.Tactic

variable {c : Dev nD}

/-- The number of the chosen candidate of a point. -/
def win (I : In Ideal c) (p : Fin 2048) : ℕ :=
  pick3 (v86 I (ix2 ⟨p.val / 64 + 0, by omega⟩ p)) (v86 I (ix2 ⟨p.val / 64 + 1, by omega⟩ p)) (v86 I (ix2 ⟨p.val / 64 + 2, by omega⟩ p))

theorem pick3_lt (a b d : EReal) : pick3 a b d < 3 := by
  unfold pick3
  by_cases h : (if b ≤ a then a else b) < d
  · rw [if_pos h]; omega
  · rw [if_neg h]
    by_cases h' : b ≤ a
    · rw [if_pos h']; omega
    · rw [if_neg h']; omega

theorem v817_at (I : In Ideal c) (r : Fin 96) (p : Fin 2048) :
    v817 I (ix2 r p) = if r.val = 3 * (p.val / 64) + win I p then (1 : EReal) else 0 := by
  have hw : win I p < 3 := pick3_lt _ _ _
  have h1 := v111_at I p
  have h2 : v570 I (ix2 0 p) = BitVec.ofNat 32 (win I p) := v570_at I p
  unfold v817
  unfold_payloads
  generalize v111 I = J at h1 ⊢
  generalize v570 I = W at h2 ⊢
  pointwise
  rw [h1, h2]
  have he : IntOp.addi (IntOp.muli (3#32) (BitVec.ofNat 32 (p.val / 64))) (BitVec.ofNat 32 (win I p))
      = BitVec.ofNat 32 (3 * (p.val / 64) + win I p) := by
    show 3#32 * BitVec.ofNat 32 (p.val / 64) + BitVec.ofNat 32 (win I p) = _
    rw [show (3#32 : BitVec 32) = BitVec.ofNat 32 3 from rfl, ← BitVec.ofNat_mul, ← BitVec.ofNat_add]
  rw [he]
  have hr : r.val < 2 ^ 32 := by omega
  have ht : 3 * (p.val / 64) + win I p < 2 ^ 32 := by omega
  by_cases h : r.val = 3 * (p.val / 64) + win I p
  · rw [if_pos h, ← h]
    have e : BitVec.setWidth 32 (IntOp.cmpi CmpIPredicate.eq (BitVec.ofNat 32 r.val) (BitVec.ofNat 32 r.val)) = 1#32 := by simp [IntOp.cmpi]
    rw [e]
    show (((1#32 : BitVec 32).toInt : ℝ) : EReal) = 1
    norm_num
  · rw [if_neg h]
    have hn : ¬ (BitVec.ofNat 32 r.val = BitVec.ofNat 32 (3 * (p.val / 64) + win I p)) := by
      intro e
      have e' := congrArg BitVec.toNat e
      rw [BitVec.toNat_ofNat, BitVec.toNat_ofNat, Nat.mod_eq_of_lt hr, Nat.mod_eq_of_lt ht] at e'
      exact h e'
    have e : BitVec.setWidth 32 (IntOp.cmpi CmpIPredicate.eq (BitVec.ofNat 32 r.val) (BitVec.ofNat 32 (3 * (p.val / 64) + win I p))) = 0#32 := by
      have e' : (BitVec.ofNat 32 r.val == BitVec.ofNat 32 (3 * (p.val / 64) + win I p)) = false := beq_false_of_ne hn
      show BitVec.setWidth 32 (BitVec.ofBool (BitVec.ofNat 32 r.val == BitVec.ofNat 32 (3 * (p.val / 64) + win I p))) = 0#32
      rw [e']
      rfl
    rw [e]
    show (((0#32 : BitVec 32).toInt : ℝ) : EReal) = 0
    norm_num

theorem v859_at (I : In Ideal c) (r : Fin 96) : v859 I (ix2 0 r) = BitVec.ofNat 32 (r.val / 3 + r.val % 3) := by
  unfold v859 v818 v820 v823 v825 c3_i32_390
  unfold_payloads
  pointwise
  revert r
  decide +kernel

set_option maxHeartbeats 2000000 in
theorem v1132_at (I : In Ideal c) (r : Fin 96) :
    v1132 I (ix2 0 r) = (((idw I ⟨r.val / 3 + r.val % 3, by omega⟩).toInt : ℝ) : EReal) := by
  have h1 := v859_at I r
  unfold v1132 v1088 v1086 v1084 c23_i32_473 v1044 v1000 v998 cst_457 v996 v957 v956 v913 v910 v908 cst_424 v870 v868
  unfold k0_pay107 k0_pay106 k0_pay105 k0_pay104 k0_pay103 k0_pay102 k0_pay101 k0_pay100 k0_pay99 k0_pay98 k0_pay97 k0_pay96 k0_pay95 k0_pay94 k0_pay93
  have h0 : k0_pay92 (v818 I) c3_i32_390 (v820 I) (v823 I) (v825 I) = v859 I := rfl
  rw [h0]
  generalize v859 I = J at h1 ⊢
  pointwise
  rw [h1]
  obtain ⟨q, hq⟩ : ∃ q : ℕ, q = r.val / 3 + r.val % 3 := ⟨_, rfl⟩
  have hq' : q < 34 := by omega
  simp only [← hq]
  interval_cases q <;> simp [Scalar.select, IntOp.cmpi] <;> rfl

/-- A word read as a number and turned back into a word. -/
theorem fptosi_toInt (b : BitVec 32) : Ideal.fptosi 32 (((b.toInt : ℝ) : EReal)) = b := by
  have h1 := BitVec.toInt_lt (x := b)
  have h2 := BitVec.le_toInt b
  show BitVec.ofInt 32 (max _ (min _ (if (0 : ℝ) ≤ (b.toInt : ℝ) then ⌊(b.toInt : ℝ)⌋ else ⌈(b.toInt : ℝ)⌉))) = b
  rw [Int.floor_intCast, Int.ceil_intCast, ite_self]
  rw [min_eq_right (by norm_num at h1 ⊢; omega), max_eq_right (by norm_num at h2 ⊢; omega), BitVec.ofInt_toInt]

theorem out37_at (I : In Ideal c) (p : Fin 2048) :
    out37 I (ix3 0 0 p) = idw I ⟨p.val / 64 + win I p, by have := pick3_lt; have hw : win I p < 3 := this _ _ _; omega⟩ := by
  have hw : win I p < 3 := pick3_lt _ _ _
  unfold out37
  rw [View.canon_unit_zero (by funext a; fin_cases a <;> rfl)]
  unfold_payloads
  pointwise
  simp only [v817_at]
  have hs : ∀ x : Fin 96, (v1132 I (ix2 0 x) : EReal) - v1132 I (ix2 0 x) = 0 := by
    intro x
    rw [v1132_at]
    exact EReal.sub_self (EReal.coe_ne_top _) (EReal.coe_ne_bot _)
  have h0 : (∑ x : Fin 96, ((v1132 I (ix2 0 x) : EReal) - v1132 I (ix2 0 x)) * (if x.val = 3 * (p.val / 64) + win I p then (1 : EReal) else 0)) = 0 :=
    Finset.sum_eq_zero fun x _ => by rw [hs, zero_mul]
  have h1 : (∑ x : Fin 96, (v1132 I (ix2 0 x) : EReal) * (if x.val = 3 * (p.val / 64) + win I p then (1 : EReal) else 0))
      = v1132 I (ix2 0 ⟨3 * (p.val / 64) + win I p, by omega⟩) := by
    rw [Finset.sum_eq_single (⟨3 * (p.val / 64) + win I p, by omega⟩ : Fin 96)]
    · rw [if_pos rfl, mul_one]
    · intro x _ hx
      rw [if_neg (fun e => hx (Fin.ext e)), mul_zero]
    · intro h
      exact absurd (Finset.mem_univ _) h
  refine (congrArg (Ideal.fptosi 32) ((congrArg₂ (· + ·) h1 h0).trans (add_zero _))).trans ?_
  rw [v1132_at, fptosi_toInt]
  refine congrArg (idw I) (Fin.ext ?_)
  show (3 * (p.val / 64) + win I p) / 3 + (3 * (p.val / 64) + win I p) % 3 = p.val / 64 + win I p
  omega

end Cert.KernelIdeal.Own
-- ==== Proof.KernelIdeal.S3.lean ====
module

public import proofs.«01_k».proof.Proof.KernelIdeal.S2
public import Idealize.ShloMosaic.Lib.Pointwise

@[expose] public section

set_option maxRecDepth 16384

noncomputable section

namespace Cert.KernelIdeal.Own

open Cert.KernelIdeal.Gen
open Idealize.ShloMosaic Idealize.ShloMosaic.TcCoe Idealize.ShloMosaic.Tactic

variable {c : Dev nD}

theorem v1195_at (I : In Ideal c) (r : Fin 96) : v1195 I (ix2 r 0) = BitVec.ofNat 32 (r.val / 3 + r.val % 3) := by
  unfold v1195 v1154 v1156 v1170 v1174
  unfold_payloads
  pointwise
  revert r
  decide +kernel

theorem v1153_at (I : In Ideal c) (hh : ∀ j, (I.x1 j : EReal) ≠ ⊤ ∧ (I.x1 j : EReal) ≠ ⊥) (r : Fin 96) (j : Fin 4) :
    v1153 I (ix2 r j) = ∑ p : Fin 2048, (if r.val = 3 * (p.val / 64) + win I p then (1 : EReal) else 0) *
      (if h : j.val < 1 then (1 : EReal) else I.x1 (ix3 ⟨p.val / 64, by omega⟩ ⟨p.val % 64, by omega⟩ ⟨j.val - 1, by omega⟩)) := by
  unfold v1153 v1143
  unfold_payloads
  generalize hB : concatenate S2048x4 _ _ _ = B
  have hb : ∀ p : Fin 2048, B (ix2 p j) = (if h : j.val < 1 then (1 : EReal) else I.x1 (ix3 ⟨p.val / 64, by omega⟩ ⟨p.val % 64, by omega⟩ ⟨j.val - 1, by omega⟩)) := by
    intro p
    rw [← hB]
    pointwise
  have hf : ∀ p : Fin 2048, (B (ix2 p j) : EReal) ≠ ⊤ ∧ (B (ix2 p j) : EReal) ≠ ⊥ := by
    intro p
    rw [hb]
    by_cases h : j.val < 1
    · rw [dif_pos h]; exact ⟨EReal.coe_ne_top 1, EReal.coe_ne_bot 1⟩
    · rw [dif_neg h]; exact hh _
  pointwise
  simp only [v817_at]
  have hs : ∀ p : Fin 2048, (B (ix2 p j) : EReal) - B (ix2 p j) = 0 := fun p => EReal.sub_self (hf p).1 (hf p).2
  simp only [hs, mul_zero, Finset.sum_const_zero, add_zero]
  exact Finset.sum_congr rfl fun p _ => congrArg _ (hb p)

set_option maxHeartbeats 2000000 in
theorem v1452_at (I : In Ideal c) (r : Fin 96) :
    v1452 I (ix2 r 0) = if h : r.val / 3 + r.val % 3 < 32 then (((idw I ⟨r.val / 3 + r.val % 3, by omega⟩).toInt : ℝ) : EReal) else 0 := by
  have h1 := v1195_at I r
  unfold v1452 v1436 v1392 v1390 v1388 c19_i32_588 v1348 v1304 v1302 cst_572 v1300 v1261 v1260 v1217 v1214 v1212 cst_539
  unfold k0_pay127 k0_pay126 k0_pay125 k0_pay124 k0_pay123 k0_pay122 k0_pay121 k0_pay120 k0_pay119 k0_pay118 k0_pay117 k0_pay116 k0_pay115 k0_pay114
  have h0 : k0_pay113 (v1154 I) (v1156 I) (v1170 I) (v1174 I) = v1195 I := rfl
  rw [h0]
  generalize v1195 I = J at h1 ⊢
  pointwise
  rw [h1]
  obtain ⟨q, hq⟩ : ∃ q : ℕ, q = r.val / 3 + r.val % 3 := ⟨_, rfl⟩
  have hq' : q < 34 := by omega
  simp only [← hq]
  interval_cases q <;> simp [Scalar.select, IntOp.cmpi] <;> rfl

set_option maxHeartbeats 2000000 in
theorem out38_at (I : In Ideal c) (r : Fin 96) (j : Fin 5) :
    out38 I (ix3 0 r j) = if h : j.val < 1 then (((idw I ⟨r.val / 3 + r.val % 3, by omega⟩).toInt : ℝ) : EReal)
      else v1153 I (ix2 r ⟨j.val - 1, by omega⟩) := by
  have h1 := v1195_at I r
  have h2 := v1452_at I r
  unfold out38
  rw [View.canon_unit_zero (by funext a; fin_cases a <;> rfl)]
  unfold v1454
  unfold k0_pay1 k0_pay128
  generalize v1195 I = J at h1 ⊢
  generalize v1153 I = M
  generalize v1452 I = C at h2 ⊢
  pointwise
  by_cases h : j.val < 1
  · rw [dif_pos h, dif_pos h]
    have hj : (⟨j.val, h⟩ : Fin 1) = 0 := Subsingleton.elim _ _
    have hr : r.val / 3 + r.val % 3 < 34 := by omega
    rw [hj, h1, h2]
    by_cases ha : r.val / 3 + r.val % 3 < 32
    · rw [dif_pos ha]
      have n1 : ¬ (BitVec.ofNat 32 (r.val / 3 + r.val % 3) = 32#32) := by
        intro e; have := congrArg BitVec.toNat e; simp at this; omega
      have n2 : ¬ (BitVec.ofNat 32 (r.val / 3 + r.val % 3) = 33#32) := by
        intro e; have := congrArg BitVec.toNat e; simp at this; omega
      have b1 := beq_false_of_ne n1
      have b2 := beq_false_of_ne n2
      simp [Scalar.select, IntOp.cmpi, b1, b2]
    · rw [dif_neg ha]
      rcases (by omega : r.val / 3 + r.val % 3 = 32 ∨ r.val / 3 + r.val % 3 = 33) with e | e
      · simp only [e]
        simp [Scalar.select, IntOp.cmpi]
        rfl
      · simp only [e]
        simp [Scalar.select, IntOp.cmpi]
        rfl
  · rw [dif_neg h, dif_neg h]

end Cert.KernelIdeal.Own
-- ==== Proof.KernelIdeal.S4.lean ====
module

public import proofs.«01_k».proof.Proof.KernelIdeal.S3
public import proofs.«01_k».proof.Proof.KernelIdeal.Run
public import Idealize.ShloMosaic.Lib.Pointwise
public import Idealize.ShloMosaic.Lib.Pipeline.ValueKit

@[expose] public section

set_option maxRecDepth 16384

noncomputable section

namespace Cert.KernelIdeal.Own

open Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The place in the table of the `q`-th id that point `t` looks at. -/
def pos (t q : ℕ) : ℕ := min 1023 (32 * t + q - 1)

theorem pos_lt (t q : ℕ) : pos t q < 1024 := by unfold pos; omega

theorem off1_val : ∀ (t : Fin grid0.N) (q : Fin 34), k0_off1 (grid0.coords t) (BitVec.ofNat 32 q.val) 0 = pos t.val q.val := by
  decide +kernel

theorem index_0 (a) (t : Fin grid0.N) : ((pcfg0 (F := Ideal)).win a 0).index t = ![t.val, 0, 0] :=
  (by decide +kernel : ∀ t : Fin grid0.N, cc0_transform_0 (grid0.coords t) = ![t.val, 0, 0]) t
theorem index_1 (a) (t : Fin grid0.N) : ((pcfg0 (F := Ideal)).win a 1).index t = ![t.val, 0, 0] :=
  (by decide +kernel : ∀ t : Fin grid0.N, cc0_transform_1 (grid0.coords t) = ![t.val, 0, 0]) t
theorem index_2 (a) (t : Fin grid0.N) : ((pcfg0 (F := Ideal)).win a 2).index t = ![t.val, 0] :=
  (by decide +kernel : ∀ t : Fin grid0.N, cc0_transform_2 (grid0.coords t) = ![t.val, 0]) t

theorem word_at (t : Fin grid0.N) (q : Fin 34) (tb : tbM0_0.view.ty.Contents (Elt Ideal)) :
    View.readAt (Elt Ideal) tbM0_0.view (Rect.unit (s := S1024) (k0_off1 (grid0.coords t) (BitVec.ofNat 32 q.val)) S1.size (k0_off1_inb (grid0.coords t) q)).toLoadRect tb (Shape.Idx.first (numel1_S1.symm ▸ Nat.one_pos))
      = tb (ix1 ⟨pos t.val q.val, pos_lt _ _⟩) := by
  have e := off1_val t q
  refine congrArg tb (funext fun a => Fin.ext ?_)
  fin_cases a
  change k0_off1 _ _ 0 + _ = _
  rw [e]
  rfl

theorem x0_at (hO : Ok m) (c : Dev nD) (t : Fin (cfgM m hO).N) (a : Fin 32) (b : Fin 64) (k : Fin 256) :
    (inAt m hO c t).x0 (ix3 a b k) = m ((c : Thread nD τ).loc main_arg4) (ix3 ⟨32 * t.val + a.val, by have : t.val < 32 := t.isLt; omega⟩ b k) := by
  have e := index_0 (adm0 m hO) t
  change iblk m hO c 0 t (ix3 a b k) = _
  blk_ext [iblk, V]
  · exact (congrArg (· * 32 + a.val) (congrFun e 0)).trans (by simp; omega)
  · exact (congrArg (· * 64 + b.val) (congrFun e 1)).trans (by simp)
  · exact (congrArg (· * 256 + k.val) (congrFun e 2)).trans (by simp)

theorem V_v0 (c : Dev nD) : V m c main_v0 = shapeCast S1024x64x3 (m ((c : Thread nD τ).loc main_arg3)) shapeCasts_S65536x3_S1024x64x3 := by
  entry_read
  rfl

theorem V_v1 (c : Dev nD) : V m c main_v1 = shapeCast S2048x1x256 (m ((c : Thread nD τ).loc main_arg0)) shapeCasts_S2048x256_S2048x1x256 := by
  entry_read
  rfl

theorem shape_v0 (A : Vec Ideal S65536x3 .f32) (a : Fin 1024) (b : Fin 64) (k : Fin 3) :
    shapeCast S1024x64x3 A shapeCasts_S65536x3_S1024x64x3 (ix3 a b k) = A (ix2 ⟨64 * a.val + b.val, by omega⟩ k) := by
  pointwise
  blk_ext []

theorem x1_at (hO : Ok m) (c : Dev nD) (t : Fin (cfgM m hO).N) (a : Fin 32) (b : Fin 64) (k : Fin 3) :
    (inAt m hO c t).x1 (ix3 a b k) = m ((c : Thread nD τ).loc main_arg3) (ix2 ⟨64 * (32 * t.val + a.val) + b.val, by have : t.val < 32 := t.isLt; omega⟩ k) := by
  have e := index_1 (adm0 m hO) t
  have h : (inAt m hO c t).x1 (ix3 a b k) = V m c main_v0 (ix3 ⟨32 * t.val + a.val, by have : t.val < 32 := t.isLt; omega⟩ b k) := by
    change iblk m hO c 1 t (ix3 a b k) = _
    unfold iblk
    refine congrArg (V m c main_v0) (funext fun ax => Fin.ext ?_)
    fin_cases ax
    · exact (congrArg (fun n => n * 32 + 1 * a.val) (congrFun e 0)).trans (by simp; omega)
    · exact (congrArg (fun n => n * 64 + 1 * b.val) (congrFun e 1)).trans (by simp)
    · exact (congrArg (fun n => n * 3 + 1 * k.val) (congrFun e 2)).trans (by simp)
  rw [h, V_v0]
  exact shape_v0 _ _ _ _

theorem x2_at (hO : Ok m) (c : Dev nD) (t : Fin (cfgM m hO).N) (p : Fin 2048) (k : Fin 256) :
    (inAt m hO c t).x2 (ix2 p k) = m ((c : Thread nD τ).loc main_arg2) (ix2 ⟨2048 * t.val + p.val, by have : t.val < 32 := t.isLt; omega⟩ k) := by
  have e := index_2 (adm0 m hO) t
  change iblk m hO c 2 t (ix2 p k) = _
  blk_ext [iblk, V]
  · exact (congrArg (· * 2048 + p.val) (congrFun e 0)).trans (by simp; omega)
  · exact (congrArg (· * 256 + k.val) (congrFun e 1)).trans (by simp)

theorem tbl_at (c : Dev nD) (j : S1024.Idx) : tbl m 0 j = m (((0 : Dev nD) : Thread nD τ).loc main_arg6) j := by
  unfold tbl
  blk_ext [V]

theorem idw_at (hO : Ok m) (c : Dev nD) (t : Fin (cfgM m hO).N) (q : Fin 34) :
    idw (inAt m hO c t) q = m (((0 : Dev nD) : Thread nD τ).loc main_arg6) (ix1 ⟨pos t.val q.val, pos_lt _ _⟩) := by
  rw [← tbl_at m c]
  fin_vals q with hk
  all_goals
    rw [Fin.ext (a := q) (b := ⟨_, hk ▸ q.isLt⟩) hk]
    exact word_at t ⟨_, hk ▸ q.isLt⟩ _

theorem emb_row (J : S2048x1x256.Idx) (X : Fin 3 → ℕ) (n : ℕ) (hn : n < 2048) (k : Fin 256)
    (hJ : ∀ a, (J a).val = X a * S1x1x256.size a + 1 * ((ix3 (0 : Fin 1) (0 : Fin 1) k) a).val) (hX : X = ![n, 0, 0]) :
    J = ix3 ⟨n, hn⟩ 0 k := by
  subst hX
  refine funext fun a => Fin.ext ((hJ a).trans ?_)
  fin_cases a
  · exact (by omega : n * 1 + 1 * 0 = n)
  · rfl
  · exact (by omega : 0 * 256 + 1 * k.val = k.val)

set_option maxHeartbeats 4000000 in
theorem grow_at (hO : Ok m) (c : Dev nD) (t : Fin grid0.N) (q : Fin 34) (k : Fin 256)
    (hq : (tbl m 0 (ix1 ⟨pos t.val q.val, pos_lt _ _⟩)).toNat < 2048) :
    grow (inAt m hO c t) q (ix3 0 0 k) = V m c main_v1 (ix3 ⟨(tbl m 0 (ix1 ⟨pos t.val q.val, pos_lt _ _⟩)).toNat, hq⟩ 0 k) := by
  have e := word_at t q (tbl m 0)
  revert hq
  rw [← e]
  clear e
  intro hq
  fin_cases q
  · exact congrArg (V m c main_v1) (emb_row ((((cfgM m hO).win 3).blk t).view.emb (ix3 0 0 k)) (cc0_transform_3 k0_off1_inb numel1_S1 (tbl m) (grid0.coords t)) _ hq k (fun _ => rfl) rfl)
  · exact congrArg (V m c main_v1) (emb_row ((((cfgM m hO).win 4).blk t).view.emb (ix3 0 0 k)) (cc0_transform_4 k0_off1_inb numel1_S1 (tbl m) (grid0.coords t)) _ hq k (fun _ => rfl) rfl)
  · exact congrArg (V m c main_v1) (emb_row ((((cfgM m hO).win 5).blk t).view.emb (ix3 0 0 k)) (cc0_transform_5 k0_off1_inb numel1_S1 (tbl m) (grid0.coords t)) _ hq k (fun _ => rfl) rfl)
  · exact congrArg (V m c main_v1) (emb_row ((((cfgM m hO).win 6).blk t).view.emb (ix3 0 0 k)) (cc0_transform_6 k0_off1_inb numel1_S1 (tbl m) (grid0.coords t)) _ hq k (fun _ => rfl) rfl)
  · exact congrArg (V m c main_v1) (emb_row ((((cfgM m hO).win 7).blk t).view.emb (ix3 0 0 k)) (cc0_transform_7 k0_off1_inb numel1_S1 (tbl m) (grid0.coords t)) _ hq k (fun _ => rfl) rfl)
  · exact congrArg (V m c main_v1) (emb_row ((((cfgM m hO).win 8).blk t).view.emb (ix3 0 0 k)) (cc0_transform_8 k0_off1_inb numel1_S1 (tbl m) (grid0.coords t)) _ hq k (fun _ => rfl) rfl)
  · exact congrArg (V m c main_v1) (emb_row ((((cfgM m hO).win 9).blk t).view.emb (ix3 0 0 k)) (cc0_transform_9 k0_off1_inb numel1_S1 (tbl m) (grid0.coords t)) _ hq k (fun _ => rfl) rfl)
  · exact congrArg (V m c main_v1) (emb_row ((((cfgM m hO).win 10).blk t).view.emb (ix3 0 0 k)) (cc0_transform_10 k0_off1_inb numel1_S1 (tbl m) (grid0.coords t)) _ hq k (fun _ => rfl) rfl)
  · exact congrArg (V m c main_v1) (emb_row ((((cfgM m hO).win 11).blk t).view.emb (ix3 0 0 k)) (cc0_transform_11 k0_off1_inb numel1_S1 (tbl m) (grid0.coords t)) _ hq k (fun _ => rfl) rfl)
  · exact congrArg (V m c main_v1) (emb_row ((((cfgM m hO).win 12).blk t).view.emb (ix3 0 0 k)) (cc0_transform_12 k0_off1_inb numel1_S1 (tbl m) (grid0.coords t)) _ hq k (fun _ => rfl) rfl)
  · exact congrArg (V m c main_v1) (emb_row ((((cfgM m hO).win 13).blk t).view.emb (ix3 0 0 k)) (cc0_transform_13 k0_off1_inb numel1_S1 (tbl m) (grid0.coords t)) _ hq k (fun _ => rfl) rfl)
  · exact congrArg (V m c main_v1) (emb_row ((((cfgM m hO).win 14).blk t).view.emb (ix3 0 0 k)) (cc0_transform_14 k0_off1_inb numel1_S1 (tbl m) (grid0.coords t)) _ hq k (fun _ => rfl) rfl)
  · exact congrArg (V m c main_v1) (emb_row ((((cfgM m hO).win 15).blk t).view.emb (ix3 0 0 k)) (cc0_transform_15 k0_off1_inb numel1_S1 (tbl m) (grid0.coords t)) _ hq k (fun _ => rfl) rfl)
  · exact congrArg (V m c main_v1) (emb_row ((((cfgM m hO).win 16).blk t).view.emb (ix3 0 0 k)) (cc0_transform_16 k0_off1_inb numel1_S1 (tbl m) (grid0.coords t)) _ hq k (fun _ => rfl) rfl)
  · exact congrArg (V m c main_v1) (emb_row ((((cfgM m hO).win 17).blk t).view.emb (ix3 0 0 k)) (cc0_transform_17 k0_off1_inb numel1_S1 (tbl m) (grid0.coords t)) _ hq k (fun _ => rfl) rfl)
  · exact congrArg (V m c main_v1) (emb_row ((((cfgM m hO).win 18).blk t).view.emb (ix3 0 0 k)) (cc0_transform_18 k0_off1_inb numel1_S1 (tbl m) (grid0.coords t)) _ hq k (fun _ => rfl) rfl)
  · exact congrArg (V m c main_v1) (emb_row ((((cfgM m hO).win 19).blk t).view.emb (ix3 0 0 k)) (cc0_transform_19 k0_off1_inb numel1_S1 (tbl m) (grid0.coords t)) _ hq k (fun _ => rfl) rfl)
  · exact congrArg (V m c main_v1) (emb_row ((((cfgM m hO).win 20).blk t).view.emb (ix3 0 0 k)) (cc0_transform_20 k0_off1_inb numel1_S1 (tbl m) (grid0.coords t)) _ hq k (fun _ => rfl) rfl)
  · exact congrArg (V m c main_v1) (emb_row ((((cfgM m hO).win 21).blk t).view.emb (ix3 0 0 k)) (cc0_transform_21 k0_off1_inb numel1_S1 (tbl m) (grid0.coords t)) _ hq k (fun _ => rfl) rfl)
  · exact congrArg (V m c main_v1) (emb_row ((((cfgM m hO).win 22).blk t).view.emb (ix3 0 0 k)) (cc0_transform_22 k0_off1_inb numel1_S1 (tbl m) (grid0.coords t)) _ hq k (fun _ => rfl) rfl)
  · exact congrArg (V m c main_v1) (emb_row ((((cfgM m hO).win 23).blk t).view.emb (ix3 0 0 k)) (cc0_transform_23 k0_off1_inb numel1_S1 (tbl m) (grid0.coords t)) _ hq k (fun _ => rfl) rfl)
  · exact congrArg (V m c main_v1) (emb_row ((((cfgM m hO).win 24).blk t).view.emb (ix3 0 0 k)) (cc0_transform_24 k0_off1_inb numel1_S1 (tbl m) (grid0.coords t)) _ hq k (fun _ => rfl) rfl)
  · exact congrArg (V m c main_v1) (emb_row ((((cfgM m hO).win 25).blk t).view.emb (ix3 0 0 k)) (cc0_transform_25 k0_off1_inb numel1_S1 (tbl m) (grid0.coords t)) _ hq k (fun _ => rfl) rfl)
  · exact congrArg (V m c main_v1) (emb_row ((((cfgM m hO).win 26).blk t).view.emb (ix3 0 0 k)) (cc0_transform_26 k0_off1_inb numel1_S1 (tbl m) (grid0.coords t)) _ hq k (fun _ => rfl) rfl)
  · exact congrArg (V m c main_v1) (emb_row ((((cfgM m hO).win 27).blk t).view.emb (ix3 0 0 k)) (cc0_transform_27 k0_off1_inb numel1_S1 (tbl m) (grid0.coords t)) _ hq k (fun _ => rfl) rfl)
  · exact congrArg (V m c main_v1) (emb_row ((((cfgM m hO).win 28).blk t).view.emb (ix3 0 0 k)) (cc0_transform_28 k0_off1_inb numel1_S1 (tbl m) (grid0.coords t)) _ hq k (fun _ => rfl) rfl)
  · exact congrArg (V m c main_v1) (emb_row ((((cfgM m hO).win 29).blk t).view.emb (ix3 0 0 k)) (cc0_transform_29 k0_off1_inb numel1_S1 (tbl m) (grid0.coords t)) _ hq k (fun _ => rfl) rfl)
  · exact congrArg (V m c main_v1) (emb_row ((((cfgM m hO).win 30).blk t).view.emb (ix3 0 0 k)) (cc0_transform_30 k0_off1_inb numel1_S1 (tbl m) (grid0.coords t)) _ hq k (fun _ => rfl) rfl)
  · exact congrArg (V m c main_v1) (emb_row ((((cfgM m hO).win 31).blk t).view.emb (ix3 0 0 k)) (cc0_transform_31 k0_off1_inb numel1_S1 (tbl m) (grid0.coords t)) _ hq k (fun _ => rfl) rfl)
  · exact congrArg (V m c main_v1) (emb_row ((((cfgM m hO).win 32).blk t).view.emb (ix3 0 0 k)) (cc0_transform_32 k0_off1_inb numel1_S1 (tbl m) (grid0.coords t)) _ hq k (fun _ => rfl) rfl)
  · exact congrArg (V m c main_v1) (emb_row ((((cfgM m hO).win 33).blk t).view.emb (ix3 0 0 k)) (cc0_transform_33 k0_off1_inb numel1_S1 (tbl m) (grid0.coords t)) _ hq k (fun _ => rfl) rfl)
  · exact congrArg (V m c main_v1) (emb_row ((((cfgM m hO).win 34).blk t).view.emb (ix3 0 0 k)) (cc0_transform_34 k0_off1_inb numel1_S1 (tbl m) (grid0.coords t)) _ hq k (fun _ => rfl) rfl)
  · exact congrArg (V m c main_v1) (emb_row ((((cfgM m hO).win 35).blk t).view.emb (ix3 0 0 k)) (cc0_transform_35 k0_off1_inb numel1_S1 (tbl m) (grid0.coords t)) _ hq k (fun _ => rfl) rfl)
  · exact congrArg (V m c main_v1) (emb_row ((((cfgM m hO).win 36).blk t).view.emb (ix3 0 0 k)) (cc0_transform_36 k0_off1_inb numel1_S1 (tbl m) (grid0.coords t)) _ hq k (fun _ => rfl) rfl)

theorem shape_v1 (A : Vec Ideal S2048x256 .f32) (n : Fin 2048) (k : Fin 256) :
    shapeCast S2048x1x256 A shapeCasts_S2048x256_S2048x1x256 (ix3 n 0 k) = A (ix2 n k) := by
  pointwise
  try blk_ext []
-- ==== Proof.KernelIdeal.S5.lean ====
module

public import proofs.«01_k».proof.Proof.KernelIdeal.S4
public import Idealize.ShloMosaic.Lib.Pipeline.Covers

@[expose] public section
set_option maxRecDepth 16384
noncomputable section
namespace Cert.KernelIdeal.Own
open Cert.KernelIdeal.Gen
open Idealize.ShloMosaic Idealize.ShloMosaic.TcCoe Idealize.ShloMosaic.Tactic
open Idealize.ShloMosaic.Pipeline (Dat Cfg Window)
variable (m : (ℓ : Loc nD τ sig) → Buf (Elt Ideal) ℓ)

theorem index_37 (a) (t : Fin grid0.N) : ((pcfg0 (F := Ideal)).win a 37).index t = (![t.val, 0, 0] : Fin 3 → ℕ) :=
  (by decide +kernel : ∀ t : Fin grid0.N, cc0_transform_37 (grid0.coords t) = ![t.val, 0, 0]) t

theorem covers_37 (hO : Ok m) : ((cfgM m hO).win 37).Covers := by
  refine ((cfgM m hO).win 37).covers_of_indexMap_surj rfl (by decide : ∀ a : Fin 3, 0 < (![1, 1, 2048] : Fin 3 → ℕ) a) fun β => ?_
  have h0 : (β (0 : Fin 3)).val < 32 := lt_of_lt_of_eq (β (0 : Fin 3)).isLt (show ((32 : ℕ) + 1 - 1) / 1 = _ from rfl)
  have h1 : (β (1 : Fin 3)).val < 1 := lt_of_lt_of_eq (β (1 : Fin 3)).isLt (show ((1 : ℕ) + 1 - 1) / 1 = _ from rfl)
  have h2 : (β (2 : Fin 3)).val < 1 := lt_of_lt_of_eq (β (2 : Fin 3)).isLt (show ((2048 : ℕ) + 2048 - 1) / 2048 = _ from rfl)
  exact ⟨fun x => ⟨(β (0 : Fin 3)).val, match x with | ⟨0, _⟩ => h0⟩, fun a => match a with
    | ⟨0, _⟩ => (by decide : ∀ n : Fin 32, (BitVec.ofNat 32 n.val).toNat = n.val) ⟨(β (0 : Fin 3)).val, h0⟩
    | ⟨1, _⟩ => (Nat.lt_one_iff.mp h1).symm
    | ⟨2, _⟩ => (Nat.lt_one_iff.mp h2).symm⟩

theorem index_38 (a) (t : Fin grid0.N) : ((pcfg0 (F := Ideal)).win a 38).index t = (![t.val, 0, 0] : Fin 3 → ℕ) :=
  (by decide +kernel : ∀ t : Fin grid0.N, cc0_transform_38 (grid0.coords t) = ![t.val, 0, 0]) t

theorem covers_38 (hO : Ok m) : ((cfgM m hO).win 38).Covers := by
  refine ((cfgM m hO).win 38).covers_of_indexMap_surj rfl (by decide : ∀ a : Fin 3, 0 < (![1, 96, 5] : Fin 3 → ℕ) a) fun β => ?_
  have h0 : (β (0 : Fin 3)).val < 32 := lt_of_lt_of_eq (β (0 : Fin 3)).isLt (show ((32 : ℕ) + 1 - 1) / 1 = _ from rfl)
  have h1 : (β (1 : Fin 3)).val < 1 := lt_of_lt_of_eq (β (1 : Fin 3)).isLt (show ((96 : ℕ) + 96 - 1) / 96 = _ from rfl)
  have h2 : (β (2 : Fin 3)).val < 1 := lt_of_lt_of_eq (β (2 : Fin 3)).isLt (show ((5 : ℕ) + 5 - 1) / 5 = _ from rfl)
  exact ⟨fun x => ⟨(β (0 : Fin 3)).val, match x with | ⟨0, _⟩ => h0⟩, fun a => match a with
    | ⟨0, _⟩ => (by decide : ∀ n : Fin 32, (BitVec.ofNat 32 n.val).toNat = n.val) ⟨(β (0 : Fin 3)).val, h0⟩
    | ⟨1, _⟩ => (Nat.lt_one_iff.mp h1).symm
    | ⟨2, _⟩ => (Nat.lt_one_iff.mp h2).symm⟩

theorem index_39 (a) (t : Fin grid0.N) : ((pcfg0 (F := Ideal)).win a 39).index t = (![t.val, 0, 0] : Fin 3 → ℕ) :=
  (by decide +kernel : ∀ t : Fin grid0.N, cc0_transform_39 (grid0.coords t) = ![t.val, 0, 0]) t

theorem covers_39 (hO : Ok m) : ((cfgM m hO).win 39).Covers := by
  refine ((cfgM m hO).win 39).covers_of_indexMap_surj rfl (by decide : ∀ a : Fin 3, 0 < (![32, 64, 256] : Fin 3 → ℕ) a) fun β => ?_
  have h0 : (β (0 : Fin 3)).val < 32 := lt_of_lt_of_eq (β (0 : Fin 3)).isLt (show ((1024 : ℕ) + 32 - 1) / 32 = _ from rfl)
  have h1 : (β (1 : Fin 3)).val < 1 := lt_of_lt_of_eq (β (1 : Fin 3)).isLt (show ((64 : ℕ) + 64 - 1) / 64 = _ from rfl)
  have h2 : (β (2 : Fin 3)).val < 1 := lt_of_lt_of_eq (β (2 : Fin 3)).isLt (show ((256 : ℕ) + 256 - 1) / 256 = _ from rfl)
  exact ⟨fun x => ⟨(β (0 : Fin 3)).val, match x with | ⟨0, _⟩ => h0⟩, fun a => match a with
    | ⟨0, _⟩ => (by decide : ∀ n : Fin 32, (BitVec.ofNat 32 n.val).toNat = n.val) ⟨(β (0 : Fin 3)).val, h0⟩
    | ⟨1, _⟩ => (Nat.lt_one_iff.mp h1).symm
    | ⟨2, _⟩ => (Nat.lt_one_iff.mp h2).symm⟩

theorem index_40 (a) (t : Fin grid0.N) : ((pcfg0 (F := Ideal)).win a 40).index t = (![t.val, 0, 0] : Fin 3 → ℕ) :=
  (by decide +kernel : ∀ t : Fin grid0.N, cc0_transform_40 (grid0.coords t) = ![t.val, 0, 0]) t

theorem covers_40 (hO : Ok m) : ((cfgM m hO).win 40).Covers := by
  refine ((cfgM m hO).win 40).covers_of_indexMap_surj rfl (by decide : ∀ a : Fin 3, 0 < (![64, 32, 256] : Fin 3 → ℕ) a) fun β => ?_
  have h0 : (β (0 : Fin 3)).val < 32 := lt_of_lt_of_eq (β (0 : Fin 3)).isLt (show ((2048 : ℕ) + 64 - 1) / 64 = _ from rfl)
  have h1 : (β (1 : Fin 3)).val < 1 := lt_of_lt_of_eq (β (1 : Fin 3)).isLt (show ((32 : ℕ) + 32 - 1) / 32 = _ from rfl)
  have h2 : (β (2 : Fin 3)).val < 1 := lt_of_lt_of_eq (β (2 : Fin 3)).isLt (show ((256 : ℕ) + 256 - 1) / 256 = _ from rfl)
  exact ⟨fun x => ⟨(β (0 : Fin 3)).val, match x with | ⟨0, _⟩ => h0⟩, fun a => match a with
    | ⟨0, _⟩ => (by decide : ∀ n : Fin 32, (BitVec.ofNat 32 n.val).toNat = n.val) ⟨(β (0 : Fin 3)).val, h0⟩
    | ⟨1, _⟩ => (Nat.lt_one_iff.mp h1).symm
    | ⟨2, _⟩ => (Nat.lt_one_iff.mp h2).symm⟩

theorem fin37_at (hO : Ok m) (c : Dev nD) (b : Fin 32) (p : Fin 2048) :
    fin37 m hO c (ix3 b 0 p) = out37 (inAt m hO c b) (ix3 0 0 p) := by
  have h : fin37 m hO c = fun i : S32x1x2048.Idx => out37 (inAt m hO c (i 0)) (ix3 0 0 (i 2)) := by
    unfold fin37
    refine (dat0 m hO c).arrAt_eq_of_covers 37 _ (covers_37 m hO) (fun t hf y => ?_)
    rw [after0_37]
    have e := index_37 (adm0 m hO) t
    have y0 : (y (0 : Fin 3)).val < 1 := (y (0 : Fin 3)).isLt
    have y1 : (y (1 : Fin 3)).val < 1 := (y (1 : Fin 3)).isLt
    refine (cast_eq _ _).trans (congrArg₂ (fun (b : Fin 32) (j : S1x1x2048.Idx) => out37 (inAt m hO c b) j) (Fin.ext ?_) (funext fun a => Fin.ext ?_))
    · exact ((congrArg (fun n => n * 1 + 1 * (y (0 : Fin 3)).val) (congrFun e (0 : Fin 3))).trans (by simp)).symm
    · match a with
      | ⟨0, _⟩ => exact Nat.lt_one_iff.mp y0
      | ⟨1, _⟩ => exact Nat.lt_one_iff.mp y1
      | ⟨2, _⟩ => exact ((congrArg (fun n => n * 2048 + 1 * (y (2 : Fin 3)).val) (congrFun e (2 : Fin 3))).trans (by simp)).symm
  exact congrFun h _

theorem fin38_at (hO : Ok m) (c : Dev nD) (b : Fin 32) (r : Fin 96) (j : Fin 5) :
    fin38 m hO c (ix3 b r j) = out38 (inAt m hO c b) (ix3 0 r j) := by
  have h : fin38 m hO c = fun i : S32x96x5.Idx => out38 (inAt m hO c (i 0)) (ix3 0 (i 1) (i 2)) := by
    unfold fin38
    refine (dat0 m hO c).arrAt_eq_of_covers 38 _ (covers_38 m hO) (fun t hf y => ?_)
    rw [after0_38]
    have e := index_38 (adm0 m hO) t
    have y0 : (y (0 : Fin 3)).val < 1 := (y (0 : Fin 3)).isLt
    refine (cast_eq _ _).trans (congrArg₂ (fun (b : Fin 32) (j : S1x96x5.Idx) => out38 (inAt m hO c b) j) (Fin.ext ?_) (funext fun a => Fin.ext ?_))
    · exact ((congrArg (fun n => n * 1 + 1 * (y (0 : Fin 3)).val) (congrFun e (0 : Fin 3))).trans (by simp)).symm
    · match a with
      | ⟨0, _⟩ => exact Nat.lt_one_iff.mp y0
      | ⟨1, _⟩ => exact ((congrArg (fun n => n * 96 + 1 * (y (1 : Fin 3)).val) (congrFun e (1 : Fin 3))).trans (by simp)).symm
      | ⟨2, _⟩ => exact ((congrArg (fun n => n * 5 + 1 * (y (2 : Fin 3)).val) (congrFun e (2 : Fin 3))).trans (by simp)).symm
  exact congrFun h _

theorem out39_at {c : Dev nD} (I : In Ideal c) (a : Fin 32) (b : Fin 64) (k : Fin 256) :
    out39 I (ix3 a b k) = I.x2 (ix2 ⟨64 * a.val + b.val, by omega⟩ k) := by
  unfold out39 v0
  rw [View.canon_unit_zero (by funext a; fin_cases a <;> rfl)]
  unfold_payloads
  generalize I.x2 = X
  pointwise
  try blk_ext []

theorem out40_at {c : Dev nD} (I : In Ideal c) (a : Fin 64) (b : Fin 32) (k : Fin 256) :
    out40 I (ix3 a b k) = I.x2 (ix2 ⟨32 * a.val + b.val, by omega⟩ k) := by
  unfold out40 v0
  rw [View.canon_unit_zero (by funext a; fin_cases a <;> rfl)]
  unfold_payloads
  generalize I.x2 = X
  pointwise
  try blk_ext []

theorem fin39_at (hO : Ok m) (c : Dev nD) (a : Fin 1024) (b : Fin 64) (k : Fin 256) :
    fin39 m hO c (ix3 a b k) = m ((c : Thread nD τ).loc main_arg2) (ix2 ⟨64 * a.val + b.val, by omega⟩ k) := by
  have h : fin39 m hO c = fun i : S1024x64x256.Idx => out39 (inAt m hO c (⟨(i 0).val / 32, Nat.div_lt_of_lt_mul (i 0).isLt⟩ : Fin 32)) (ix3 (⟨(i 0).val % 32, Nat.mod_lt _ (by decide)⟩ : Fin 32) (i 1) (i 2)) := by
    unfold fin39
    refine (dat0 m hO c).arrAt_eq_of_covers 39 _ (covers_39 m hO) (fun t hf y => ?_)
    rw [after0_39]
    have e := index_39 (adm0 m hO) t
    have y0 : (y (0 : Fin 3)).val < 32 := (y (0 : Fin 3)).isLt
    have e0 : ((((cfgM m hO).win 39).blk t).view.emb y (0 : Fin 3)).val = t.val * 32 + 1 * (y (0 : Fin 3)).val := congrArg (fun n => n * 32 + 1 * (y (0 : Fin 3)).val) (congrFun e (0 : Fin 3))
    refine (cast_eq _ _).trans (congrArg₂ (fun (b : Fin 32) (j : S32x64x256.Idx) => out39 (inAt m hO c b) j) (Fin.ext ?_) (funext fun a => Fin.ext ?_))
    · exact (by omega : ∀ n, n = t.val * 32 + 1 * (y (0 : Fin 3)).val → t.val = n / 32) _ e0
    · match a with
      | ⟨0, _⟩ => exact (by omega : ∀ n, n = t.val * 32 + 1 * (y (0 : Fin 3)).val → (y (0 : Fin 3)).val = n % 32) _ e0
      | ⟨1, _⟩ => exact ((congrArg (fun n => n * 64 + 1 * (y (1 : Fin 3)).val) (congrFun e (1 : Fin 3))).trans (by simp)).symm
      | ⟨2, _⟩ => exact ((congrArg (fun n => n * 256 + 1 * (y (2 : Fin 3)).val) (congrFun e (2 : Fin 3))).trans (by simp)).symm
  refine (congrFun h _).trans ((out39_at _ _ _ _).trans ((x2_at m hO c _ _ _).trans (congrArg _ (funext fun x => Fin.ext ?_))))
  match x with
  | ⟨0, _⟩ => exact (by omega : 2048 * (a.val / 32) + (64 * (a.val % 32) + b.val) = 64 * a.val + b.val)
  | ⟨1, _⟩ => rfl

theorem fin40_at (hO : Ok m) (c : Dev nD) (a : Fin 2048) (b : Fin 32) (k : Fin 256) :
    fin40 m hO c (ix3 a b k) = m ((c : Thread nD τ).loc main_arg2) (ix2 ⟨32 * a.val + b.val, by omega⟩ k) := by
  have h : fin40 m hO c = fun i : S2048x32x256.Idx => out40 (inAt m hO c (⟨(i 0).val / 64, Nat.div_lt_of_lt_mul (i 0).isLt⟩ : Fin 32)) (ix3 (⟨(i 0).val % 64, Nat.mod_lt _ (by decide)⟩ : Fin 64) (i 1) (i 2)) := by
    unfold fin40
    refine (dat0 m hO c).arrAt_eq_of_covers 40 _ (covers_40 m hO) (fun t hf y => ?_)
    rw [after0_40]
    have e := index_40 (adm0 m hO) t
    have y0 : (y (0 : Fin 3)).val < 64 := (y (0 : Fin 3)).isLt
    have e0 : ((((cfgM m hO).win 40).blk t).view.emb y (0 : Fin 3)).val = t.val * 64 + 1 * (y (0 : Fin 3)).val := congrArg (fun n => n * 64 + 1 * (y (0 : Fin 3)).val) (congrFun e (0 : Fin 3))
    refine (cast_eq _ _).trans (congrArg₂ (fun (b : Fin 32) (j : S64x32x256.Idx) => out40 (inAt m hO c b) j) (Fin.ext ?_) (funext fun a => Fin.ext ?_))
    · exact (by omega : ∀ n, n = t.val * 64 + 1 * (y (0 : Fin 3)).val → t.val = n / 64) _ e0
    · match a with
      | ⟨0, _⟩ => exact (by omega : ∀ n, n = t.val * 64 + 1 * (y (0 : Fin 3)).val → (y (0 : Fin 3)).val = n % 64) _ e0
      | ⟨1, _⟩ => exact ((congrArg (fun n => n * 32 + 1 * (y (1 : Fin 3)).val) (congrFun e (1 : Fin 3))).trans (by simp)).symm
      | ⟨2, _⟩ => exact ((congrArg (fun n => n * 256 + 1 * (y (2 : Fin 3)).val) (congrFun e (2 : Fin 3))).trans (by simp)).symm
  refine (congrFun h _).trans ((out40_at _ _ _ _).trans ((x2_at m hO c _ _ _).trans (congrArg _ (funext fun x => Fin.ext ?_))))
  match x with
  | ⟨0, _⟩ => exact (by omega : 2048 * (a.val / 64) + (32 * (a.val % 64) + b.val) = 32 * a.val + b.val)
  | ⟨1, _⟩ => rfl
-- ==== Proof.Reference.Run.lean ====
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v63`, named. It packs its operands into a list of dependent pairs
    whose shapes a later argument's type mentions, so `simp` cannot rewrite an operand where it stands; applied by
    name, the operands are plain arguments, which the window lemmas below rewrite before the name unfolds. -/
def fn_main_v63 : (⟨S1024x64x3x1, .i32⟩ : BufTy).Contents (Elt F) → (⟨S1024x64x3x1, .i32⟩ : BufTy).Contents (Elt F) → (⟨S1024x64x3x2, .i32⟩ : BufTy).Contents (Elt F) :=
  (fun a b => concatenate S1024x64x3x2 3 [⟨S1024x64x3x1, a⟩, ⟨S1024x64x3x1, b⟩] concatenates_S1024x64x3x1_S1024x64x3x1_S1024x64x3x2_d3)

/-- @main's operations 1 … 30 of 178 (window `main_part0`). -/
abbrev ops_part0_0 : List (HloOp τ sig (Elt F)) :=
  [ nullary main_v0 (iotaInDim S3 32 0),
    nullary main_c (constantI S_ 32 4294967295#32),
    unary main_c main_v1 (broadcastInDim S3 ![] bcast_S_S3 : (⟨S_, .i32⟩ : BufTy).Contents (Elt F) → (⟨S3, .i32⟩ : BufTy).Contents (Elt F)),
    binary main_v1 main_v0 main_v2 (addi : (⟨S3, .i32⟩ : BufTy).Contents (Elt F) → (⟨S3, .i32⟩ : BufTy).Contents (Elt F) → (⟨S3, .i32⟩ : BufTy).Contents (Elt F)),
    nullary main_v3 (iotaInDim S1024 32 0),
    unary main_v3 main_v4 (broadcastInDim S1024x1 ![0] bcast_S1024_S1024x1_0 : (⟨S1024, .i32⟩ : BufTy).Contents (Elt F) → (⟨S1024x1, .i32⟩ : BufTy).Contents (Elt F)),
    unary main_v2 main_v5 (broadcastInDim S1x3 ![1] bcast_S3_S1x3_1 : (⟨S3, .i32⟩ : BufTy).Contents (Elt F) → (⟨S1x3, .i32⟩ : BufTy).Contents (Elt F)),
    unary main_v4 main_v6 (broadcastInDim S1024x3 ![0, 1] bcast_S1024x1_S1024x3_0_1 : (⟨S1024x1, .i32⟩ : BufTy).Contents (Elt F) → (⟨S1024x3, .i32⟩ : BufTy).Contents (Elt F)),
    unary main_v5 main_v7 (broadcastInDim S1024x3 ![0, 1] bcast_S1x3_S1024x3_0_1 : (⟨S1x3, .i32⟩ : BufTy).Contents (Elt F) → (⟨S1024x3, .i32⟩ : BufTy).Contents (Elt F)),
    binary main_v6 main_v7 main_v8 (addi : (⟨S1024x3, .i32⟩ : BufTy).Contents (Elt F) → (⟨S1024x3, .i32⟩ : BufTy).Contents (Elt F) → (⟨S1024x3, .i32⟩ : BufTy).Contents (Elt F)),
    nullary main_c_0 (constantI S_ 32 0#32),
    nullary main_c_1 (constantI S_ 32 1023#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S1024x3, .i32⟩) main_call0_v1) (broadcastInDim S1024x3 ![] bcast_S_S1024x3),
    TRef.binary (TRef.of (T := ⟨S1024x3, .i32⟩) main_call0_v1) (TRef.of (T := ⟨S1024x3, .i32⟩) main_v8) (TRef.of (T := ⟨S1024x3, .i32⟩) main_call0_v2) maxsi,
    TRef.unary (TRef.of (T := ⟨S_, .i32⟩) main_c_1) (TRef.of (T := ⟨S_, .i32⟩) main_call0_v3) id,
    TRef.unary (TRef.of (T := ⟨S_, .i32⟩) main_call0_v3) (TRef.of (T := ⟨S1024x3, .i32⟩) main_call0_v4) (broadcastInDim S1024x3 ![] bcast_S_S1024x3),
    TRef.binary (TRef.of (T := ⟨S1024x3, .i32⟩) main_call0_v4) (TRef.of (T := ⟨S1024x3, .i32⟩) main_call0_v2) (TRef.of (T := ⟨S1024x3, .i32⟩) main_v9) minsi,
    reshape main_v9 main_v10 (rfl : (.i32 : EltTy) = .i32) shapeCasts_S1024x3_S3072,
    nullary main_c_2 (constantI S_ 32 0#32),
    unary main_c_2 main_v11 (broadcastInDim S3072 ![] bcast_S_S3072 : (⟨S_, .i32⟩ : BufTy).Contents (Elt F) → (⟨S3072, .i32⟩ : BufTy).Contents (Elt F)),
    binary main_v10 main_v11 main_v12 (cmpi .slt : (⟨S3072, .i32⟩ : BufTy).Contents (Elt F) → (⟨S3072, .i32⟩ : BufTy).Contents (Elt F) → (⟨S3072, .i1⟩ : BufTy).Contents (Elt F)),
    nullary main_c_3 (constantI S_ 32 1024#32),
    unary main_c_3 main_v13 (broadcastInDim S3072 ![] bcast_S_S3072 : (⟨S_, .i32⟩ : BufTy).Contents (Elt F) → (⟨S3072, .i32⟩ : BufTy).Contents (Elt F)),
    binary main_v10 main_v13 main_v14 (addi : (⟨S3072, .i32⟩ : BufTy).Contents (Elt F) → (⟨S3072, .i32⟩ : BufTy).Contents (Elt F) → (⟨S3072, .i32⟩ : BufTy).Contents (Elt F)),
    ternary main_v12 main_v14 main_v10 main_v15 (select : (⟨S3072, .i1⟩ : BufTy).Contents (Elt F) → (⟨S3072, .i32⟩ : BufTy).Contents (Elt F) → (⟨S3072, .i32⟩ : BufTy).Contents (Elt F) → (⟨S3072, .i32⟩ : BufTy).Contents (Elt F)),
    unary main_v15 main_v16 (broadcastInDim S3072x1 ![0] bcast_S3072_S3072x1_0 : (⟨S3072, .i32⟩ : BufTy).Contents (Elt F) → (⟨S3072x1, .i32⟩ : BufTy).Contents (Elt F)),
    binary main_arg6 main_v16 main_v17 ((fun x i => Host.gather gather_S1024_S3072x1_S3072_n_0_n_n_0_1_1 x i) : (⟨S1024, .i32⟩ : BufTy).Contents (Elt F) → (⟨S3072x1, .i32⟩ : BufTy).Contents (Elt F) → (⟨S3072, .i32⟩ : BufTy).Contents (Elt F)),
    reshape main_v17 main_v18 (rfl : (.i32 : EltTy) = .i32) shapeCasts_S3072_S1024x3,
    reshape main_v18 main_v19 (rfl : (.i32 : EltTy) = .i32) shapeCasts_S1024x3_S3072 ]

/-- @main's operations 31 … 60 of 178 (window `main_part0`). -/
abbrev ops_part0_1 : List (HloOp τ sig (Elt F)) :=
  [ nullary main_c_4 (constantI S_ 32 0#32),
    unary main_c_4 main_v20 (broadcastInDim S3072 ![] bcast_S_S3072 : (⟨S_, .i32⟩ : BufTy).Contents (Elt F) → (⟨S3072, .i32⟩ : BufTy).Contents (Elt F)),
    binary main_v19 main_v20 main_v21 (cmpi .slt : (⟨S3072, .i32⟩ : BufTy).Contents (Elt F) → (⟨S3072, .i32⟩ : BufTy).Contents (Elt F) → (⟨S3072, .i1⟩ : BufTy).Contents (Elt F)),
    nullary main_c_5 (constantI S_ 32 2048#32),
    unary main_c_5 main_v22 (broadcastInDim S3072 ![] bcast_S_S3072 : (⟨S_, .i32⟩ : BufTy).Contents (Elt F) → (⟨S3072, .i32⟩ : BufTy).Contents (Elt F)),
    binary main_v19 main_v22 main_v23 (addi : (⟨S3072, .i32⟩ : BufTy).Contents (Elt F) → (⟨S3072, .i32⟩ : BufTy).Contents (Elt F) → (⟨S3072, .i32⟩ : BufTy).Contents (Elt F)),
    ternary main_v21 main_v23 main_v19 main_v24 (select : (⟨S3072, .i1⟩ : BufTy).Contents (Elt F) → (⟨S3072, .i32⟩ : BufTy).Contents (Elt F) → (⟨S3072, .i32⟩ : BufTy).Contents (Elt F) → (⟨S3072, .i32⟩ : BufTy).Contents (Elt F)),
    unary main_v24 main_v25 (broadcastInDim S3072x1 ![0] bcast_S3072_S3072x1_0 : (⟨S3072, .i32⟩ : BufTy).Contents (Elt F) → (⟨S3072x1, .i32⟩ : BufTy).Contents (Elt F)),
    binary main_arg0 main_v25 main_v26 ((fun x i => Host.gather gather_S2048x256_S3072x1_S3072x256_1_0_n_n_0_1_1256 x i) : (⟨S2048x256, .f32⟩ : BufTy).Contents (Elt F) → (⟨S3072x1, .i32⟩ : BufTy).Contents (Elt F) → (⟨S3072x256, .f32⟩ : BufTy).Contents (Elt F)),
    reshape main_v26 main_v27 (rfl : (.f32 : EltTy) = .f32) shapeCasts_S3072x256_S1024x3x256,
    reshape main_v18 main_v28 (rfl : (.i32 : EltTy) = .i32) shapeCasts_S1024x3_S3072,
    nullary main_c_6 (constantI S_ 32 0#32),
    unary main_c_6 main_v29 (broadcastInDim S3072 ![] bcast_S_S3072 : (⟨S_, .i32⟩ : BufTy).Contents (Elt F) → (⟨S3072, .i32⟩ : BufTy).Contents (Elt F)),
    binary main_v28 main_v29 main_v30 (cmpi .slt : (⟨S3072, .i32⟩ : BufTy).Contents (Elt F) → (⟨S3072, .i32⟩ : BufTy).Contents (Elt F) → (⟨S3072, .i1⟩ : BufTy).Contents (Elt F)),
    nullary main_c_7 (constantI S_ 32 2048#32),
    unary main_c_7 main_v31 (broadcastInDim S3072 ![] bcast_S_S3072 : (⟨S_, .i32⟩ : BufTy).Contents (Elt F) → (⟨S3072, .i32⟩ : BufTy).Contents (Elt F)),
    binary main_v28 main_v31 main_v32 (addi : (⟨S3072, .i32⟩ : BufTy).Contents (Elt F) → (⟨S3072, .i32⟩ : BufTy).Contents (Elt F) → (⟨S3072, .i32⟩ : BufTy).Contents (Elt F)),
    ternary main_v30 main_v32 main_v28 main_v33 (select : (⟨S3072, .i1⟩ : BufTy).Contents (Elt F) → (⟨S3072, .i32⟩ : BufTy).Contents (Elt F) → (⟨S3072, .i32⟩ : BufTy).Contents (Elt F) → (⟨S3072, .i32⟩ : BufTy).Contents (Elt F)),
    unary main_v33 main_v34 (broadcastInDim S3072x1 ![0] bcast_S3072_S3072x1_0 : (⟨S3072, .i32⟩ : BufTy).Contents (Elt F) → (⟨S3072x1, .i32⟩ : BufTy).Contents (Elt F)),
    binary main_arg1 main_v34 main_v35 ((fun x i => Host.gather gather_S2048x3_S3072x1_S3072x3_1_0_n_n_0_1_13 x i) : (⟨S2048x3, .f32⟩ : BufTy).Contents (Elt F) → (⟨S3072x1, .i32⟩ : BufTy).Contents (Elt F) → (⟨S3072x3, .f32⟩ : BufTy).Contents (Elt F)),
    reshape main_v35 main_v36 (rfl : (.f32 : EltTy) = .f32) shapeCasts_S3072x3_S1024x3x3,
    unary main_arg5 main_v37 (broadcastInDim S1024x64x1x3 ![0, 1, 3] bcast_S1024x64x3_S1024x64x1x3_0_1_3 : (⟨S1024x64x3, .f32⟩ : BufTy).Contents (Elt F) → (⟨S1024x64x1x3, .f32⟩ : BufTy).Contents (Elt F)),
    unary main_v36 main_v38 (broadcastInDim S1024x1x3x3 ![0, 2, 3] bcast_S1024x3x3_S1024x1x3x3_0_2_3 : (⟨S1024x3x3, .f32⟩ : BufTy).Contents (Elt F) → (⟨S1024x1x3x3, .f32⟩ : BufTy).Contents (Elt F)),
    unary main_v37 main_v39 (broadcastInDim S1024x64x3x3 ![0, 1, 2, 3] bcast_S1024x64x1x3_S1024x64x3x3_0_1_2_3 : (⟨S1024x64x1x3, .f32⟩ : BufTy).Contents (Elt F) → (⟨S1024x64x3x3, .f32⟩ : BufTy).Contents (Elt F)),
    unary main_v38 main_v40 (broadcastInDim S1024x64x3x3 ![0, 1, 2, 3] bcast_S1024x1x3x3_S1024x64x3x3_0_1_2_3 : (⟨S1024x1x3x3, .f32⟩ : BufTy).Contents (Elt F) → (⟨S1024x64x3x3, .f32⟩ : BufTy).Contents (Elt F)),
    binary main_v39 main_v40 main_v41 (subf : (⟨S1024x64x3x3, .f32⟩ : BufTy).Contents (Elt F) → (⟨S1024x64x3x3, .f32⟩ : BufTy).Contents (Elt F) → (⟨S1024x64x3x3, .f32⟩ : BufTy).Contents (Elt F)),
    binary main_v41 main_v41 main_v42 (mulf : (⟨S1024x64x3x3, .f32⟩ : BufTy).Contents (Elt F) → (⟨S1024x64x3x3, .f32⟩ : BufTy).Contents (Elt F) → (⟨S1024x64x3x3, .f32⟩ : BufTy).Contents (Elt F)),
    nullary main_cst (constant S_ .f32 0x00000000#32),
    binary main_v42 main_cst main_v43 ((fun x v => Host.reduceAdd x v reducesTo_S1024x64x3x3_S1024x64x3_d3 h_S_) : (⟨S1024x64x3x3, .f32⟩ : BufTy).Contents (Elt F) → (⟨S_, .f32⟩ : BufTy).Contents (Elt F) → (⟨S1024x64x3, .f32⟩ : BufTy).Contents (Elt F)),
    nullary main_cst_8 (constant S_ .f32 0x00000000#32) ]

/-- @main's operations 61 … 65 of 178 (window `main_part0`). -/
abbrev ops_part0_2 : List (HloOp τ sig (Elt F)) :=
  [ unary main_cst_8 main_v44 (broadcastInDim S1024x64x3 ![] bcast_S_S1024x64x3 : (⟨S_, .f32⟩ : BufTy).Contents (Elt F) → (⟨S1024x64x3, .f32⟩ : BufTy).Contents (Elt F)),
    binary main_v43 main_v44 main_v45 (maximumf : (⟨S1024x64x3, .f32⟩ : BufTy).Contents (Elt F) → (⟨S1024x64x3, .f32⟩ : BufTy).Contents (Elt F) → (⟨S1024x64x3, .f32⟩ : BufTy).Contents (Elt F)),
    unary main_v45 main_v46 (Host.sqrt : (⟨S1024x64x3, .f32⟩ : BufTy).Contents (Elt F) → (⟨S1024x64x3, .f32⟩ : BufTy).Contents (Elt F)),
    unary main_v46 main_v47 (Host.negf : (⟨S1024x64x3, .f32⟩ : BufTy).Contents (Elt F) → (⟨S1024x64x3, .f32⟩ : BufTy).Contents (Elt F)),
    unary main_v47 main_values ((fun x => (Host.topK S1024x64x3 2 (FloatOps.cmpfTotal .gt) x sliceFits_S1024x64x3_S1024x64x3).1) : (⟨S1024x64x3, .f32⟩ : BufTy).Contents (Elt F) → (⟨S1024x64x3, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 66 … 95 of 178 (window `main_part1`). -/
abbrev ops_part1_0 : List (HloOp τ sig (Elt F)) :=
  [ unary main_v47 main_indices ((fun x => (Host.topK S1024x64x3 2 (FloatOps.cmpfTotal .gt) x sliceFits_S1024x64x3_S1024x64x3).2) : (⟨S1024x64x3, .f32⟩ : BufTy).Contents (Elt F) → (⟨S1024x64x3, .i32⟩ : BufTy).Contents (Elt F)),
    nullary main_v48 (iotaInDim S1024 32 0),
    unary main_v48 main_v49 (broadcastInDim S1024x1x1 ![0] bcast_S1024_S1024x1x1_0 : (⟨S1024, .i32⟩ : BufTy).Contents (Elt F) → (⟨S1024x1x1, .i32⟩ : BufTy).Contents (Elt F)),
    nullary main_c_9 (constantI S_ 32 0#32),
    unary main_c_9 main_v50 (broadcastInDim S1024x1x1 ![] bcast_S_S1024x1x1 : (⟨S_, .i32⟩ : BufTy).Contents (Elt F) → (⟨S1024x1x1, .i32⟩ : BufTy).Contents (Elt F)),
    binary main_v49 main_v50 main_v51 (cmpi .slt : (⟨S1024x1x1, .i32⟩ : BufTy).Contents (Elt F) → (⟨S1024x1x1, .i32⟩ : BufTy).Contents (Elt F) → (⟨S1024x1x1, .i1⟩ : BufTy).Contents (Elt F)),
    nullary main_c_10 (constantI S_ 32 1024#32),
    unary main_c_10 main_v52 (broadcastInDim S1024x1x1 ![] bcast_S_S1024x1x1 : (⟨S_, .i32⟩ : BufTy).Contents (Elt F) → (⟨S1024x1x1, .i32⟩ : BufTy).Contents (Elt F)),
    binary main_v49 main_v52 main_v53 (addi : (⟨S1024x1x1, .i32⟩ : BufTy).Contents (Elt F) → (⟨S1024x1x1, .i32⟩ : BufTy).Contents (Elt F) → (⟨S1024x1x1, .i32⟩ : BufTy).Contents (Elt F)),
    ternary main_v51 main_v53 main_v49 main_v54 (select : (⟨S1024x1x1, .i1⟩ : BufTy).Contents (Elt F) → (⟨S1024x1x1, .i32⟩ : BufTy).Contents (Elt F) → (⟨S1024x1x1, .i32⟩ : BufTy).Contents (Elt F) → (⟨S1024x1x1, .i32⟩ : BufTy).Contents (Elt F)),
    nullary main_c_11 (constantI S_ 32 0#32),
    unary main_c_11 main_v55 (broadcastInDim S1024x64x3 ![] bcast_S_S1024x64x3 : (⟨S_, .i32⟩ : BufTy).Contents (Elt F) → (⟨S1024x64x3, .i32⟩ : BufTy).Contents (Elt F)),
    binary main_indices main_v55 main_v56 (cmpi .slt : (⟨S1024x64x3, .i32⟩ : BufTy).Contents (Elt F) → (⟨S1024x64x3, .i32⟩ : BufTy).Contents (Elt F) → (⟨S1024x64x3, .i1⟩ : BufTy).Contents (Elt F)),
    nullary main_c_12 (constantI S_ 32 3#32),
    unary main_c_12 main_v57 (broadcastInDim S1024x64x3 ![] bcast_S_S1024x64x3 : (⟨S_, .i32⟩ : BufTy).Contents (Elt F) → (⟨S1024x64x3, .i32⟩ : BufTy).Contents (Elt F)),
    binary main_indices main_v57 main_v58 (addi : (⟨S1024x64x3, .i32⟩ : BufTy).Contents (Elt F) → (⟨S1024x64x3, .i32⟩ : BufTy).Contents (Elt F) → (⟨S1024x64x3, .i32⟩ : BufTy).Contents (Elt F)),
    ternary main_v56 main_v58 main_indices main_v59 (select : (⟨S1024x64x3, .i1⟩ : BufTy).Contents (Elt F) → (⟨S1024x64x3, .i32⟩ : BufTy).Contents (Elt F) → (⟨S1024x64x3, .i32⟩ : BufTy).Contents (Elt F) → (⟨S1024x64x3, .i32⟩ : BufTy).Contents (Elt F)),
    unary main_v54 main_v60 (broadcastInDim S1024x64x3 ![0, 1, 2] bcast_S1024x1x1_S1024x64x3_0_1_2 : (⟨S1024x1x1, .i32⟩ : BufTy).Contents (Elt F) → (⟨S1024x64x3, .i32⟩ : BufTy).Contents (Elt F)),
    unary main_v60 main_v61 (broadcastInDim S1024x64x3x1 ![0, 1, 2] bcast_S1024x64x3_S1024x64x3x1_0_1_2 : (⟨S1024x64x3, .i32⟩ : BufTy).Contents (Elt F) → (⟨S1024x64x3x1, .i32⟩ : BufTy).Contents (Elt F)),
    unary main_v59 main_v62 (broadcastInDim S1024x64x3x1 ![0, 1, 2] bcast_S1024x64x3_S1024x64x3x1_0_1_2 : (⟨S1024x64x3, .i32⟩ : BufTy).Contents (Elt F) → (⟨S1024x64x3x1, .i32⟩ : BufTy).Contents (Elt F)),
    binary main_v61 main_v62 main_v63 (fn_main_v63 (F := F)),
    binary main_v27 main_v63 main_v64 ((fun x i => Host.gather gather_S1024x3x256_S1024x64x3x2_S1024x64x3x256_3_01_n_n_01_3_11256 x i) : (⟨S1024x3x256, .f32⟩ : BufTy).Contents (Elt F) → (⟨S1024x64x3x2, .i32⟩ : BufTy).Contents (Elt F) → (⟨S1024x64x3x256, .f32⟩ : BufTy).Contents (Elt F)),
    unary main_arg4 main_v65 (broadcastInDim S1024x64x1x256 ![0, 1, 3] bcast_S1024x64x256_S1024x64x1x256_0_1_3 : (⟨S1024x64x256, .f32⟩ : BufTy).Contents (Elt F) → (⟨S1024x64x1x256, .f32⟩ : BufTy).Contents (Elt F)),
    unary main_v65 main_v66 (broadcastInDim S1024x64x3x256 ![0, 1, 2, 3] bcast_S1024x64x1x256_S1024x64x3x256_0_1_2_3 : (⟨S1024x64x1x256, .f32⟩ : BufTy).Contents (Elt F) → (⟨S1024x64x3x256, .f32⟩ : BufTy).Contents (Elt F)),
    binary main_v66 main_v64 main_v67 (mulf : (⟨S1024x64x3x256, .f32⟩ : BufTy).Contents (Elt F) → (⟨S1024x64x3x256, .f32⟩ : BufTy).Contents (Elt F) → (⟨S1024x64x3x256, .f32⟩ : BufTy).Contents (Elt F)),
    nullary main_cst_13 (constant S_ .f32 0x00000000#32),
    binary main_v67 main_cst_13 main_v68 ((fun x v => Host.reduceAdd x v reducesTo_S1024x64x3x256_S1024x64x3_d3 h_S_) : (⟨S1024x64x3x256, .f32⟩ : BufTy).Contents (Elt F) → (⟨S_, .f32⟩ : BufTy).Contents (Elt F) → (⟨S1024x64x3, .f32⟩ : BufTy).Contents (Elt F)),
    nullary main_cst_14 (constant S_ .f32 0xFF800000#32),
    binary main_v68 main_cst_14 main_v69 ((fun x v => Host.reduce FloatOps.maximumf x v reducesTo_S1024x64x3_S1024x64_d2 h_S_) : (⟨S1024x64x3, .f32⟩ : BufTy).Contents (Elt F) → (⟨S_, .f32⟩ : BufTy).Contents (Elt F) → (⟨S1024x64, .f32⟩ : BufTy).Contents (Elt F)),
    nullary main_cst_15 (constant S_ .f32 0xFF800000#32) ]

/-- @main's operations 96 … 125 of 178 (window `main_part1`). -/
abbrev ops_part1_1 : List (HloOp τ sig (Elt F)) :=
  [ unary main_cst_15 main_v70 (broadcastInDim S1024x64 ![] bcast_S_S1024x64 : (⟨S_, .f32⟩ : BufTy).Contents (Elt F) → (⟨S1024x64, .f32⟩ : BufTy).Contents (Elt F)),
    binary main_v70 main_v69 main_v71 (maximumf : (⟨S1024x64, .f32⟩ : BufTy).Contents (Elt F) → (⟨S1024x64, .f32⟩ : BufTy).Contents (Elt F) → (⟨S1024x64, .f32⟩ : BufTy).Contents (Elt F)),
    unary main_v71 main_v72 (broadcastInDim S1024x64x1 ![0, 1] bcast_S1024x64_S1024x64x1_0_1 : (⟨S1024x64, .f32⟩ : BufTy).Contents (Elt F) → (⟨S1024x64x1, .f32⟩ : BufTy).Contents (Elt F)),
    unary main_v72 main_v73 (broadcastInDim S1024x64x3 ![0, 1, 2] bcast_S1024x64x1_S1024x64x3_0_1_2 : (⟨S1024x64x1, .f32⟩ : BufTy).Contents (Elt F) → (⟨S1024x64x3, .f32⟩ : BufTy).Contents (Elt F)),
    binary main_v68 main_v73 main_v74 (subf : (⟨S1024x64x3, .f32⟩ : BufTy).Contents (Elt F) → (⟨S1024x64x3, .f32⟩ : BufTy).Contents (Elt F) → (⟨S1024x64x3, .f32⟩ : BufTy).Contents (Elt F)),
    unary main_v74 main_v75 (Host.exp : (⟨S1024x64x3, .f32⟩ : BufTy).Contents (Elt F) → (⟨S1024x64x3, .f32⟩ : BufTy).Contents (Elt F)),
    nullary main_cst_16 (constant S_ .f32 0x00000000#32),
    binary main_v75 main_cst_16 main_v76 ((fun x v => Host.reduceAdd x v reducesTo_S1024x64x3_S1024x64_d2 h_S_) : (⟨S1024x64x3, .f32⟩ : BufTy).Contents (Elt F) → (⟨S_, .f32⟩ : BufTy).Contents (Elt F) → (⟨S1024x64, .f32⟩ : BufTy).Contents (Elt F)),
    unary main_v76 main_v77 (broadcastInDim S1024x64x1 ![0, 1] bcast_S1024x64_S1024x64x1_0_1 : (⟨S1024x64, .f32⟩ : BufTy).Contents (Elt F) → (⟨S1024x64x1, .f32⟩ : BufTy).Contents (Elt F)),
    unary main_v77 main_v78 (broadcastInDim S1024x64x3 ![0, 1, 2] bcast_S1024x64x1_S1024x64x3_0_1_2 : (⟨S1024x64x1, .f32⟩ : BufTy).Contents (Elt F) → (⟨S1024x64x3, .f32⟩ : BufTy).Contents (Elt F)),
    binary main_v75 main_v78 main_v79 (Host.divf : (⟨S1024x64x3, .f32⟩ : BufTy).Contents (Elt F) → (⟨S1024x64x3, .f32⟩ : BufTy).Contents (Elt F) → (⟨S1024x64x3, .f32⟩ : BufTy).Contents (Elt F)),
    TRef.nullary (TRef.of (T := ⟨S1024x64x3, .i32⟩) main_call1_v0) (iotaInDim S1024x64x3 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S1024x64x3, .f32⟩) main_v79) (TRef.of (T := ⟨S1024x64x3, .i32⟩) main_call1_v0) (TRef.of (T := ⟨S_, .f32⟩) main_call1_cst) (TRef.of (T := ⟨S_, .i32⟩) main_call1_c) (TRef.of (T := ⟨S1024x64, .f32⟩) main_call1_v1_0) (fun x y u v j => (Host.argReduce reducer_argmax_f32_i32 x y u v reducesTo_S1024x64x3_S1024x64_d2 h_S_ j).1),
    TRef.quaternary (TRef.of (T := ⟨S1024x64x3, .f32⟩) main_v79) (TRef.of (T := ⟨S1024x64x3, .i32⟩) main_call1_v0) (TRef.of (T := ⟨S_, .f32⟩) main_call1_cst) (TRef.of (T := ⟨S_, .i32⟩) main_call1_c) (TRef.of (T := ⟨S1024x64, .i32⟩) main_v80) (fun x y u v j => (Host.argReduce reducer_argmax_f32_i32 x y u v reducesTo_S1024x64x3_S1024x64_d2 h_S_ j).2),
    unary main_v18 main_v81 (broadcastInDim S1024x1x3 ![0, 2] bcast_S1024x3_S1024x1x3_0_2 : (⟨S1024x3, .i32⟩ : BufTy).Contents (Elt F) → (⟨S1024x1x3, .i32⟩ : BufTy).Contents (Elt F)),
    unary main_v81 main_v82 (broadcastInDim S1024x64x3 ![0, 1, 2] bcast_S1024x1x3_S1024x64x3_0_1_2 : (⟨S1024x1x3, .i32⟩ : BufTy).Contents (Elt F) → (⟨S1024x64x3, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S1024x64x3, .i32⟩) main_call2_v0) (broadcastInDim S1024x64x3 ![] bcast_S_S1024x64x3),
    TRef.binary (TRef.of (T := ⟨S1024x64x3, .i32⟩) main_indices) (TRef.of (T := ⟨S1024x64x3, .i32⟩) main_call2_v0) (TRef.of (T := ⟨S1024x64x3, .i1⟩) main_call2_v1) (cmpi .slt),
    TRef.nullary (TRef.of (T := ⟨S_, .i32⟩) main_call2_c_0) (constantI S_ 32 3#32),
    TRef.unary (TRef.of (T := ⟨S_, .i32⟩) main_call2_c_0) (TRef.of (T := ⟨S1024x64x3, .i32⟩) main_call2_v2) (broadcastInDim S1024x64x3 ![] bcast_S_S1024x64x3),
    TRef.binary (TRef.of (T := ⟨S1024x64x3, .i32⟩) main_indices) (TRef.of (T := ⟨S1024x64x3, .i32⟩) main_call2_v2) (TRef.of (T := ⟨S1024x64x3, .i32⟩) main_call2_v3) addi,
    TRef.ternary (TRef.of (T := ⟨S1024x64x3, .i1⟩) main_call2_v1) (TRef.of (T := ⟨S1024x64x3, .i32⟩) main_call2_v3) (TRef.of (T := ⟨S1024x64x3, .i32⟩) main_indices) (TRef.of (T := ⟨S1024x64x3, .i32⟩) main_call2_v4) select,
    TRef.reshape (TRef.of (T := ⟨S1024x64x3, .i32⟩) main_call2_v4) (TRef.of (T := ⟨S1024x64x3x1, .i32⟩) main_call2_v5) (rfl : (.i32 : EltTy) = .i32) shapeCasts_S1024x64x3_S1024x64x3x1,
    TRef.nullary (TRef.of (T := ⟨S1, .i32⟩) main_call2_c_1) (constantI S1 32 2#32),
    TRef.nullary (TRef.of (T := ⟨S_, .i32⟩) main_call2_c_2) (constantI S_ 32 0#32),
    TRef.unary (TRef.of (T := ⟨S_, .i32⟩) main_call2_c_2) (TRef.of (T := ⟨S1024x64x3x1, .i32⟩) main_call2_v6) (broadcastInDim S1024x64x3x1 ![] bcast_S_S1024x64x3x1),
    TRef.binary (TRef.of (T := ⟨S1024x64x3x1, .i32⟩) main_call2_v5) (TRef.of (T := ⟨S1024x64x3x1, .i32⟩) main_call2_v6) (TRef.of (T := ⟨S1024x64x3x1, .i1⟩) main_call2_v7) (cmpi .sge) ]

/-- @main's operations 126 … 155 of 178 (window `main_part1`). -/
abbrev ops_part1_2 : List (HloOp τ sig (Elt F)) :=
  [ TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S1024x64x3x1, .i32⟩) main_call2_v9) (broadcastInDim S1024x64x3x1 ![0, 1, 2, 3] bcast_S1x1x1x1_S1024x64x3x1_0_1_2_3),
    TRef.binary (TRef.of (T := ⟨S1024x64x3x1, .i32⟩) main_call2_v5) (TRef.of (T := ⟨S1024x64x3x1, .i32⟩) main_call2_v9) (TRef.of (T := ⟨S1024x64x3x1, .i1⟩) main_call2_v10) (cmpi .sle),
    TRef.binary (TRef.of (T := ⟨S1024x64x3x1, .i1⟩) main_call2_v7) (TRef.of (T := ⟨S1024x64x3x1, .i1⟩) main_call2_v10) (TRef.of (T := ⟨S1024x64x3x1, .i1⟩) main_call2_v11) andi,
    TRef.nullary (TRef.of (T := ⟨S_, .i1⟩) main_call2_c_3) (constantI S_ 1 1#1),
    TRef.binary (TRef.of (T := ⟨S1024x64x3x1, .i1⟩) main_call2_v11) (TRef.of (T := ⟨S_, .i1⟩) main_call2_c_3) (TRef.of (T := ⟨S1024x64x3, .i1⟩) main_call2_v12) (fun x v => Host.reduce IntOp.andi x v reducesTo_S1024x64x3x1_S1024x64x3_d3 h_S_),
    TRef.binary (TRef.of (T := ⟨S1024x64x3, .i32⟩) main_v82) (TRef.of (T := ⟨S1024x64x3x1, .i32⟩) main_call2_v5) (TRef.of (T := ⟨S1024x64x3, .i32⟩) main_call2_v13) (fun x i => Host.gather gather_S1024x64x3_S1024x64x3x1_S1024x64x3_n_2_01_01_2_3_111 x i),
    TRef.nullary (TRef.of (T := ⟨S_, .i32⟩) main_call2_c_4) (constantI S_ 32 2147483648#32),
    TRef.unary (TRef.of (T := ⟨S_, .i32⟩) main_call2_c_4) (TRef.of (T := ⟨S1024x64x3, .i32⟩) main_call2_v14) (broadcastInDim S1024x64x3 ![] bcast_S_S1024x64x3),
    TRef.ternary (TRef.of (T := ⟨S1024x64x3, .i1⟩) main_call2_v12) (TRef.of (T := ⟨S1024x64x3, .i32⟩) main_call2_v13) (TRef.of (T := ⟨S1024x64x3, .i32⟩) main_call2_v14) (TRef.of (T := ⟨S1024x64x3, .i32⟩) main_v83) select,
    unary main_v80 main_v84 (broadcastInDim S1024x64x1 ![0, 1] bcast_S1024x64_S1024x64x1_0_1 : (⟨S1024x64, .i32⟩ : BufTy).Contents (Elt F) → (⟨S1024x64x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S1024x64x1, .i32⟩) main_call3_v0) (broadcastInDim S1024x64x1 ![] bcast_S_S1024x64x1),
    TRef.binary (TRef.of (T := ⟨S1024x64x1, .i32⟩) main_v84) (TRef.of (T := ⟨S1024x64x1, .i32⟩) main_call3_v0) (TRef.of (T := ⟨S1024x64x1, .i1⟩) main_call3_v1) (cmpi .slt),
    TRef.nullary (TRef.of (T := ⟨S_, .i32⟩) main_call3_c_0) (constantI S_ 32 3#32),
    TRef.unary (TRef.of (T := ⟨S_, .i32⟩) main_call3_c_0) (TRef.of (T := ⟨S1024x64x1, .i32⟩) main_call3_v2) (broadcastInDim S1024x64x1 ![] bcast_S_S1024x64x1),
    TRef.binary (TRef.of (T := ⟨S1024x64x1, .i32⟩) main_v84) (TRef.of (T := ⟨S1024x64x1, .i32⟩) main_call3_v2) (TRef.of (T := ⟨S1024x64x1, .i32⟩) main_call3_v3) addi,
    TRef.ternary (TRef.of (T := ⟨S1024x64x1, .i1⟩) main_call3_v1) (TRef.of (T := ⟨S1024x64x1, .i32⟩) main_call3_v3) (TRef.of (T := ⟨S1024x64x1, .i32⟩) main_v84) (TRef.of (T := ⟨S1024x64x1, .i32⟩) main_call3_v4) select,
    TRef.reshape (TRef.of (T := ⟨S1024x64x1, .i32⟩) main_call3_v4) (TRef.of (T := ⟨S1024x64x1x1, .i32⟩) main_call3_v5) (rfl : (.i32 : EltTy) = .i32) shapeCasts_S1024x64x1_S1024x64x1x1,
    TRef.nullary (TRef.of (T := ⟨S1, .i32⟩) main_call3_c_1) (constantI S1 32 2#32),
    TRef.nullary (TRef.of (T := ⟨S_, .i32⟩) main_call3_c_2) (constantI S_ 32 0#32),
    TRef.unary (TRef.of (T := ⟨S_, .i32⟩) main_call3_c_2) (TRef.of (T := ⟨S1024x64x1x1, .i32⟩) main_call3_v6) (broadcastInDim S1024x64x1x1 ![] bcast_S_S1024x64x1x1),
    TRef.binary (TRef.of (T := ⟨S1024x64x1x1, .i32⟩) main_call3_v5) (TRef.of (T := ⟨S1024x64x1x1, .i32⟩) main_call3_v6) (TRef.of (T := ⟨S1024x64x1x1, .i1⟩) main_call3_v7) (cmpi .sge),
    TRef.unary (TRef.of (T := ⟨S1, .i32⟩) main_call3_c_1) (TRef.of (T := ⟨S1x1x1x1, .i32⟩) main_call3_v8) (broadcastInDim S1x1x1x1 ![3] bcast_S1_S1x1x1x1_3),
    TRef.unary (TRef.of (T := ⟨S1x1x1x1, .i32⟩) main_call3_v8) (TRef.of (T := ⟨S1024x64x1x1, .i32⟩) main_call3_v9) (broadcastInDim S1024x64x1x1 ![0, 1, 2, 3] bcast_S1x1x1x1_S1024x64x1x1_0_1_2_3),
    TRef.binary (TRef.of (T := ⟨S1024x64x1x1, .i32⟩) main_call3_v5) (TRef.of (T := ⟨S1024x64x1x1, .i32⟩) main_call3_v9) (TRef.of (T := ⟨S1024x64x1x1, .i1⟩) main_call3_v10) (cmpi .sle),
    TRef.binary (TRef.of (T := ⟨S1024x64x1x1, .i1⟩) main_call3_v7) (TRef.of (T := ⟨S1024x64x1x1, .i1⟩) main_call3_v10) (TRef.of (T := ⟨S1024x64x1x1, .i1⟩) main_call3_v11) andi,
    TRef.nullary (TRef.of (T := ⟨S_, .i1⟩) main_call3_c_3) (constantI S_ 1 1#1),
    TRef.binary (TRef.of (T := ⟨S1024x64x1x1, .i1⟩) main_call3_v11) (TRef.of (T := ⟨S_, .i1⟩) main_call3_c_3) (TRef.of (T := ⟨S1024x64x1, .i1⟩) main_call3_v12) (fun x v => Host.reduce IntOp.andi x v reducesTo_S1024x64x1x1_S1024x64x1_d3 h_S_),
    TRef.binary (TRef.of (T := ⟨S1024x64x3, .i32⟩) main_v83) (TRef.of (T := ⟨S1024x64x1x1, .i32⟩) main_call3_v5) (TRef.of (T := ⟨S1024x64x1, .i32⟩) main_call3_v13) (fun x i => Host.gather gather_S1024x64x3_S1024x64x1x1_S1024x64x1_n_2_01_01_2_3_111 x i) ]

/-- @main's operations 156 … 171 of 178 (window `main_part1`). -/
abbrev ops_part1_3 : List (HloOp τ sig (Elt F)) :=
  [ TRef.nullary (TRef.of (T := ⟨S_, .i32⟩) main_call3_c_4) (constantI S_ 32 2147483648#32),
    TRef.unary (TRef.of (T := ⟨S_, .i32⟩) main_call3_c_4) (TRef.of (T := ⟨S1024x64x1, .i32⟩) main_call3_v14) (broadcastInDim S1024x64x1 ![] bcast_S_S1024x64x1),
    TRef.ternary (TRef.of (T := ⟨S1024x64x1, .i1⟩) main_call3_v12) (TRef.of (T := ⟨S1024x64x1, .i32⟩) main_call3_v13) (TRef.of (T := ⟨S1024x64x1, .i32⟩) main_call3_v14) (TRef.of (T := ⟨S1024x64x1, .i32⟩) main_v85) select,
    reshape main_v85 main_v86 (rfl : (.i32 : EltTy) = .i32) shapeCasts_S1024x64x1_S1024x64,
    reshape main_v86 main_v87 (rfl : (.i32 : EltTy) = .i32) shapeCasts_S1024x64_S65536,
    nullary main_cst_17 (constant S_ .f32 0x00000000#32),
    unary main_cst_17 main_v88 (broadcastInDim S2048x3 ![] bcast_S_S2048x3 : (⟨S_, .f32⟩ : BufTy).Contents (Elt F) → (⟨S2048x3, .f32⟩ : BufTy).Contents (Elt F)),
    unary main_v87 main_v89 (broadcastInDim S65536x1 ![0] bcast_S65536_S65536x1_0 : (⟨S65536, .i32⟩ : BufTy).Contents (Elt F) → (⟨S65536x1, .i32⟩ : BufTy).Contents (Elt F)),
    ternary main_v88 main_v89 main_arg3 main_v90 ((fun x i u => Host.scatterAdd scatter_S2048x3_S65536x1_S65536x3_1_0_0_1 x i u) : (⟨S2048x3, .f32⟩ : BufTy).Contents (Elt F) → (⟨S65536x1, .i32⟩ : BufTy).Contents (Elt F) → (⟨S65536x3, .f32⟩ : BufTy).Contents (Elt F) → (⟨S2048x3, .f32⟩ : BufTy).Contents (Elt F)),
    nullary main_cst_18 (constant S_ .f32 0x3F800000#32),
    unary main_cst_18 main_v91 (broadcastInDim S65536 ![] bcast_S_S65536 : (⟨S_, .f32⟩ : BufTy).Contents (Elt F) → (⟨S65536, .f32⟩ : BufTy).Contents (Elt F)),
    nullary main_cst_19 (constant S_ .f32 0x00000000#32),
    unary main_cst_19 main_v92 (broadcastInDim S2048 ![] bcast_S_S2048 : (⟨S_, .f32⟩ : BufTy).Contents (Elt F) → (⟨S2048, .f32⟩ : BufTy).Contents (Elt F)),
    unary main_v87 main_v93 (broadcastInDim S65536x1 ![0] bcast_S65536_S65536x1_0 : (⟨S65536, .i32⟩ : BufTy).Contents (Elt F) → (⟨S65536x1, .i32⟩ : BufTy).Contents (Elt F)),
    ternary main_v92 main_v93 main_v91 main_v94 ((fun x i u => Host.scatterAdd scatter_S2048_S65536x1_S65536_n_0_0_1 x i u) : (⟨S2048, .f32⟩ : BufTy).Contents (Elt F) → (⟨S65536x1, .i32⟩ : BufTy).Contents (Elt F) → (⟨S65536, .f32⟩ : BufTy).Contents (Elt F) → (⟨S2048, .f32⟩ : BufTy).Contents (Elt F)),
    nullary main_cst_20 (constant S_ .f32 0x3F800000#32) ]

/-- Window `main_part1`'s operations. Not an abbreviation: `main_eq` below splits `ops` into the windows and no further. -/
def ops_part1 : List (HloOp τ sig (Elt F)) :=
  ops_part1_0 ++ (ops_part1_1 ++ (ops_part1_2 ++ (ops_part1_3)))

/-- @main's operations 172 … 178 of 178 (window `main_part2`). -/
abbrev ops_part2 : List (HloOp τ sig (Elt F)) :=
  [ unary main_cst_20 main_v95 (broadcastInDim S2048 ![] bcast_S_S2048 : (⟨S_, .f32⟩ : BufTy).Contents (Elt F) → (⟨S2048, .f32⟩ : BufTy).Contents (Elt F)),
    binary main_v94 main_v95 main_v96 (maximumf : (⟨S2048, .f32⟩ : BufTy).Contents (Elt F) → (⟨S2048, .f32⟩ : BufTy).Contents (Elt F) → (⟨S2048, .f32⟩ : BufTy).Contents (Elt F)),
    unary main_v96 main_v97 (broadcastInDim S2048x1 ![0] bcast_S2048_S2048x1_0 : (⟨S2048, .f32⟩ : BufTy).Contents (Elt F) → (⟨S2048x1, .f32⟩ : BufTy).Contents (Elt F)),
    unary main_v97 main_v98 (broadcastInDim S2048x3 ![0, 1] bcast_S2048x1_S2048x3_0_1 : (⟨S2048x1, .f32⟩ : BufTy).Contents (Elt F) → (⟨S2048x3, .f32⟩ : BufTy).Contents (Elt F)),
    binary main_v90 main_v98 main_v99 (Host.divf : (⟨S2048x3, .f32⟩ : BufTy).Contents (Elt F) → (⟨S2048x3, .f32⟩ : BufTy).Contents (Elt F) → (⟨S2048x3, .f32⟩ : BufTy).Contents (Elt F)),
    reshape main_arg2 main_v100 (rfl : (.f32 : EltTy) = .f32) shapeCasts_S65536x256_S2048x32x256,
    reshape main_arg2 main_v101 (rfl : (.f32 : EltTy) = .f32) shapeCasts_S65536x256_S1024x64x256 ]

/-- @main's 178 operations, in order (a called function's operations stand in its call's place, spelt `TRef.…`). -/
abbrev ops : List (HloOp τ sig (Elt F)) :=
  ops_part0 ++ (ops_part1 ++ (ops_part2))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., nullary_bufs_sub .., unary_bufs_sub .., binary_bufs_sub .., nullary_bufs_sub .., unary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., reshape_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., reshape_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., unary_bufs_sub .., unary_bufs_sub .., binary_bufs_sub .., binary_bufs_sub .., nullary_bufs_sub .., binary_bufs_sub .., nullary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., binary_bufs_sub .., unary_bufs_sub .., unary_bufs_sub .., unary_bufs_sub ..⟩
set_option maxRecDepth 8192 in
theorem ops_part0_2_fresh : (ops_part0_2 : List (HloOp τ sig (Elt F))).Forall fun op => op.fresh = ∅ :=
  ⟨rfl, rfl, rfl, rfl, rfl⟩
set_option maxRecDepth 8192 in
theorem ops_part1_0_sub : (ops_part1_0 : List (HloOp τ sig (Elt F))).Forall fun op => op.bufs ⊆ tcRefs τ sig :=
  ⟨unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., unary_bufs_sub .., unary_bufs_sub .., binary_bufs_sub .., nullary_bufs_sub .., binary_bufs_sub .., nullary_bufs_sub .., binary_bufs_sub .., nullary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., unary_bufs_sub .., binary_bufs_sub .., binary_bufs_sub .., nullary_bufs_sub .., binary_bufs_sub .., binary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_3_sub : (ops_part1_3 : List (HloOp τ sig (Elt F))).Forall fun op => op.bufs ⊆ tcRefs τ sig :=
  ⟨nullary_bufs_sub .., unary_bufs_sub .., ternary_bufs_sub .., reshape_bufs_sub .., reshape_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub ..⟩
set_option maxRecDepth 8192 in
theorem ops_part1_3_fresh : (ops_part1_3 : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨unary_bufs_sub .., binary_bufs_sub .., unary_bufs_sub .., unary_bufs_sub .., binary_bufs_sub .., reshape_bufs_sub .., reshape_bufs_sub ..⟩
set_option maxRecDepth 8192 in
theorem ops_part2_fresh : (ops_part2 : List (HloOp τ sig (Elt F))).Forall fun op => op.fresh = ∅ :=
  ⟨rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part1_3_sub op h, List.forall_iff_forall_mem.mp ops_part2_sub op h]
theorem ops_fresh : ∀ op ∈ (ops : List (HloOp τ sig (Elt F))), op.fresh = ∅ := fun op h => by
    simp only [ops, ops_part0, ops_part1, List.mem_append, or_assoc] at h
    rcases h with h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part1_3_fresh op h, List.forall_iff_forall_mem.mp ops_part2_fresh op h]

set_option maxRecDepth 8192 in
/-- `main_v10`'s composed term of the arguments (named: it is used 3 times). -/
def res_main_v10 (V0 : Valuation τ sig (Elt F)) : (Proc.devRef .tc main_v10 : DevRef τ sig).ty.Contents (Elt F) :=
  shapeCast _ (minsi (broadcastInDim S1024x3 ![] bcast_S_S1024x3 (id (constantI S_ 32 1023#32))) (maxsi (broadcastInDim S1024x3 ![] bcast_S_S1024x3 (id (constantI S_ 32 0#32))) (addi (broadcastInDim S1024x3 ![0, 1] bcast_S1024x1_S1024x3_0_1 (broadcastInDim S1024x1 ![0] bcast_S1024_S1024x1_0 (iotaInDim S1024 32 0))) (broadcastInDim S1024x3 ![0, 1] bcast_S1x3_S1024x3_0_1 (broadcastInDim S1x3 ![1] bcast_S3_S1x3_1 (addi (broadcastInDim S3 ![] bcast_S_S3 (constantI S_ 32 4294967295#32)) (iotaInDim S3 32 0))))))) shapeCasts_S1024x3_S3072

set_option maxRecDepth 8192 in
/-- `main_v18`'s composed term of the arguments (named: it is used 3 times). -/
def res_main_v18 (V0 : Valuation τ sig (Elt F)) : (Proc.devRef .tc main_v18 : DevRef τ sig).ty.Contents (Elt F) :=
  shapeCast _ (Host.gather gather_S1024_S3072x1_S3072_n_0_n_n_0_1_1 (V0 (Proc.devRef .tc main_arg6)) (broadcastInDim S3072x1 ![0] bcast_S3072_S3072x1_0 (select (cmpi .slt (res_main_v10 V0) (broadcastInDim S3072 ![] bcast_S_S3072 (constantI S_ 32 0#32))) (addi (res_main_v10 V0) (broadcastInDim S3072 ![] bcast_S_S3072 (constantI S_ 32 1024#32))) (res_main_v10 V0)))) shapeCasts_S3072_S1024x3

set_option maxRecDepth 8192 in
/-- `main_v19`'s composed term of the arguments (named: it is used 3 times). -/
def res_main_v19 (V0 : Valuation τ sig (Elt F)) : (Proc.devRef .tc main_v19 : DevRef τ sig).ty.Contents (Elt F) :=
  shapeCast _ (res_main_v18 V0) shapeCasts_S1024x3_S3072

set_option maxRecDepth 8192 in
/-- `main_v28`'s composed term of the arguments (named: it is used 3 times). -/
def res_main_v28 (V0 : Valuation τ sig (Elt F)) : (Proc.devRef .tc main_v28 : DevRef τ sig).ty.Contents (Elt F) :=
  shapeCast _ (res_main_v18 V0) shapeCasts_S1024x3_S3072

set_option maxRecDepth 8192 in
/-- `main_v41`'s composed term of the arguments (named: it is used 2 times). -/
def res_main_v41 (V0 : Valuation τ sig (Elt F)) : (Proc.devRef .tc main_v41 : DevRef τ sig).ty.Contents (Elt F) :=
  subf (broadcastInDim S1024x64x3x3 ![0, 1, 2, 3] bcast_S1024x64x1x3_S1024x64x3x3_0_1_2_3 (broadcastInDim S1024x64x1x3 ![0, 1, 3] bcast_S1024x64x3_S1024x64x1x3_0_1_3 (V0 (Proc.devRef .tc main_arg5)))) (broadcastInDim S1024x64x3x3 ![0, 1, 2, 3] bcast_S1024x1x3x3_S1024x64x3x3_0_1_2_3 (broadcastInDim S1024x1x3x3 ![0, 2, 3] bcast_S1024x3x3_S1024x1x3x3_0_2_3 (shapeCast _ (Host.gather gather_S2048x3_S3072x1_S3072x3_1_0_n_n_0_1_13 (V0 (Proc.devRef .tc main_arg1)) (broadcastInDim S3072x1 ![0] bcast_S3072_S3072x1_0 (select (cmpi .slt (res_main_v28 V0) (broadcastInDim S3072 ![] bcast_S_S3072 (constantI S_ 32 0#32))) (addi (res_main_v28 V0) (broadcastInDim S3072 ![] bcast_S_S3072 (constantI S_ 32 2048#32))) (res_main_v28 V0)))) shapeCasts_S3072x3_S1024x3x3)))

set_option maxRecDepth 8192 in
/-- `main_v47`'s composed term of the arguments (named: it is used 2 times). -/
def res_main_v47 (V0 : Valuation τ sig (Elt F)) : (Proc.devRef .tc main_v47 : DevRef τ sig).ty.Contents (Elt F) :=
  Host.negf (Host.sqrt (maximumf (Host.reduceAdd (mulf (res_main_v41 V0) (res_main_v41 V0)) (constant S_ .f32 0x00000000#32) reducesTo_S1024x64x3x3_S1024x64x3_d3 h_S_) (broadcastInDim S1024x64x3 ![] bcast_S_S1024x64x3 (constant S_ .f32 0x00000000#32))))

set_option maxRecDepth 8192 in
/-- `main_indices`'s composed term of the arguments (named: it is used 6 times). -/
def res_main_indices (V0 : Valuation τ sig (Elt F)) : (Proc.devRef .tc main_indices : DevRef τ sig).ty.Contents (Elt F) :=
  (Host.topK S1024x64x3 2 (FloatOps.cmpfTotal .gt) (res_main_v47 V0) sliceFits_S1024x64x3_S1024x64x3).2

set_option maxRecDepth 8192 in
/-- `main_v49`'s composed term of the arguments (named: it is used 3 times). -/
def res_main_v49 (V0 : Valuation τ sig (Elt F)) : (Proc.devRef .tc main_v49 : DevRef τ sig).ty.Contents (Elt F) :=
  broadcastInDim S1024x1x1 ![0] bcast_S1024_S1024x1x1_0 (iotaInDim S1024 32 0)

set_option maxRecDepth 8192 in
/-- `main_v68`'s composed term of the arguments (named: it is used 2 times). -/
def res_main_v68 (V0 : Valuation τ sig (Elt F)) : (Proc.devRef .tc main_v68 : DevRef τ sig).ty.Contents (Elt F) :=
  Host.reduceAdd (mulf (broadcastInDim S1024x64x3x256 ![0, 1, 2, 3] bcast_S1024x64x1x256_S1024x64x3x256_0_1_2_3 (broadcastInDim S1024x64x1x256 ![0, 1, 3] bcast_S1024x64x256_S1024x64x1x256_0_1_3 (V0 (Proc.devRef .tc main_arg4)))) (Host.gather gather_S1024x3x256_S1024x64x3x2_S1024x64x3x256_3_01_n_n_01_3_11256 (shapeCast _ (Host.gather gather_S2048x256_S3072x1_S3072x256_1_0_n_n_0_1_1256 (V0 (Proc.devRef .tc main_arg0)) (broadcastInDim S3072x1 ![0] bcast_S3072_S3072x1_0 (select (cmpi .slt (res_main_v19 V0) (broadcastInDim S3072 ![] bcast_S_S3072 (constantI S_ 32 0#32))) (addi (res_main_v19 V0) (broadcastInDim S3072 ![] bcast_S_S3072 (constantI S_ 32 2048#32))) (res_main_v19 V0)))) shapeCasts_S3072x256_S1024x3x256) (concatenate S1024x64x3x2 3 [⟨S1024x64x3x1, (broadcastInDim S1024x64x3x1 ![0, 1, 2] bcast_S1024x64x3_S1024x64x3x1_0_1_2 (broadcastInDim S1024x64x3 ![0, 1, 2] bcast_S1024x1x1_S1024x64x3_0_1_2 (select (cmpi .slt (res_main_v49 V0) (broadcastInDim S1024x1x1 ![] bcast_S_S1024x1x1 (constantI S_ 32 0#32))) (addi (res_main_v49 V0) (broadcastInDim S1024x1x1 ![] bcast_S_S1024x1x1 (constantI S_ 32 1024#32))) (res_main_v49 V0))))⟩, ⟨S1024x64x3x1, (broadcastInDim S1024x64x3x1 ![0, 1, 2] bcast_S1024x64x3_S1024x64x3x1_0_1_2 (select (cmpi .slt (res_main_indices V0) (broadcastInDim S1024x64x3 ![] bcast_S_S1024x64x3 (constantI S_ 32 0#32))) (addi (res_main_indices V0) (broadcastInDim S1024x64x3 ![] bcast_S_S1024x64x3 (constantI S_ 32 3#32))) (res_main_indices V0)))⟩] concatenates_S1024x64x3x1_S1024x64x3x1_S1024x64x3x2_d3))) (constant S_ .f32 0x00000000#32) reducesTo_S1024x64x3x256_S1024x64x3_d3 h_S_

set_option maxRecDepth 8192 in
/-- `main_v75`'s composed term of the arguments (named: it is used 2 times). -/
def res_main_v75 (V0 : Valuation τ sig (Elt F)) : (Proc.devRef .tc main_v75 : DevRef τ sig).ty.Contents (Elt F) :=
  Host.exp (subf (res_main_v68 V0) (broadcastInDim S1024x64x3 ![0, 1, 2] bcast_S1024x64x1_S1024x64x3_0_1_2 (broadcastInDim S1024x64x1 ![0, 1] bcast_S1024x64_S1024x64x1_0_1 (maximumf (broadcastInDim S1024x64 ![] bcast_S_S1024x64 (constant S_ .f32 0xFF800000#32)) (Host.reduce FloatOps.maximumf (res_main_v68 V0) (constant S_ .f32 0xFF800000#32) reducesTo_S1024x64x3_S1024x64_d2 h_S_)))))

set_option maxRecDepth 8192 in
/-- `main_v79`'s composed term of the arguments (named: it is used 2 times). -/
def res_main_v79 (V0 : Valuation τ sig (Elt F)) : (Proc.devRef .tc main_v79 : DevRef τ sig).ty.Contents (Elt F) :=
  Host.divf (res_main_v75 V0) (broadcastInDim S1024x64x3 ![0, 1, 2] bcast_S1024x64x1_S1024x64x3_0_1_2 (broadcastInDim S1024x64x1 ![0, 1] bcast_S1024x64_S1024x64x1_0_1 (Host.reduceAdd (res_main_v75 V0) (constant S_ .f32 0x00000000#32) reducesTo_S1024x64x3_S1024x64_d2 h_S_)))

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S1024x64x3 32 2

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

set_option maxRecDepth 8192 in
/-- `main_call2_v5`'s composed term of the arguments (named: it is used 3 times). -/
def res_main_call2_v5 (V0 : Valuation τ sig (Elt F)) : (Proc.devRef .tc main_call2_v5 : DevRef τ sig).ty.Contents (Elt F) :=
  shapeCast _ (select (cmpi .slt (res_main_indices V0) (broadcastInDim S1024x64x3 ![] bcast_S_S1024x64x3 (constantI S_ 32 0#32))) (addi (res_main_indices V0) (broadcastInDim S1024x64x3 ![] bcast_S_S1024x64x3 (constantI S_ 32 3#32))) (res_main_indices V0)) shapeCasts_S1024x64x3_S1024x64x3x1

set_option maxRecDepth 8192 in
/-- `main_v84`'s composed term of the arguments (named: it is used 3 times). -/
def res_main_v84 (V0 : Valuation τ sig (Elt F)) : (Proc.devRef .tc main_v84 : DevRef τ sig).ty.Contents (Elt F) :=
  broadcastInDim S1024x64x1 ![0, 1] bcast_S1024x64_S1024x64x1_0_1 (fun j => (Host.argReduce reducer_argmax_f32_i32 (res_main_v79 V0) (res_main_call1_v0 V0) (res_main_call1_cst V0) (res_main_call1_c V0) reducesTo_S1024x64x3_S1024x64_d2 h_S_ j).2)

set_option maxRecDepth 8192 in
/-- `main_call3_v5`'s composed term of the arguments (named: it is used 3 times). -/
def res_main_call3_v5 (V0 : Valuation τ sig (Elt F)) : (Proc.devRef .tc main_call3_v5 : DevRef τ sig).ty.Contents (Elt F) :=
  shapeCast _ (select (cmpi .slt (res_main_v84 V0) (broadcastInDim S1024x64x1 ![] bcast_S_S1024x64x1 (constantI S_ 32 0#32))) (addi (res_main_v84 V0) (broadcastInDim S1024x64x1 ![] bcast_S_S1024x64x1 (constantI S_ 32 3#32))) (res_main_v84 V0)) shapeCasts_S1024x64x1_S1024x64x1x1

set_option maxRecDepth 8192 in
/-- `main_v87`'s composed term of the arguments (named: it is used 2 times). -/
def res_main_v87 (V0 : Valuation τ sig (Elt F)) : (Proc.devRef .tc main_v87 : DevRef τ sig).ty.Contents (Elt F) :=
  shapeCast _ (shapeCast _ (select (Host.reduce IntOp.andi (andi (cmpi .sge (res_main_call3_v5 V0) (broadcastInDim S1024x64x1x1 ![] bcast_S_S1024x64x1x1 (constantI S_ 32 0#32))) (cmpi .sle (res_main_call3_v5 V0) (broadcastInDim S1024x64x1x1 ![0, 1, 2, 3] bcast_S1x1x1x1_S1024x64x1x1_0_1_2_3 (broadcastInDim S1x1x1x1 ![3] bcast_S1_S1x1x1x1_3 (constantI S1 32 2#32))))) (constantI S_ 1 1#1) reducesTo_S1024x64x1x1_S1024x64x1_d3 h_S_) (Host.gather gather_S1024x64x3_S1024x64x1x1_S1024x64x1_n_2_01_01_2_3_111 (select (Host.reduce IntOp.andi (andi (cmpi .sge (res_main_call2_v5 V0) (broadcastInDim S1024x64x3x1 ![] bcast_S_S1024x64x3x1 (constantI S_ 32 0#32))) (cmpi .sle (res_main_call2_v5 V0) (broadcastInDim S1024x64x3x1 ![0, 1, 2, 3] bcast_S1x1x1x1_S1024x64x3x1_0_1_2_3 (broadcastInDim S1x1x1x1 ![3] bcast_S1_S1x1x1x1_3 (constantI S1 32 2#32))))) (constantI S_ 1 1#1) reducesTo_S1024x64x3x1_S1024x64x3_d3 h_S_) (Host.gather gather_S1024x64x3_S1024x64x3x1_S1024x64x3_n_2_01_01_2_3_111 (broadcastInDim S1024x64x3 ![0, 1, 2] bcast_S1024x1x3_S1024x64x3_0_1_2 (broadcastInDim S1024x1x3 ![0, 2] bcast_S1024x3_S1024x1x3_0_2 (res_main_v18 V0))) (res_main_call2_v5 V0)) (broadcastInDim S1024x64x3 ![] bcast_S_S1024x64x3 (constantI S_ 32 2147483648#32))) (res_main_call3_v5 V0)) (broadcastInDim S1024x64x1 ![] bcast_S_S1024x64x1 (constantI S_ 32 2147483648#32))) shapeCasts_S1024x64x1_S1024x64) shapeCasts_S1024x64_S65536

/-- `res_main_v87` by its position among the values @main returns, 0 counting from 0: the name for hand proofs to cite, since
    a re-print renumbers `main_v87`. An abbreviation: it unfolds to the `res_main_v87` that `run` states. -/
abbrev res_out0 (V0 : Valuation τ sig (Elt F)) : (Proc.devRef .tc main_v87 : DevRef τ sig).ty.Contents (Elt F) := res_main_v87 V0

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_c, main_v1, main_v2, main_v3, main_v4, main_v5, main_v6, main_v7, main_v8, main_c_0, main_c_1, main_call0_v0, main_call0_v1, main_call0_v2, main_call0_v3, main_call0_v4, main_v9, main_v10, main_c_2, main_v11, main_v12, main_c_3, main_v13, main_v14, main_v15, main_v16, main_v17, main_v18, main_v19]
set_option maxRecDepth 8192 in
theorem ops_part0_0_writes : (ops_part0_0 : List (HloOp τ sig (Elt F))).Forall fun op => op.writes ⊆ (ops_part0_0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
theorem val0_1_main_arg6 (V0 : Valuation τ sig (Elt F)) : val0_1 V0 (no_index (Proc.devRef .tc main_arg6)) = V0 (Proc.devRef .tc main_arg6) :=
  (val0_1_keep V0 main_arg6 (by decide)).trans (val0_main_arg6 V0)
set_option maxRecDepth 8192 in
set_option maxHeartbeats 2000000 in
theorem val0_1_main_v18 (V0 : Valuation τ sig (Elt F)) : val0_1 V0 (no_index (Proc.devRef .tc main_v18)) = res_main_v18 V0 := by
  unfold val0_1
  simp only [ops_part0_0, TRef.binary, TRef.unary, TRef.toBuf, TRef.ofBuf, cast_eq]
  after_results_simp
  simp only [val0_main_arg6] <;> rfl
set_option maxRecDepth 8192 in
set_option maxHeartbeats 2000000 in
theorem val0_1_main_v19 (V0 : Valuation τ sig (Elt F)) : val0_1 V0 (no_index (Proc.devRef .tc main_v19)) = res_main_v19 V0 := by
  unfold val0_1
  simp only [ops_part0_0, TRef.binary, TRef.unary, TRef.toBuf, TRef.ofBuf, cast_eq]
  after_results_simp
  simp only [val0_main_arg6] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_c_4, main_v20, main_v21, main_c_5, main_v22, main_v23, main_v24, main_v25, main_v26, main_v27, main_v28, main_c_6, main_v29, main_v30, main_c_7, main_v31, main_v32, main_v33, main_v34, main_v35, main_v36, main_v37, main_v38, main_v39, main_v40, main_v41, main_v42, main_cst, main_v43, main_cst_8]
set_option maxRecDepth 8192 in
theorem ops_part0_1_writes : (ops_part0_1 : List (HloOp τ sig (Elt F))).Forall fun op => op.writes ⊆ (ops_part0_1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
theorem val0_2_main_arg6 (V0 : Valuation τ sig (Elt F)) : val0_2 V0 (no_index (Proc.devRef .tc main_arg6)) = V0 (Proc.devRef .tc main_arg6) :=
  (val0_2_keep V0 main_arg6 (by decide)).trans (val0_1_main_arg6 V0)
theorem val0_2_main_v18 (V0 : Valuation τ sig (Elt F)) : val0_2 V0 (no_index (Proc.devRef .tc main_v18)) = res_main_v18 V0 :=
  (val0_2_keep V0 main_v18 (by decide)).trans (val0_1_main_v18 V0)
set_option maxRecDepth 8192 in
set_option maxHeartbeats 2000000 in
theorem val0_2_main_v27 (V0 : Valuation τ sig (Elt F)) : val0_2 V0 (no_index (Proc.devRef .tc main_v27)) = shapeCast _ (Host.gather gather_S2048x256_S3072x1_S3072x256_1_0_n_n_0_1_1256 (V0 (Proc.devRef .tc main_arg0)) (broadcastInDim S3072x1 ![0] bcast_S3072_S3072x1_0 (select (cmpi .slt (res_main_v19 V0) (broadcastInDim S3072 ![] bcast_S_S3072 (constantI S_ 32 0#32))) (addi (res_main_v19 V0) (broadcastInDim S3072 ![] bcast_S_S3072 (constantI S_ 32 2048#32))) (res_main_v19 V0)))) shapeCasts_S3072x256_S1024x3x256 := by
  unfold val0_2
  simp only [ops_part0_1]
  after_results_simp
  simp only [val0_1_main_v19, val0_1_main_arg0] <;> rfl
set_option maxRecDepth 8192 in
set_option maxHeartbeats 2000000 in
theorem val0_2_main_v43 (V0 : Valuation τ sig (Elt F)) : val0_2 V0 (no_index (Proc.devRef .tc main_v43)) = Host.reduceAdd (mulf (res_main_v41 V0) (res_main_v41 V0)) (constant S_ .f32 0x00000000#32) reducesTo_S1024x64x3x3_S1024x64x3_d3 h_S_ := by
  unfold val0_2
  simp only [ops_part0_1]
  after_results_simp
  simp only [val0_1_main_v18, val0_1_main_arg1, val0_1_main_arg5] <;> rfl
set_option maxRecDepth 8192 in
set_option maxHeartbeats 2000000 in
theorem val0_2_main_cst_8 (V0 : Valuation τ sig (Elt F)) : val0_2 V0 (no_index (Proc.devRef .tc main_cst_8)) = constant S_ .f32 0x00000000#32 := by
  unfold val0_2
  simp only [ops_part0_1]
  after_results_simp
  all_goals rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v44, main_v45, main_v46, main_v47, main_values]
set_option maxRecDepth 8192 in
theorem ops_part0_2_writes : (ops_part0_2 : List (HloOp τ sig (Elt F))).Forall fun op => op.writes ⊆ (ops_part0_2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_arg4 (V0 : Valuation τ sig (Elt F)) : val1 V0 (no_index (Proc.devRef .tc main_arg4)) = V0 (Proc.devRef .tc main_arg4) :=
  (val1_keep V0 main_arg4 (by decide)).trans (val0_2_main_arg4 V0)
theorem val1_main_arg5 (V0 : Valuation τ sig (Elt F)) : val1 V0 (no_index (Proc.devRef .tc main_arg5)) = V0 (Proc.devRef .tc main_arg5) :=
  (val1_keep V0 main_arg5 (by decide)).trans (val0_2_main_arg5 V0)
theorem val1_main_arg6 (V0 : Valuation τ sig (Elt F)) : val1 V0 (no_index (Proc.devRef .tc main_arg6)) = V0 (Proc.devRef .tc main_arg6) :=
  (val1_keep V0 main_arg6 (by decide)).trans (val0_2_main_arg6 V0)
theorem val1_main_v18 (V0 : Valuation τ sig (Elt F)) : val1 V0 (no_index (Proc.devRef .tc main_v18)) = res_main_v18 V0 :=
  (val1_keep V0 main_v18 (by decide)).trans (val0_2_main_v18 V0)
theorem val1_main_v27 (V0 : Valuation τ sig (Elt F)) : val1 V0 (no_index (Proc.devRef .tc main_v27)) = shapeCast _ (Host.gather gather_S2048x256_S3072x1_S3072x256_1_0_n_n_0_1_1256 (V0 (Proc.devRef .tc main_arg0)) (broadcastInDim S3072x1 ![0] bcast_S3072_S3072x1_0 (select (cmpi .slt (res_main_v19 V0) (broadcastInDim S3072 ![] bcast_S_S3072 (constantI S_ 32 0#32))) (addi (res_main_v19 V0) (broadcastInDim S3072 ![] bcast_S_S3072 (constantI S_ 32 2048#32))) (res_main_v19 V0)))) shapeCasts_S3072x256_S1024x3x256 :=
  (val1_keep V0 main_v27 (by decide)).trans (val0_2_main_v27 V0)
set_option maxRecDepth 8192 in
theorem val1_main_v47 (V0 : Valuation τ sig (Elt F)) : val1 V0 (no_index (Proc.devRef .tc main_v47)) = res_main_v47 V0 := by
  unfold val1
  simp only [ops_part0_2]
  after_results_simp
  simp only [val0_2_main_cst_8, val0_2_main_v43] <;> rfl

/-- The device's buffer contents after @main's first 95 operations. -/
def val1_1 (V0 : Valuation τ sig (Elt F)) : Valuation τ sig (Elt F) := after ops_part1_0 (val1 V0)
/-- The buffers that window `ops_part1_0`'s operations write. -/
abbrev ops_part1_0_W : List (Ref sig .tc) := [main_indices, main_v48, main_v49, main_c_9, main_v50, main_v51, main_c_10, main_v52, main_v53, main_v54, main_c_11, main_v55, main_v56, main_c_12, main_v57, main_v58, main_v59, main_v60, main_v61, main_v62, main_v63, main_v64, main_v65, main_v66, main_v67, main_cst_13, main_v68, main_cst_14, main_v69, main_cst_15]
set_option maxRecDepth 8192 in
theorem ops_part1_0_writes : (ops_part1_0 : List (HloOp τ sig (Elt F))).Forall fun op => op.writes ⊆ (ops_part1_0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
theorem val1_1_main_arg5 (V0 : Valuation τ sig (Elt F)) : val1_1 V0 (no_index (Proc.devRef .tc main_arg5)) = V0 (Proc.devRef .tc main_arg5) :=
  (val1_1_keep V0 main_arg5 (by decide)).trans (val1_main_arg5 V0)
theorem val1_1_main_arg6 (V0 : Valuation τ sig (Elt F)) : val1_1 V0 (no_index (Proc.devRef .tc main_arg6)) = V0 (Proc.devRef .tc main_arg6) :=
  (val1_1_keep V0 main_arg6 (by decide)).trans (val1_main_arg6 V0)
theorem val1_1_main_v18 (V0 : Valuation τ sig (Elt F)) : val1_1 V0 (no_index (Proc.devRef .tc main_v18)) = res_main_v18 V0 :=
  (val1_1_keep V0 main_v18 (by decide)).trans (val1_main_v18 V0)
set_option maxRecDepth 8192 in
set_option maxHeartbeats 2000000 in
theorem val1_1_main_indices (V0 : Valuation τ sig (Elt F)) : val1_1 V0 (no_index (Proc.devRef .tc main_indices)) = res_main_indices V0 := by
  unfold val1_1
  simp only [ops_part1_0]
  after_results_simp
  simp only [val1_main_v47] <;> rfl
set_option maxRecDepth 8192 in
set_option maxHeartbeats 2000000 in
theorem val1_1_main_v68 (V0 : Valuation τ sig (Elt F)) : val1_1 V0 (no_index (Proc.devRef .tc main_v68)) = res_main_v68 V0 := by
  unfold val1_1
  simp only [ops_part1_0]
  after_results_simp
  simp only [val1_main_v47, val1_main_v27, val1_main_arg4] <;> rfl
set_option maxRecDepth 8192 in
set_option maxHeartbeats 2000000 in
theorem val1_1_main_v69 (V0 : Valuation τ sig (Elt F)) : val1_1 V0 (no_index (Proc.devRef .tc main_v69)) = Host.reduce FloatOps.maximumf (res_main_v68 V0) (constant S_ .f32 0xFF800000#32) reducesTo_S1024x64x3_S1024x64_d2 h_S_ := by
  unfold val1_1
  simp only [ops_part1_0]
  after_results_simp
  simp only [val1_main_v47, val1_main_v27, val1_main_arg4] <;> rfl
set_option maxRecDepth 8192 in
set_option maxHeartbeats 2000000 in
theorem val1_1_main_cst_15 (V0 : Valuation τ sig (Elt F)) : val1_1 V0 (no_index (Proc.devRef .tc main_cst_15)) = constant S_ .f32 0xFF800000#32 := by
  unfold val1_1
  simp only [ops_part1_0]
  after_results_simp
  all_goals rfl

/-- The device's buffer contents after @main's first 125 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v70, main_v71, main_v72, main_v73, main_v74, main_v75, main_cst_16, main_v76, main_v77, main_v78, main_v79, main_call1_v0, main_call1_cst, main_call1_c, main_call1_v1_0, main_v80, main_v81, main_v82, main_call2_c, main_call2_v0, main_call2_v1, main_call2_c_0, main_call2_v2, main_call2_v3, main_call2_v4, main_call2_v5, main_call2_c_1, main_call2_c_2, main_call2_v6, main_call2_v7]
set_option maxRecDepth 8192 in
theorem ops_part1_1_writes : (ops_part1_1 : List (HloOp τ sig (Elt F))).Forall fun op => op.writes ⊆ (ops_part1_1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_arg5 (V0 : Valuation τ sig (Elt F)) : val1_2 V0 (no_index (Proc.devRef .tc main_arg5)) = V0 (Proc.devRef .tc main_arg5) :=
  (val1_2_keep V0 main_arg5 (by decide)).trans (val1_1_main_arg5 V0)
theorem val1_2_main_arg6 (V0 : Valuation τ sig (Elt F)) : val1_2 V0 (no_index (Proc.devRef .tc main_arg6)) = V0 (Proc.devRef .tc main_arg6) :=
  (val1_2_keep V0 main_arg6 (by decide)).trans (val1_1_main_arg6 V0)
set_option maxRecDepth 8192 in
set_option maxHeartbeats 2000000 in
theorem val1_2_main_v80 (V0 : Valuation τ sig (Elt F)) : val1_2 V0 (no_index (Proc.devRef .tc main_v80)) = fun j => (Host.argReduce reducer_argmax_f32_i32 (res_main_v79 V0) (res_main_call1_v0 V0) (res_main_call1_cst V0) (res_main_call1_c V0) reducesTo_S1024x64x3_S1024x64_d2 h_S_ j).2 := by
  unfold val1_2
  simp only [ops_part1_1, TRef.binary, TRef.nullary, TRef.quaternary, TRef.reshape, TRef.ternary, TRef.unary, TRef.toBuf, TRef.ofBuf, cast_eq]
  after_results_simp
  simp only [val1_1_main_v69, val1_1_main_cst_15, val1_1_main_v68] <;> rfl
set_option maxRecDepth 8192 in
set_option maxHeartbeats 2000000 in
theorem val1_2_main_v82 (V0 : Valuation τ sig (Elt F)) : val1_2 V0 (no_index (Proc.devRef .tc main_v82)) = broadcastInDim S1024x64x3 ![0, 1, 2] bcast_S1024x1x3_S1024x64x3_0_1_2 (broadcastInDim S1024x1x3 ![0, 2] bcast_S1024x3_S1024x1x3_0_2 (res_main_v18 V0)) := by
  unfold val1_2
  simp only [ops_part1_1, TRef.binary, TRef.nullary, TRef.quaternary, TRef.reshape, TRef.ternary, TRef.unary, TRef.toBuf, TRef.ofBuf, cast_eq]
  after_results_simp
  simp only [val1_1_main_v18] <;> rfl
set_option maxRecDepth 8192 in
set_option maxHeartbeats 2000000 in
theorem val1_2_main_call2_v5 (V0 : Valuation τ sig (Elt F)) : val1_2 V0 (no_index (Proc.devRef .tc main_call2_v5)) = res_main_call2_v5 V0 := by
  unfold val1_2
  simp only [ops_part1_1, TRef.binary, TRef.nullary, TRef.quaternary, TRef.reshape, TRef.ternary, TRef.unary, TRef.toBuf, TRef.ofBuf, cast_eq]
  after_results_simp
  simp only [val1_1_main_indices] <;> rfl
set_option maxRecDepth 8192 in
set_option maxHeartbeats 2000000 in
theorem val1_2_main_call2_c_1 (V0 : Valuation τ sig (Elt F)) : val1_2 V0 (no_index (Proc.devRef .tc main_call2_c_1)) = constantI S1 32 2#32 := by
  unfold val1_2
  simp only [ops_part1_1, TRef.binary, TRef.nullary, TRef.quaternary, TRef.reshape, TRef.ternary, TRef.unary, TRef.toBuf, TRef.ofBuf, cast_eq]
  after_results_simp
  all_goals rfl
set_option maxRecDepth 8192 in
set_option maxHeartbeats 2000000 in
theorem val1_2_main_call2_v7 (V0 : Valuation τ sig (Elt F)) : val1_2 V0 (no_index (Proc.devRef .tc main_call2_v7)) = cmpi .sge (res_main_call2_v5 V0) (broadcastInDim S1024x64x3x1 ![] bcast_S_S1024x64x3x1 (constantI S_ 32 0#32)) := by
  unfold val1_2
  simp only [ops_part1_1, TRef.binary, TRef.nullary, TRef.quaternary, TRef.reshape, TRef.ternary, TRef.unary, TRef.toBuf, TRef.ofBuf, cast_eq]
  after_results_simp
  simp only [val1_1_main_indices] <;> rfl

/-- The device's buffer contents after @main's first 155 operations. -/
def val1_3 (V0 : Valuation τ sig (Elt F)) : Valuation τ sig (Elt F) := after ops_part1_2 (val1_2 V0)
/-- The buffers that window `ops_part1_2`'s operations write. -/
abbrev ops_part1_2_W : List (Ref sig .tc) := [main_call2_v8, main_call2_v9, main_call2_v10, main_call2_v11, main_call2_c_3, main_call2_v12, main_call2_v13, main_call2_c_4, main_call2_v14, main_v83, main_v84, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13]
set_option maxRecDepth 8192 in
theorem ops_part1_2_writes : (ops_part1_2 : List (HloOp τ sig (Elt F))).Forall fun op => op.writes ⊆ (ops_part1_2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
/-- A buffer that window `ops_part1_2` does not write keeps its contents through it. -/
theorem val1_3_keep (V0 : Valuation τ sig (Elt F)) (r : Ref sig .tc) (h : r ∉ ops_part1_2_W) :
    val1_3 V0 (Proc.devRef .tc r) = val1_2 V0 (Proc.devRef .tc r) :=
  after_of_writes_sub ops_part1_2 _ ops_part1_2_writes h
theorem val1_3_main_arg0 (V0 : Valuation τ sig (Elt F)) : val1_3 V0 (no_index (Proc.devRef .tc main_arg0)) = V0 (Proc.devRef .tc main_arg0) :=
  (val1_3_keep V0 main_arg0 (by decide)).trans (val1_2_main_arg0 V0)
theorem val1_3_main_arg1 (V0 : Valuation τ sig (Elt F)) : val1_3 V0 (no_index (Proc.devRef .tc main_arg1)) = V0 (Proc.devRef .tc main_arg1) :=
  (val1_3_keep V0 main_arg1 (by decide)).trans (val1_2_main_arg1 V0)
theorem val1_3_main_arg2 (V0 : Valuation τ sig (Elt F)) : val1_3 V0 (no_index (Proc.devRef .tc main_arg2)) = V0 (Proc.devRef .tc main_arg2) :=
  (val1_3_keep V0 main_arg2 (by decide)).trans (val1_2_main_arg2 V0)
theorem val1_3_main_arg3 (V0 : Valuation τ sig (Elt F)) : val1_3 V0 (no_index (Proc.devRef .tc main_arg3)) = V0 (Proc.devRef .tc main_arg3) :=
  (val1_3_keep V0 main_arg3 (by decide)).trans (val1_2_main_arg3 V0)
theorem val1_3_main_arg4 (V0 : Valuation τ sig (Elt F)) : val1_3 V0 (no_index (Proc.devRef .tc main_arg4)) = V0 (Proc.devRef .tc main_arg4) :=
  (val1_3_keep V0 main_arg4 (by decide)).trans (val1_2_main_arg4 V0)
theorem val1_3_main_arg5 (V0 : Valuation τ sig (Elt F)) : val1_3 V0 (no_index (Proc.devRef .tc main_arg5)) = V0 (Proc.devRef .tc main_arg5) :=
  (val1_3_keep V0 main_arg5 (by decide)).trans (val1_2_main_arg5 V0)
theorem val1_3_main_arg6 (V0 : Valuation τ sig (Elt F)) : val1_3 V0 (no_index (Proc.devRef .tc main_arg6)) = V0 (Proc.devRef .tc main_arg6) :=
  (val1_3_keep V0 main_arg6 (by decide)).trans (val1_2_main_arg6 V0)
set_option maxRecDepth 8192 in
set_option maxHeartbeats 2000000 in
theorem val1_3_main_call3_v12 (V0 : Valuation τ sig (Elt F)) : val1_3 V0 (no_index (Proc.devRef .tc main_call3_v12)) = Host.reduce IntOp.andi (andi (cmpi .sge (res_main_call3_v5 V0) (broadcastInDim S1024x64x1x1 ![] bcast_S_S1024x64x1x1 (constantI S_ 32 0#32))) (cmpi .sle (res_main_call3_v5 V0) (broadcastInDim S1024x64x1x1 ![0, 1, 2, 3] bcast_S1x1x1x1_S1024x64x1x1_0_1_2_3 (broadcastInDim S1x1x1x1 ![3] bcast_S1_S1x1x1x1_3 (constantI S1 32 2#32))))) (constantI S_ 1 1#1) reducesTo_S1024x64x1x1_S1024x64x1_d3 h_S_ := by
  unfold val1_3
  simp only [ops_part1_2, TRef.binary, TRef.nullary, TRef.reshape, TRef.ternary, TRef.unary, TRef.toBuf, TRef.ofBuf, cast_eq]
  after_results_simp
  simp only [val1_2_main_v80] <;> rfl
set_option maxRecDepth 8192 in
set_option maxHeartbeats 2000000 in
theorem val1_3_main_call3_v13 (V0 : Valuation τ sig (Elt F)) : val1_3 V0 (no_index (Proc.devRef .tc main_call3_v13)) = Host.gather gather_S1024x64x3_S1024x64x1x1_S1024x64x1_n_2_01_01_2_3_111 (select (Host.reduce IntOp.andi (andi (cmpi .sge (res_main_call2_v5 V0) (broadcastInDim S1024x64x3x1 ![] bcast_S_S1024x64x3x1 (constantI S_ 32 0#32))) (cmpi .sle (res_main_call2_v5 V0) (broadcastInDim S1024x64x3x1 ![0, 1, 2, 3] bcast_S1x1x1x1_S1024x64x3x1_0_1_2_3 (broadcastInDim S1x1x1x1 ![3] bcast_S1_S1x1x1x1_3 (constantI S1 32 2#32))))) (constantI S_ 1 1#1) reducesTo_S1024x64x3x1_S1024x64x3_d3 h_S_) (Host.gather gather_S1024x64x3_S1024x64x3x1_S1024x64x3_n_2_01_01_2_3_111 (broadcastInDim S1024x64x3 ![0, 1, 2] bcast_S1024x1x3_S1024x64x3_0_1_2 (broadcastInDim S1024x1x3 ![0, 2] bcast_S1024x3_S1024x1x3_0_2 (res_main_v18 V0))) (res_main_call2_v5 V0)) (broadcastInDim S1024x64x3 ![] bcast_S_S1024x64x3 (constantI S_ 32 2147483648#32))) (res_main_call3_v5 V0) := by
  unfold val1_3
  simp only [ops_part1_2, TRef.binary, TRef.nullary, TRef.reshape, TRef.ternary, TRef.unary, TRef.toBuf, TRef.ofBuf, cast_eq]
  after_results_simp
  simp only [val1_2_main_v80, val1_2_main_call2_v5, val1_2_main_v82, val1_2_main_call2_c_1, val1_2_main_call2_v7] <;> rfl

/-- The device's buffer contents after @main's first 2 windows. -/
def val2 (V0 : Valuation τ sig (Elt F)) : Valuation τ sig (Elt F) := after ops_part1_3 (val1_3 V0)
/-- The buffers that window `ops_part1_3`'s operations write. -/
abbrev ops_part1_3_W : List (Ref sig .tc) := [main_call3_c_4, main_call3_v14, main_v85, main_v86, main_v87, main_cst_17, main_v88, main_v89, main_v90, main_cst_18, main_v91, main_cst_19, main_v92, main_v93, main_v94, main_cst_20]
set_option maxRecDepth 8192 in
theorem ops_part1_3_writes : (ops_part1_3 : List (HloOp τ sig (Elt F))).Forall fun op => op.writes ⊆ (ops_part1_3_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
/-- A buffer that window `ops_part1_3` does not write keeps its contents through it. -/
theorem val2_keep (V0 : Valuation τ sig (Elt F)) (r : Ref sig .tc) (h : r ∉ ops_part1_3_W) :
    val2 V0 (Proc.devRef .tc r) = val1_3 V0 (Proc.devRef .tc r) :=
  after_of_writes_sub ops_part1_3 _ ops_part1_3_writes h
theorem val2_main_arg0 (V0 : Valuation τ sig (Elt F)) : val2 V0 (no_index (Proc.devRef .tc main_arg0)) = V0 (Proc.devRef .tc main_arg0) :=
  (val2_keep V0 main_arg0 (by decide)).trans (val1_3_main_arg0 V0)
theorem val2_main_arg1 (V0 : Valuation τ sig (Elt F)) : val2 V0 (no_index (Proc.devRef .tc main_arg1)) = V0 (Proc.devRef .tc main_arg1) :=
  (val2_keep V0 main_arg1 (by decide)).trans (val1_3_main_arg1 V0)
theorem val2_main_arg2 (V0 : Valuation τ sig (Elt F)) : val2 V0 (no_index (Proc.devRef .tc main_arg2)) = V0 (Proc.devRef .tc main_arg2) :=
  (val2_keep V0 main_arg2 (by decide)).trans (val1_3_main_arg2 V0)
theorem val2_main_arg3 (V0 : Valuation τ sig (Elt F)) : val2 V0 (no_index (Proc.devRef .tc main_arg3)) = V0 (Proc.devRef .tc main_arg3) :=
  (val2_keep V0 main_arg3 (by decide)).trans (val1_3_main_arg3 V0)
theorem val2_main_arg4 (V0 : Valuation τ sig (Elt F)) : val2 V0 (no_index (Proc.devRef .tc main_arg4)) = V0 (Proc.devRef .tc main_arg4) :=
  (val2_keep V0 main_arg4 (by decide)).trans (val1_3_main_arg4 V0)
theorem val2_main_arg5 (V0 : Valuation τ sig (Elt F)) : val2 V0 (no_index (Proc.devRef .tc main_arg5)) = V0 (Proc.devRef .tc main_arg5) :=
  (val2_keep V0 main_arg5 (by decide)).trans (val1_3_main_arg5 V0)
theorem val2_main_arg6 (V0 : Valuation τ sig (Elt F)) : val2 V0 (no_index (Proc.devRef .tc main_arg6)) = V0 (Proc.devRef .tc main_arg6) :=
  (val2_keep V0 main_arg6 (by decide)).trans (val1_3_main_arg6 V0)
set_option maxRecDepth 8192 in
set_option maxHeartbeats 1600000 in
theorem val2_main_v87 (V0 : Valuation τ sig (Elt F)) : val2 V0 (no_index (Proc.devRef .tc main_v87)) = res_main_v87 V0 := by
  unfold val2
  simp only [ops_part1_3, TRef.nullary, TRef.ternary, TRef.unary, TRef.toBuf, TRef.ofBuf, cast_eq]
  after_results_simp
  simp only [val1_3_main_call3_v13, val1_3_main_call3_v12] <;> rfl
set_option maxRecDepth 8192 in
set_option maxHeartbeats 1600000 in
theorem val2_main_v90 (V0 : Valuation τ sig (Elt F)) : val2 V0 (no_index (Proc.devRef .tc main_v90)) = Host.scatterAdd scatter_S2048x3_S65536x1_S65536x3_1_0_0_1 (broadcastInDim S2048x3 ![] bcast_S_S2048x3 (constant S_ .f32 0x00000000#32)) (broadcastInDim S65536x1 ![0] bcast_S65536_S65536x1_0 (res_main_v87 V0)) (V0 (Proc.devRef .tc main_arg3)) := by
  unfold val2
  simp only [ops_part1_3, TRef.nullary, TRef.ternary, TRef.unary, TRef.toBuf, TRef.ofBuf, cast_eq]
  after_results_simp
  simp only [val1_3_main_arg3, val1_3_main_call3_v13, val1_3_main_call3_v12] <;> rfl
set_option maxRecDepth 8192 in
set_option maxHeartbeats 1600000 in
theorem val2_main_v94 (V0 : Valuation τ sig (Elt F)) : val2 V0 (no_index (Proc.devRef .tc main_v94)) = Host.scatterAdd scatter_S2048_S65536x1_S65536_n_0_0_1 (broadcastInDim S2048 ![] bcast_S_S2048 (constant S_ .f32 0x00000000#32)) (broadcastInDim S65536x1 ![0] bcast_S65536_S65536x1_0 (res_main_v87 V0)) (broadcastInDim S65536 ![] bcast_S_S65536 (constant S_ .f32 0x3F800000#32)) := by
  unfold val2
  simp only [ops_part1_3, TRef.nullary, TRef.ternary, TRef.unary, TRef.toBuf, TRef.ofBuf, cast_eq]
  after_results_simp
  simp only [val1_3_main_call3_v13, val1_3_main_call3_v12] <;> rfl
set_option maxRecDepth 8192 in
set_option maxHeartbeats 1600000 in
theorem val2_main_cst_20 (V0 : Valuation τ sig (Elt F)) : val2 V0 (no_index (Proc.devRef .tc main_cst_20)) = constant S_ .f32 0x3F800000#32 := by
  unfold val2
  simp only [ops_part1_3, TRef.nullary, TRef.ternary, TRef.unary, TRef.toBuf, TRef.ofBuf, cast_eq]
  after_results_simp
  all_goals rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v95, main_v96, main_v97, main_v98, main_v99, main_v100, main_v101]
set_option maxRecDepth 8192 in
theorem ops_part2_writes : (ops_part2 : List (HloOp τ sig (Elt F))).Forall fun op => op.writes ⊆ (ops_part2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  and_intros <;> exact List.mem_map_of_mem (by decide)
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_v87 (V0 : Valuation τ sig (Elt F)) : val3 V0 (no_index (Proc.devRef .tc main_v87)) = res_main_v87 V0 :=
  (val3_keep V0 main_v87 (by decide)).trans (val2_main_v87 V0)
set_option maxRecDepth 8192 in
theorem val3_main_v99 (V0 : Valuation τ sig (Elt F)) : val3 V0 (no_index (Proc.devRef .tc main_v99)) = Host.divf (Host.scatterAdd scatter_S2048x3_S65536x1_S65536x3_1_0_0_1 (broadcastInDim S2048x3 ![] bcast_S_S2048x3 (constant S_ .f32 0x00000000#32)) (broadcastInDim S65536x1 ![0] bcast_S65536_S65536x1_0 (res_main_v87 V0)) (V0 (Proc.devRef .tc main_arg3))) (broadcastInDim S2048x3 ![0, 1] bcast_S2048x1_S2048x3_0_1 (broadcastInDim S2048x1 ![0] bcast_S2048_S2048x1_0 (maximumf (Host.scatterAdd scatter_S2048_S65536x1_S65536_n_0_0_1 (broadcastInDim S2048 ![] bcast_S_S2048 (constant S_ .f32 0x00000000#32)) (broadcastInDim S65536x1 ![0] bcast_S65536_S65536x1_0 (res_main_v87 V0)) (broadcastInDim S65536 ![] bcast_S_S65536 (constant S_ .f32 0x3F800000#32))) (broadcastInDim S2048 ![] bcast_S_S2048 (constant S_ .f32 0x3F800000#32))))) := by
  unfold val3
  simp only [ops_part2]
  after_results_simp
  simp only [val2_main_cst_20, val2_main_v94, val2_main_v90] <;> rfl
set_option maxRecDepth 8192 in
theorem val3_main_v100 (V0 : Valuation τ sig (Elt F)) : val3 V0 (no_index (Proc.devRef .tc main_v100)) = shapeCast _ (V0 (Proc.devRef .tc main_arg2)) shapeCasts_S65536x256_S2048x32x256 := by
  unfold val3
  simp only [ops_part2]
  after_results_simp
  simp only [val2_main_arg2] <;> rfl
set_option maxRecDepth 8192 in
theorem val3_main_v101 (V0 : Valuation τ sig (Elt F)) : val3 V0 (no_index (Proc.devRef .tc main_v101)) = shapeCast _ (V0 (Proc.devRef .tc main_arg2)) shapeCasts_S65536x256_S1024x64x256 := by
  unfold val3
  simp only [ops_part2]
  after_results_simp
  simp only [val2_main_arg2] <;> rfl

theorem after_ops (V0 : Valuation τ sig (Elt F)) : after ops V0 = val3 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = res_main_v87 (launchContents m c)
      ∧ r.2.mem ((c.tc : Thread nD τ).loc main_arg0) = (launchContents m c) (Proc.devRef .tc main_arg0)
      ∧ r.2.mem ((c.tc : Thread nD τ).loc main_v99) = Host.divf (Host.scatterAdd scatter_S2048x3_S65536x1_S65536x3_1_0_0_1 (broadcastInDim S2048x3 ![] bcast_S_S2048x3 (constant S_ .f32 0x00000000#32)) (broadcastInDim S65536x1 ![0] bcast_S65536_S65536x1_0 (res_main_v87 (launchContents m c))) ((launchContents m c) (Proc.devRef .tc main_arg3))) (broadcastInDim S2048x3 ![0, 1] bcast_S2048x1_S2048x3_0_1 (broadcastInDim S2048x1 ![0] bcast_S2048_S2048x1_0 (maximumf (Host.scatterAdd scatter_S2048_S65536x1_S65536_n_0_0_1 (broadcastInDim S2048 ![] bcast_S_S2048 (constant S_ .f32 0x00000000#32)) (broadcastInDim S65536x1 ![0] bcast_S65536_S65536x1_0 (res_main_v87 (launchContents m c))) (broadcastInDim S65536 ![] bcast_S_S65536 (constant S_ .f32 0x3F800000#32))) (broadcastInDim S2048 ![] bcast_S_S2048 (constant S_ .f32 0x3F800000#32)))))
      ∧ r.2.mem ((c.tc : Thread nD τ).loc main_v101) = shapeCast _ ((launchContents m c) (Proc.devRef .tc main_arg2)) shapeCasts_S65536x256_S1024x64x256
      ∧ r.2.mem ((c.tc : Thread nD τ).loc main_v100) = shapeCast _ ((launchContents m c) (Proc.devRef .tc main_arg2)) shapeCasts_S65536x256_S2048x32x256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v87).trans ((congrFun (after_ops (launchContents m c)) (Proc.devRef .tc main_v87)).trans (val3_main_v87 (launchContents m c))),
      (h c main_arg0).trans ((congrFun (after_ops (launchContents m c)) (Proc.devRef .tc main_arg0)).trans (val3_main_arg0 (launchContents m c))),
      (h c main_v99).trans ((congrFun (after_ops (launchContents m c)) (Proc.devRef .tc main_v99)).trans (val3_main_v99 (launchContents m c))),
      (h c main_v101).trans ((congrFun (after_ops (launchContents m c)) (Proc.devRef .tc main_v101)).trans (val3_main_v101 (launchContents m c))),
      (h c main_v100).trans ((congrFun (after_ops (launchContents m c)) (Proc.devRef .tc main_v100)).trans (val3_main_v100 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c))),
      (h c main_arg3).trans ((congrFun (after_ops (launchContents m c)) (Proc.devRef .tc main_arg3)).trans (val3_main_arg3 (launchContents m c))),
      (h c main_arg4).trans ((congrFun (after_ops (launchContents m c)) (Proc.devRef .tc main_arg4)).trans (val3_main_arg4 (launchContents m c))),
      (h c main_arg5).trans ((congrFun (after_ops (launchContents m c)) (Proc.devRef .tc main_arg5)).trans (val3_main_arg5 (launchContents m c))),
      (h c main_arg6).trans ((congrFun (after_ops (launchContents m c)) (Proc.devRef .tc main_arg6)).trans (val3_main_arg6 (launchContents m c)))⟩)
    (run_seq scopedRefs_eq scopedSems_eq defs main (fun _ => ops) main_eq (fun _ => ops_sub) m ρ fun _ => ops_fresh)

end Cert.ReferenceIdeal.Value

end
-- ==== Proof.Reference.V1.lean ====
module

public import proofs.«01_k».proof.Proof.Reference.Run
public import Idealize.ShloMosaic.Lib.Pointwise
public import Idealize.ShloMosaic.Lib.Routing.OpsSet
public import Idealize.ShloMosaic.Lib.SortFacts
public import Idealize.ShloMosaic.Lib.Pipeline.ValueKit
public import Idealize.ShloMosaic.Lib.Tactic.CleanTypes

@[expose] public section

set_option maxRecDepth 16384

noncomputable section

namespace Cert.ReferenceIdeal.Value

open Cert.ReferenceIdeal.Gen
open Idealize.ShloMosaic Idealize.ShloMosaic.TcCoe Idealize.ShloMosaic.Tactic

theorem g1 (x : Vec Ideal S1024x3x256 .f32) (idx : Vec Ideal S1024x64x3x2 .i32) (s : Fin 1024) (p : Fin 64) (r : Fin 3) (k : Fin 256) :
    Host.gather gather_S1024x3x256_S1024x64x3x2_S1024x64x3x256_3_01_n_n_01_3_11256 x idx (ix4 s p r k)
      = x (ix3 ⟨min (idx (ix4 s p r 0)).toInt.toNat 1023, by omega⟩ ⟨min (idx (ix4 s p r 1)).toInt.toNat 2, by omega⟩ k) := by
  unfold Host.gather
  refine congrArg x (funext fun a => Fin.ext ?_)
  match a with
  | ⟨0, _⟩ =>
    exact (by
      refine congrArg (fun z => min (idx z).toInt.toNat 1023) (funext fun b => Fin.ext ?_)
      match b with
      | ⟨0, _⟩ => rfl
      | ⟨1, _⟩ => rfl
      | ⟨2, _⟩ => rfl
      | ⟨3, _⟩ => rfl)
  | ⟨1, _⟩ =>
    exact (by
      refine congrArg (fun z => min (idx z).toInt.toNat 2) (funext fun b => Fin.ext ?_)
      match b with
      | ⟨0, _⟩ => rfl
      | ⟨1, _⟩ => rfl
      | ⟨2, _⟩ => rfl
      | ⟨3, _⟩ => rfl)
  | ⟨2, _⟩ => exact Nat.zero_add k.val

theorem g2 (x : Vec Ideal S1024x64x3 .i32) (idx : Vec Ideal S1024x64x3x1 .i32) (s : Fin 1024) (p : Fin 64) (r : Fin 3) :
    Host.gather gather_S1024x64x3_S1024x64x3x1_S1024x64x3_n_2_01_01_2_3_111 x idx (ix3 s p r)
      = x (ix3 s p ⟨min (idx (ix4 s p r 0)).toInt.toNat 2, by omega⟩) := by
  unfold Host.gather
  refine congrArg x (funext fun a => Fin.ext ?_)
  match a with
  | ⟨0, _⟩ => exact Nat.zero_add s.val
  | ⟨1, _⟩ => exact Nat.zero_add p.val
  | ⟨2, _⟩ =>
    exact (by
      refine congrArg (fun z => min (idx z).toInt.toNat 2) (funext fun b => Fin.ext ?_)
      match b with
      | ⟨0, _⟩ => rfl
      | ⟨1, _⟩ => rfl
      | ⟨2, _⟩ => rfl
      | ⟨3, _⟩ => rfl)

theorem g3 (x : Vec Ideal S1024x64x3 .i32) (idx : Vec Ideal S1024x64x1x1 .i32) (s : Fin 1024) (p : Fin 64) :
    Host.gather gather_S1024x64x3_S1024x64x1x1_S1024x64x1_n_2_01_01_2_3_111 x idx (ix3 s p 0)
      = x (ix3 s p ⟨min (idx (ix4 s p 0 0)).toInt.toNat 2, by omega⟩) := by
  unfold Host.gather
  refine congrArg x (funext fun a => Fin.ext ?_)
  match a with
  | ⟨0, _⟩ => exact Nat.zero_add s.val
  | ⟨1, _⟩ => exact Nat.zero_add p.val
  | ⟨2, _⟩ =>
    exact (by
      refine congrArg (fun z => min (idx z).toInt.toNat 2) (funext fun b => Fin.ext ?_)
      match b with
      | ⟨0, _⟩ => rfl
      | ⟨1, _⟩ => rfl
      | ⟨2, _⟩ => rfl
      | ⟨3, _⟩ => rfl)

variable (V0 : Valuation τ sig (Elt Ideal))

/-- The place of neighbour `k` of segment `s` among the segments. -/
def near (s k : ℕ) : ℕ := min 1023 (s + k - 1)

theorem near_lt (s k : ℕ) : near s k < 1024 := by unfold near; omega

theorem v10_at (s : Fin 1024) (k : Fin 3) : res_main_v10 V0 (ix1 ⟨3 * s.val + k.val, by omega⟩) = BitVec.ofNat 32 (near s.val k.val) := by
  unfold res_main_v10
  clean_types
  pointwise
  exact (by decide +kernel : ∀ (s : Fin 1024) (k : Fin 3), IntOp.minsi 1023#32 (IntOp.maxsi 0#32
    (IntOp.addi (BitVec.ofNat 32 s.val) (IntOp.addi (4294967295#32) (BitVec.ofNat 32 k.val)))) = BitVec.ofNat 32 (near s.val k.val)) s k

/-- Reading the ids at the neighbour places: row `s`, neighbour `k`. -/
theorem v18_at (s : Fin 1024) (k : Fin 3) : res_main_v18 V0 (ix2 s k) = V0 (Proc.devRef .tc main_arg6) (ix1 ⟨near s.val k.val, near_lt _ _⟩) := by
  unfold res_main_v18
  clean_types
  generalize hG : Host.gather _ _ _ = G
  have e : G (ix1 ⟨3 * s.val + k.val, by omega⟩) = V0 (Proc.devRef .tc main_arg6) (ix1 ⟨near s.val k.val, near_lt _ _⟩) := by
    rw [← hG]
    refine Routing.gather_take1 gather_S1024_S3072x1_S3072_n_0_n_n_0_1_1 rfl rfl rfl rfl _ _ _ ⟨near s.val k.val, near_lt _ _⟩ ?_ (by decide)
    have h := v10_at V0 s k
    generalize res_main_v10 V0 = A at h ⊢
    pointwise
    rw [h]
    exact Routing.wrap_of_lt _ _ (by have := near_lt s.val k.val; simp; omega)
  rw [← e]
  clear hG e
  pointwise
  blk_ext []

theorem v19_at (s : Fin 1024) (k : Fin 3) : res_main_v19 V0 (ix1 ⟨3 * s.val + k.val, by omega⟩) = res_main_v18 V0 (ix2 s k) := by
  unfold res_main_v19
  generalize res_main_v18 V0 = A
  clean_types
  pointwise
  try blk_ext []

theorem topK_at (A : Vec Ideal S1024x64x3 .f32) (gt : Ideal .f32 → Ideal .f32 → BitVec 1) (s : Fin 1024) (p : Fin 64) (r : Fin 3) :
    (Host.topK S1024x64x3 2 gt A sliceFits_S1024x64x3_S1024x64x3).2 (ix3 s p r)
      = BitVec.ofNat 32 (sortedFrom (fun k k' : Fin 3 => gt (A (ix3 s p k)) (A (ix3 s p k')) == 1#1) r).val := by
  unfold Host.topK Host.sort2
  have e : ∀ k : Fin 3, Shape.Idx.along (s := S1024x64x3) (ix3 s p r) (2 : Fin 3) k = ix3 s p k := fun k => by
    funext a
    match a with
    | ⟨0, _⟩ => rfl
    | ⟨1, _⟩ => rfl
    | ⟨2, _⟩ => rfl
  have j : (fun a : Fin 3 => (⟨0 + ((ix3 s p r : S1024x64x3.Idx) a).val, by have := ((ix3 s p r : S1024x64x3.Idx) a).isLt; simpa using this⟩ : Fin (S1024x64x3.size a))) = (ix3 s p r : S1024x64x3.Idx) := by
    funext a
    exact Fin.ext (Nat.zero_add _)
  have h2 : (2 : ℕ) < S1024x64x3.rank := by decide
  have q : ∀ (F : S1024x64x3.Idx → BitVec 32), extractStridedSlice S1024x64x3 (fun _ => 0) F sliceFits_S1024x64x3_S1024x64x3 (ix3 s p r) = F (ix3 s p r) :=
    fun F => congrArg F j
  dsimp only
  rw [q]
  change BitVec.ofNat 32 (sortedFrom (fun k k' : Fin 3 => gt (A (Shape.Idx.along (s := S1024x64x3) (ix3 s p r) (2 : Fin 3) k)) (A (Shape.Idx.along (s := S1024x64x3) (ix3 s p r) (2 : Fin 3) k')) == 1#1) r).val = _
  exact congrArg (fun b => BitVec.ofNat 32 (sortedFrom b r).val) (funext fun k => funext fun k' => by rw [e k, e k'])

/-- The order in which the candidates of a point are looked at names each candidate. -/
theorem indices_at (s : Fin 1024) (p : Fin 64) : ∃ σ : Fin 3 → Fin 3, Function.Surjective σ ∧
    ∀ r, res_main_indices V0 (ix3 s p r) = BitVec.ofNat 32 (σ r).val := by
  unfold res_main_indices
  exact ⟨_, sortedFrom_surjective _, fun r => topK_at _ _ s p r⟩

/-- The similarity of point `p` of segment `s` and the superpoint named at place `q`. -/
def sim (x0 : Vec Ideal S2048x256 .f32) (x4 : Vec Ideal S1024x64x256 .f32) (x6 : Vec Ideal S1024 .i32) (hx : ∀ j, (x6 j).toNat < 2048)
    (s : Fin 1024) (p : Fin 64) (q : Fin 1024) : EReal :=
  ∑ d : Fin 256, x4 (ix3 s p d) * x0 (ix2 ⟨(x6 (ix1 q)).toNat, hx _⟩ d)

theorem feats_at (H : Vec Ideal S3072x256 .f32) (a : Fin 1024) (b : Fin 3) (d : Fin 256) :
    shapeCast S1024x3x256 H shapeCasts_S3072x256_S1024x3x256 (ix3 a b d) = H (ix2 ⟨3 * a.val + b.val, by omega⟩ d) := by
  pointwise
  blk_ext []

theorem v68_at (hx : ∀ j, (V0 (Proc.devRef .tc main_arg6) j).toNat < 2048) (s : Fin 1024) (p : Fin 64) (σ : Fin 3 → Fin 3)
    (hσ : ∀ r, res_main_indices V0 (ix3 s p r) = BitVec.ofNat 32 (σ r).val) (r : Fin 3) :
    res_main_v68 V0 (ix3 s p r) = sim (V0 (Proc.devRef .tc main_arg0)) (V0 (Proc.devRef .tc main_arg4)) (V0 (Proc.devRef .tc main_arg6)) hx s p ⟨near s.val (σ r).val, near_lt _ _⟩ := by
  unfold res_main_v68 sim
  clean_types
  generalize hG : Host.gather gather_S1024x3x256_S1024x64x3x2_S1024x64x3x256_3_01_n_n_01_3_11256 _ _ = G
  have e : ∀ d, G (ix4 s p r d) = V0 (Proc.devRef .tc main_arg0) (ix2 ⟨(V0 (Proc.devRef .tc main_arg6) (ix1 ⟨near s.val (σ r).val, near_lt _ _⟩)).toNat, hx _⟩ d) := by
    intro d
    rw [← hG, g1]
    have i1 := hσ r
    generalize res_main_indices V0 = A at i1 ⊢
    generalize hC : concatenate S1024x64x3x2 3 _ _ = C
    have c0 : C (ix4 s p r 0) = BitVec.ofNat 32 s.val := by
      rw [← hC]
      unfold res_main_v49
      clean_types
      pointwise
      exact Routing.wrap_of_lt _ _ (by simp; omega)
    have c1 : C (ix4 s p r 1) = BitVec.ofNat 32 (σ r).val := by
      rw [← hC]
      unfold res_main_v49
      clean_types
      pointwise
      rw [i1]
      exact Routing.wrap_of_lt _ _ (by simp; omega)
    simp only [c0, c1]
    generalize hH : Host.gather gather_S2048x256_S3072x1_S3072x256_1_0_n_n_0_1_1256 _ _ = H
    have hh : H (ix2 ⟨3 * s.val + (σ r).val, by omega⟩ d) = V0 (Proc.devRef .tc main_arg0) (ix2 ⟨(V0 (Proc.devRef .tc main_arg6) (ix1 ⟨near s.val (σ r).val, near_lt _ _⟩)).toNat, hx _⟩ d) := by
      rw [← hH]
      refine Routing.gather_row gather_S2048x256_S3072x1_S3072x256_1_0_n_n_0_1_1256 rfl rfl rfl rfl rfl _ _ _ _ _ ?_ (by decide)
      have h := v19_at V0 s (σ r)
      rw [v18_at] at h
      have hx' := hx (ix1 ⟨near s.val (σ r).val, near_lt _ _⟩)
      generalize res_main_v19 V0 = B at h ⊢
      pointwise
      rw [h]
      rw [Routing.wrap_of_lt _ _ (by omega)]
      simp
    rw [← hh]
    refine (feats_at H _ _ d).trans (congrArg H (congrArg₂ ix2 (Fin.ext ?_) rfl))
    simp only [StableHlo.Predicate.toInt_ofNat_small s.val (by omega), StableHlo.Predicate.toInt_ofNat_small (σ r).val (by omega)]
    simp
    omega
  clear hG
  pointwise
  simp only [e]
-- ==== Proof.Reference.Pre.lean ====
module

public import proofs.«01_k».proof.Proof.Reference.V1
public import proofs.«01_k».proof.Pre_one_best

@[expose] public section

set_option maxRecDepth 16384

noncomputable section

instance facts_one_best : Cert.Pre_one_best.Facts :=
  ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩

namespace Cert.ReferenceIdeal.Value

open Idealize.ShloMosaic Idealize.ShloMosaic.TcCoe Idealize.ShloMosaic.Tactic
open Cert.Pre_one_best Cert.Pre_one_best.Facts

/-- Two candidates are one superpoint, or differ in similarity, or are below the third. -/
def Apart (B : IVec S1024x3 32) (S : FVec Ideal S1024x64x3 .f32) (s : Fin 1024) (p : Fin 64) (a b o : Fin 3) : BitVec 1 :=
  IntOp.ori (IntOp.ori (IntOp.cmpi .eq (B (ix2 s a)) (B (ix2 s b))) (FloatOps.cmpf (F := Ideal) .une (S (ix3 s p a)) (S (ix3 s p b))))
    (FloatOps.cmpf (F := Ideal) .olt (S (ix3 s p a)) (S (ix3 s p o)))

theorem apart_iff (B : IVec S1024x3 32) (S : FVec Ideal S1024x64x3 .f32) (s : Fin 1024) (p : Fin 64) (a b o : Fin 3) (h : Apart B S s p a b o = 1#1) :
    B (ix2 s a) = B (ix2 s b) ∨ (S (ix3 s p a) : EReal) ≠ S (ix3 s p b) ∨ (S (ix3 s p a) : EReal) < S (ix3 s p o) := by
  by_contra hc
  rw [not_or, not_or] at hc
  obtain ⟨h1, h2, h3⟩ := hc
  rw [not_not] at h2
  unfold Apart at h
  simp only [IntOp.ori, IntOp.cmpi, Ideal.cmpf_def, Ideal.cmp, h2] at h
  rw [h2] at h3
  simp [h3] at h
  have h4 : (B (ix2 s a) == B (ix2 s b)) = false := beq_false_of_ne h1
  rw [h4] at h
  exact absurd h (by decide)

section
variable (x0 : FVec Ideal S2048x256 .f32) (x3 : FVec Ideal S65536x3 .f32) (x4 : FVec Ideal S1024x64x256 .f32) (x6 : IVec S1024 32)
  (B : IVec S1024x3 32) (S : FVec Ideal S1024x64x3 .f32) (v35 v37 : IVec S1024 1)

theorem part2_1 : (fn_part2 (F := Ideal) x0 x3 x4 B S v35 v37).1 = andi v35 v37 := rfl

theorem part2_2 (j) : (fn_part2 (F := Ideal) x0 x3 x4 B S v35 v37).2.1 j = FloatOps.cmpf (F := Ideal) .olt (FloatOps.hostAbsf (F := Ideal) (x0 j)) (FloatOps.ofBits (F := Ideal) .f32 0x7F800000#32) := rfl

theorem part2_3 (j) : (fn_part2 (F := Ideal) x0 x3 x4 B S v35 v37).2.2.1 j = FloatOps.cmpf (F := Ideal) .olt (FloatOps.hostAbsf (F := Ideal) (x4 j)) (FloatOps.ofBits (F := Ideal) .f32 0x7F800000#32) := rfl

theorem part2_4 (j) : (fn_part2 (F := Ideal) x0 x3 x4 B S v35 v37).2.2.2.1 j = FloatOps.cmpf (F := Ideal) .olt (FloatOps.hostAbsf (F := Ideal) (x3 j)) (FloatOps.ofBits (F := Ideal) .f32 0x7F800000#32) := rfl

theorem part2_5 (s : Fin 1024) (p : Fin 64) : (fn_part2 (F := Ideal) x0 x3 x4 B S v35 v37).2.2.2.2.1 (ix2 s p) = Apart B S s p 0 1 2 := by
  unfold fn_part2 fn_part3 fn_part4 Apart
  dsimp only
  pointwise
  trace_state

theorem part2_6 (s : Fin 1024) (p : Fin 64) : (fn_part2 (F := Ideal) x0 x3 x4 B S v35 v37).2.2.2.2.2.1 (ix2 s p) = Apart B S s p 0 2 1 := by
  unfold fn_part2 fn_part3 fn_part4 Apart
  dsimp only
  pointwise

theorem part2_7 (s : Fin 1024) (p : Fin 64) : (fn_part2 (F := Ideal) x0 x3 x4 B S v35 v37).2.2.2.2.2.2 (ix2 s p) = Apart B S s p 1 2 0 := by
  unfold fn_part2 fn_part3 fn_part4 Apart
  dsimp only
  pointwise

theorem finite_iff (x : EReal) (h : FloatOps.cmpf (F := Ideal) (φ := .f32) .olt (FloatOps.hostAbsf (F := Ideal) (φ := .f32) x) (FloatOps.ofBits (F := Ideal) .f32 0x7F800000#32) = 1#1) :
    x ≠ ⊤ ∧ x ≠ ⊥ := by
  have e : Ideal.ofBits .f32 0x7F800000#32 = ⊤ := by simp [Ideal.ofBits, Ideal.ieee]
  change Ideal.cmp .olt (max x (-x)) (Ideal.ofBits .f32 0x7F800000#32) = 1#1 at h
  rw [e] at h
  constructor <;> rintro rfl <;> simp [Ideal.cmp] at h

theorem sims_at (s : Fin 1024) (p : Fin 64) (r : Fin 3) (h : (B (ix2 s r)).toNat < 2048) :
    Host.reduceAdd (F := Ideal) (mulf (broadcastInDim S1024x64x3x256 ![0, 1, 2, 3] bcast_S1024x64x1x256_S1024x64x3x256_0_1_2_3 (broadcastInDim S1024x64x1x256 ![0, 1, 3] bcast_S1024x64x256_S1024x64x1x256_0_1_3 x4))
      (broadcastInDim S1024x64x3x256 ![0, 1, 2, 3] bcast_S1024x1x3x256_S1024x64x3x256_0_1_2_3 (broadcastInDim S1024x1x3x256 ![0, 2, 3] bcast_S1024x3x256_S1024x1x3x256_0_2_3
        (shapeCast S1024x3x256 (Host.gather gather_S2048x256_S3072x1_S3072x256_1_0_n_n_0_1_1256 x0 (broadcastInDim S3072x1 ![0] bcast_S3072_S3072x1_0
          (select (cmpi .slt (shapeCast S3072 B shapeCasts_S1024x3_S3072) (broadcastInDim S3072 ![] bcast_S_S3072 (constantI S_ 32 0#32)))
            (addi (shapeCast S3072 B shapeCasts_S1024x3_S3072) (broadcastInDim S3072 ![] bcast_S_S3072 (constantI S_ 32 2048#32))) (shapeCast S3072 B shapeCasts_S1024x3_S3072)))) shapeCasts_S3072x256_S1024x3x256))))
      (constant S_ .f32 0x00000000#32) reducesTo_S1024x64x3x256_S1024x64x3_d3 h_S_ (ix3 s p r)
      = (∑ d : Fin 256, x4 (ix3 s p d) * x0 (ix2 ⟨(B (ix2 s r)).toNat, h⟩ d) : EReal) := by
  generalize hH : Host.gather gather_S2048x256_S3072x1_S3072x256_1_0_n_n_0_1_1256 _ _ = H
  have hh : ∀ d, H (ix2 ⟨3 * s.val + r.val, by omega⟩ d) = x0 (ix2 ⟨(B (ix2 s r)).toNat, h⟩ d) := by
    intro d
    rw [← hH]
    refine Routing.gather_row gather_S2048x256_S3072x1_S3072x256_1_0_n_n_0_1_1256 rfl rfl rfl rfl rfl _ _ _ _ _ ?_ (by decide)
    have e : shapeCast S3072 B shapeCasts_S1024x3_S3072 (ix1 ⟨3 * s.val + r.val, by omega⟩) = B (ix2 s r) := by
      pointwise
      try blk_ext []
    generalize shapeCast S3072 B shapeCasts_S1024x3_S3072 = C at e ⊢
    pointwise
    rw [e, Routing.wrap_of_lt _ _ (by omega)]
    simp
  clear hH
  have e2 := fun d => feats_at H s r d
  generalize shapeCast S1024x3x256 H _ = G at e2 ⊢
  pointwise
  refine Finset.sum_congr rfl fun d _ => ?_
  rw [e2, hh]

end

section
variable (V0 : Valuation τ sig (Elt Ideal))

/-- What the precondition says of the arguments. -/
structure Good (x0 : Vec Ideal S2048x256 .f32) (x3 : Vec Ideal S65536x3 .f32) (x4 : Vec Ideal S1024x64x256 .f32) (x6 : Vec Ideal S1024 .i32) : Prop where
  idx : ∀ j, (x6 j).toNat < 2048
  sp : ∀ j, x0 j ≠ (⊤ : EReal) ∧ x0 j ≠ (⊥ : EReal)
  hb : ∀ j, x3 j ≠ (⊤ : EReal) ∧ x3 j ≠ (⊥ : EReal)
  pt : ∀ j, x4 j ≠ (⊤ : EReal) ∧ x4 j ≠ (⊥ : EReal)
  tie : ∀ (s : Fin 1024) (p : Fin 64) (a b o : Fin 3), (a, b, o) = (0, 1, 2) ∨ (a, b, o) = (0, 2, 1) ∨ (a, b, o) = (1, 2, 0) →
    x6 (ix1 ⟨near s.val a.val, near_lt _ _⟩) = x6 (ix1 ⟨near s.val b.val, near_lt _ _⟩)
    ∨ sim x0 x4 x6 idx s p ⟨near s.val a.val, near_lt _ _⟩ ≠ sim x0 x4 x6 idx s p ⟨near s.val b.val, near_lt _ _⟩
    ∨ sim x0 x4 x6 idx s p ⟨near s.val a.val, near_lt _ _⟩ < sim x0 x4 x6 idx s p ⟨near s.val o.val, near_lt _ _⟩

theorem good (x0 : Vec Ideal S2048x256 .f32) (x1 : Vec Ideal S2048x3 .f32) (x2 : Vec Ideal S65536x256 .f32) (x3 : Vec Ideal S65536x3 .f32) (x4 : Vec Ideal S1024x64x256 .f32) (x5 : Vec Ideal S1024x64x3 .f32) (x6 : Vec Ideal S1024 .i32)
    (e6 : V0 (Proc.devRef .tc ReferenceIdeal.main_arg6) = x6)
    (h : (fn (F := Ideal) x0 x1 x2 x3 x4 x5 x6).1 = (fun _ => 1#1) ∧ (fn (F := Ideal) x0 x1 x2 x3 x4 x5 x6).2.1 = (fun _ => 1#1)
      ∧ (fn (F := Ideal) x0 x1 x2 x3 x4 x5 x6).2.2.1 = (fun _ => 1#1) ∧ (fn (F := Ideal) x0 x1 x2 x3 x4 x5 x6).2.2.2.1 = (fun _ => 1#1)
      ∧ (fn (F := Ideal) x0 x1 x2 x3 x4 x5 x6).2.2.2.2.1 = (fun _ => 1#1) ∧ (fn (F := Ideal) x0 x1 x2 x3 x4 x5 x6).2.2.2.2.2.1 = (fun _ => 1#1)
      ∧ (fn (F := Ideal) x0 x1 x2 x3 x4 x5 x6).2.2.2.2.2.2 = (fun _ => 1#1)) : Good x0 x3 x4 x6 := by
  have hf : ∃ S v35 v37, fn (F := Ideal) x0 x1 x2 x3 x4 x5 x6 = fn_part2 (F := Ideal) x0 x3 x4 (res_main_v18 V0) S v35 v37
      ∧ v35 = cmpi .sge x6 (broadcastInDim S1024 ![] bcast_S_S1024 (constantI S_ 32 0#32))
      ∧ v37 = cmpi .slt x6 (broadcastInDim S1024 ![] bcast_S_S1024 (constantI S_ 32 2048#32))
      ∧ ∀ s p r (hb : (res_main_v18 V0 (ix2 s r)).toNat < 2048), S (ix3 s p r) = (∑ d : Fin 256, x4 (ix3 s p d) * x0 (ix2 ⟨(res_main_v18 V0 (ix2 s r)).toNat, hb⟩ d) : EReal) := by
    subst e6
    exact ⟨_, _, _, rfl, rfl, rfl, fun s p r hb => sims_at x0 x4 _ s p r hb⟩
  obtain ⟨S, v35, v37, hf, rfl, rfl, hS⟩ := hf
  rw [hf] at h
  obtain ⟨h1, h2, h3, h4, h5, h6, h7⟩ := h
  have hi : ∀ j, (x6 j).toNat < 2048 := fun j => by
    have := congrFun h1 j
    rw [part2_1] at this
    change IntOp.andi (IntOp.cmpi .sge (x6 j) (BitVec.ofNat 32 0)) (IntOp.cmpi .slt (x6 j) (BitVec.ofNat 32 2048)) = 1#1 at this
    rw [WordCmp.andi_sge_zero_slt_ofNat (by decide)] at this
    exact (WordCmp.ofBool_decide_eq_one_iff _).mp this
  have hB : ∀ s k, res_main_v18 V0 (ix2 s k) = x6 (ix1 ⟨near s.val k.val, near_lt _ _⟩) := fun s k => by
    rw [v18_at, e6]
  have hs : ∀ s p k, S (ix3 s p k) = sim x0 x4 x6 hi s p ⟨near s.val k.val, near_lt _ _⟩ := fun s p k => by
    rw [hS s p k (by rw [hB]; exact hi _)]
    unfold sim
    simp only [hB]
  refine ⟨hi, fun j => finite_iff _ ((part2_2 ..).symm.trans (congrFun h2 j)), fun j => finite_iff _ ((part2_4 ..).symm.trans (congrFun h4 j)),
    fun j => finite_iff _ ((part2_3 ..).symm.trans (congrFun h3 j)), fun s p a b o hab => ?_⟩
  have h8 : Apart (res_main_v18 V0) S s p a b o = 1#1 := by
    rcases hab with hab | hab | hab <;> cases hab
    · exact (part2_5 ..).symm.trans (congrFun h5 (ix2 s p))
    · exact (part2_6 ..).symm.trans (congrFun h6 (ix2 s p))
    · exact (part2_7 ..).symm.trans (congrFun h7 (ix2 s p))
  have := apart_iff _ _ _ _ _ _ _ h8
  rw [hB, hB, hs, hs, hs] at this
  exact this

end

end Cert.ReferenceIdeal.Value
-- ==== Proof.KernelIdeal.S6.lean ====
module

public import proofs.«01_k».proof.Proof.KernelIdeal.S3
public import proofs.«01_k».proof.Proof.KernelIdeal.S5
public import proofs.«01_k».proof.Proof.Reference.Pre

@[expose] public section
set_option maxRecDepth 16384
noncomputable section
namespace Cert.KernelIdeal.Own
open Cert.KernelIdeal.Gen
open Idealize.ShloMosaic Idealize.ShloMosaic.TcCoe Idealize.ShloMosaic.Tactic
open Idealize.ShloMosaic.Pipeline (Dat Cfg Window)
open Cert.ReferenceIdeal.Value (sim near near_lt Good)

/-- The kernel's choice reaches the greatest of the three. -/
theorem pick3_best (f : Fin 3 → EReal) : ∃ k : Fin 3, pick3 (f 0) (f 1) (f 2) = k.val ∧ ∀ k', f k' ≤ f k := by
  have key : ∀ k : Fin 3, f 0 ≤ f k → f 1 ≤ f k → f 2 ≤ f k → ∀ k', f k' ≤ f k := fun k h0 h1 h2 k' =>
    match k' with | ⟨0, _⟩ => h0 | ⟨1, _⟩ => h1 | ⟨2, _⟩ => h2
  unfold pick3
  by_cases h : f 1 ≤ f 0
  · simp only [if_pos h]
    by_cases h2 : f 0 < f 2
    · exact ⟨2, if_pos h2, key _ h2.le (h.trans h2.le) le_rfl⟩
    · exact ⟨0, if_neg h2, key _ le_rfl h (not_lt.mp h2)⟩
  · simp only [if_neg h]
    have h' := (not_le.mp h).le
    by_cases h2 : f 1 < f 2
    · exact ⟨2, if_pos h2, key _ (h'.trans h2.le) h2.le le_rfl⟩
    · exact ⟨1, if_neg h2, key _ h' le_rfl (not_lt.mp h2)⟩

/-- Two best candidates are one superpoint. -/
theorem same (f : Fin 3 → EReal) (x : Fin 3 → BitVec 32)
    (tie : ∀ a b o : Fin 3, (a, b, o) = (0, 1, 2) ∨ (a, b, o) = (0, 2, 1) ∨ (a, b, o) = (1, 2, 0) → x a = x b ∨ f a ≠ f b ∨ f a < f o)
    (a b : Fin 3) (ha : ∀ k, f k ≤ f a) (hb : ∀ k, f k ≤ f b) : x a = x b := by
  have e : f a = f b := le_antisymm (hb a) (ha b)
  have t : ∀ a b o : Fin 3, (a, b, o) = (0, 1, 2) ∨ (a, b, o) = (0, 2, 1) ∨ (a, b, o) = (1, 2, 0) → f a = f b → (∀ k, f k ≤ f a) → x a = x b :=
    fun a b o h e m => ((tie a b o h).resolve_right (fun h => h.elim (fun h => h e) (fun h => absurd h (not_lt.mpr (m o)))))
  match a, b with
  | ⟨0, _⟩, ⟨0, _⟩ => rfl
  | ⟨1, _⟩, ⟨1, _⟩ => rfl
  | ⟨2, _⟩, ⟨2, _⟩ => rfl
  | ⟨0, _⟩, ⟨1, _⟩ => exact t 0 1 2 (by decide) e ha
  | ⟨0, _⟩, ⟨2, _⟩ => exact t 0 2 1 (by decide) e ha
  | ⟨1, _⟩, ⟨2, _⟩ => exact t 1 2 0 (by decide) e ha
  | ⟨1, _⟩, ⟨0, _⟩ => exact (t 0 1 2 (by decide) e.symm hb).symm
  | ⟨2, _⟩, ⟨0, _⟩ => exact (t 0 2 1 (by decide) e.symm hb).symm
  | ⟨2, _⟩, ⟨1, _⟩ => exact (t 1 2 0 (by decide) e.symm hb).symm

theorem sim_real (x0 : Vec Ideal S2048x256 .f32) (x4 : Vec Ideal S1024x64x256 .f32) (x6 : Vec Ideal S1024 .i32) (hx : ∀ j, (x6 j).toNat < 2048)
    (h0 : ∀ j, x0 j ≠ (⊤ : EReal) ∧ x0 j ≠ (⊥ : EReal)) (h4 : ∀ j, x4 j ≠ (⊤ : EReal) ∧ x4 j ≠ (⊥ : EReal)) (s : Fin 1024) (p : Fin 64) (q : Fin 1024) :
    sim x0 x4 x6 hx s p q ≠ ⊤ ∧ sim x0 x4 x6 hx s p q ≠ ⊥ := by
  unfold sim
  have h : ∀ d, ∃ r : ℝ, (x4 (ix3 s p d) * x0 (ix2 ⟨(x6 (ix1 q)).toNat, hx _⟩ d) : EReal) = (r : EReal) := fun d =>
    ⟨(x4 (ix3 s p d) : EReal).toReal * (x0 (ix2 ⟨(x6 (ix1 q)).toNat, hx _⟩ d) : EReal).toReal, by
      rw [EReal.coe_mul, EReal.coe_toReal (h4 _).1 (h4 _).2, EReal.coe_toReal (h0 _).1 (h0 _).2]⟩
  choose r hr using h
  have e : (∑ d, (x4 (ix3 s p d) * x0 (ix2 ⟨(x6 (ix1 q)).toNat, hx _⟩ d) : EReal)) = ((∑ d, r d : ℝ) : EReal) := by
    simp only [hr]
    exact (map_sum (⟨⟨Real.toEReal, EReal.coe_zero⟩, EReal.coe_add⟩ : ℝ →+ EReal) r Finset.univ).symm
  rw [e]
  exact ⟨EReal.coe_ne_top _, EReal.coe_ne_bot _⟩

variable (m : (ℓ : Loc nD τ sig) → Buf (Elt Ideal) ℓ)

/-- The precondition of the launch memory's arguments. -/
abbrev GoodM : Prop := Good (m (((0 : Dev nD) : Thread nD τ).loc main_arg0)) (m (((0 : Dev nD) : Thread nD τ).loc main_arg3)) (m (((0 : Dev nD) : Thread nD τ).loc main_arg4)) (m (((0 : Dev nD) : Thread nD τ).loc main_arg6))

/-- The similarity of a point and a superpoint, of the launch memory. -/
abbrev simM (G : GoodM m) (s : Fin 1024) (p : Fin 64) (q : Fin 1024) : EReal :=
  sim (m (((0 : Dev nD) : Thread nD τ).loc main_arg0)) (m (((0 : Dev nD) : Thread nD τ).loc main_arg4)) (m (((0 : Dev nD) : Thread nD τ).loc main_arg6)) G.idx s p q

theorem grow_eq (G : GoodM m) (hO : Ok m) (t : Fin grid0.N) (q : Fin 34) (k : Fin 256) :
    grow (inAt m hO 0 t) q (ix3 0 0 k) = m (((0 : Dev nD) : Thread nD τ).loc main_arg0)
      (ix2 ⟨(m (((0 : Dev nD) : Thread nD τ).loc main_arg6) (ix1 ⟨pos t.val q.val, pos_lt _ _⟩)).toNat, G.idx _⟩ k) := by
  rw [grow_at m hO 0 t q k (by rw [tbl_at m 0]; exact G.idx _), V_v1, shape_v1]
  rfl

theorem v86_sim (G : GoodM m) (hO : Ok m) (t : Fin 32) (p : Fin 2048) (k : Fin 3) (s : Fin 1024) (hs : s.val = 32 * t.val + p.val / 64) :
    v86 (inAt m hO 0 t) (ix2 ⟨p.val / 64 + k.val, by omega⟩ p) = simM m G s ⟨p.val % 64, by omega⟩ ⟨near s.val k.val, near_lt _ _⟩ := by
  rw [v86_at]
  · unfold simM sim
    refine Finset.sum_congr rfl fun d _ => ?_
    have e1 := grow_eq m G hO t ⟨p.val / 64 + k.val, by omega⟩ d
    have e2 := x0_at m hO 0 t ⟨p.val / 64, by omega⟩ ⟨p.val % 64, by omega⟩ d
    have e3 : pos t.val (p.val / 64 + k.val) = near s.val k.val := by unfold pos near; omega
    have e4 : (⟨32 * t.val + p.val / 64, by omega⟩ : Fin 1024) = s := Fin.ext hs.symm
    simp only [e3] at e1
    rw [e1, e2, mul_comm]
    refine congrArg₂ (fun a b : EReal => a * b) (congrArg _ (congrArg₂ (fun a b => ix3 a b d) e4 rfl)) rfl
  · intro j
    obtain ⟨a, b, d, rfl⟩ : ∃ a b d, j = ix3 a b d := ⟨j 0, j 1, j 2, funext fun x => match x with | ⟨0, _⟩ => rfl | ⟨1, _⟩ => rfl | ⟨2, _⟩ => rfl⟩
    have e := x0_at m hO 0 t a b d
    exact ⟨fun h => (G.pt _).1 (e.symm.trans h), fun h => (G.pt _).2 (e.symm.trans h)⟩
  · intro q j
    obtain ⟨d, rfl⟩ : ∃ d, j = ix3 0 0 d := ⟨j 2, funext fun x => match x with | ⟨0, _⟩ => Subsingleton.elim (α := Fin 1) _ _ | ⟨1, _⟩ => Subsingleton.elim (α := Fin 1) _ _ | ⟨2, _⟩ => rfl⟩
    have e := grow_eq m G hO t q d
    exact ⟨fun h => (G.sp _).1 (e.symm.trans h), fun h => (G.sp _).2 (e.symm.trans h)⟩

/-- The chosen candidate of a point is of greatest similarity. -/
theorem win_best (G : GoodM m) (hO : Ok m) (t : Fin 32) (p : Fin 2048) (s : Fin 1024) (hs : s.val = 32 * t.val + p.val / 64) :
    ∃ k : Fin 3, win (inAt m hO 0 t) p = k.val ∧ ∀ k' : Fin 3, simM m G s ⟨p.val % 64, by omega⟩ ⟨near s.val k'.val, near_lt _ _⟩ ≤ simM m G s ⟨p.val % 64, by omega⟩ ⟨near s.val k.val, near_lt _ _⟩ := by
  obtain ⟨k, hk, hb⟩ := pick3_best (fun k => simM m G s ⟨p.val % 64, by omega⟩ ⟨near s.val k.val, near_lt _ _⟩)
  refine ⟨k, ?_, hb⟩
  rw [← hk]
  unfold win
  have h0 := v86_sim m G hO t p 0 s hs
  have h1 := v86_sim m G hO t p 1 s hs
  have h2 := v86_sim m G hO t p 2 s hs
  exact congr (congrArg₂ pick3 h0 h1) h2

/-- The first result of the pipelined call, at point `p` of block `t`. -/
theorem fin37_eq (G : GoodM m) (hO : Ok m) (t : Fin 32) (p : Fin 2048) (s : Fin 1024) (hs : s.val = 32 * t.val + p.val / 64) (k : Fin 3)
    (hk : ∀ k' : Fin 3, simM m G s ⟨p.val % 64, by omega⟩ ⟨near s.val k'.val, near_lt _ _⟩ ≤ simM m G s ⟨p.val % 64, by omega⟩ ⟨near s.val k.val, near_lt _ _⟩) :
    fin37 m hO 0 (ix3 t 0 p) = m (((0 : Dev nD) : Thread nD τ).loc main_arg6) (ix1 ⟨near s.val k.val, near_lt _ _⟩) := by
  obtain ⟨w, hw, hb⟩ := win_best m G hO t p s hs
  have e3 : pos t.val (p.val / 64 + win (inAt m hO 0 t) p) = near s.val w.val := by rw [hw]; unfold pos near; omega
  refine (fin37_at m hO 0 t p).trans ((out37_at (inAt m hO 0 t) p).trans ((idw_at m hO 0 t _).trans (Eq.trans (congrArg (m (((0 : Dev nD) : Thread nD τ).loc main_arg6)) (congrArg ix1 (Fin.ext e3 : (⟨pos t.val (p.val / 64 + win (inAt m hO 0 t) p), pos_lt _ _⟩ : Fin 1024) = ⟨near s.val w.val, near_lt _ _⟩))) ?_)))
  exact same (fun k => simM m G s ⟨p.val % 64, by omega⟩ ⟨near s.val k.val, near_lt _ _⟩)
    (fun k => m (((0 : Dev nD) : Thread nD τ).loc main_arg6) (ix1 ⟨near s.val k.val, near_lt _ _⟩)) (G.tie s ⟨p.val % 64, by omega⟩) w k hb hk

end Cert.KernelIdeal.Own
-- ==== Proof.KernelIdeal.S7.lean ====
module

public import proofs.«01_k».proof.Proof.KernelIdeal.Run
public import Idealize.ShloMosaic.Lib.Pointwise
public import Idealize.ShloMosaic.Lib.Pipeline.ValueKit
public import Idealize.ShloMosaic.Lib.Pipeline.Covers
public import Idealize.ShloMosaic.Lib.Routing.OpsSet

@[expose] public section
set_option maxRecDepth 16384
noncomputable section
namespace Cert.KernelIdeal.Own
open Cert.KernelIdeal.Gen
open Idealize.ShloMosaic Idealize.ShloMosaic.TcCoe Idealize.ShloMosaic.Tactic
open Idealize.ShloMosaic.Pipeline (Dat Cfg Window)

/-- The second call's payload: the partial sums of the rows that name a superpoint, the Hilbert sums over the counts. -/
theorem pay1_at (i : grid1.Coords) (v : Vec Ideal S3072x5 .f32) (hv : ∀ j, v j ≠ (⊤ : EReal) ∧ v j ≠ (⊥ : EReal)) (a : Fin 128) (j : Fin 3) :
    k1_pay1 i v (ix2 a j) = Ideal.div
      (∑ r : Fin 3072, (if (v (ix2 r 0) : EReal) = (((128 * (i 0).val + a.val : ℕ) : ℝ) : EReal) then (1 : EReal) else 0) * v (ix2 r ⟨j.val + 2, by omega⟩))
      (max (∑ r : Fin 3072, (if (v (ix2 r 0) : EReal) = (((128 * (i 0).val + a.val : ℕ) : ℝ) : EReal) then (1 : EReal) else 0) * v (ix2 r 1)) 1) := by
  unfold k1_pay1
  pointwise
  have h0 : (i 0).val < 16 := (i 0).isLt
  have hw : IntOp.addi (Scalar.muli (BitVec.ofNat 32 (i 0).val) 128#32) (BitVec.ofNat 32 a.val) = BitVec.ofNat 32 (128 * (i 0).val + a.val) := by
    show BitVec.ofNat 32 (i 0).val * BitVec.ofNat 32 128 + BitVec.ofNat 32 a.val = _
    rw [← BitVec.ofNat_mul, ← BitVec.ofNat_add, mul_comm]
  have he : (FloatOps.sitofp (F := Ideal) FTy.f32 (BitVec.ofNat 32 (128 * (i 0).val + a.val)) : EReal) = (((128 * (i 0).val + a.val : ℕ) : ℝ) : EReal) := by
    show (((BitVec.ofNat 32 (128 * (i 0).val + a.val)).toInt : ℝ) : EReal) = _
    rw [StableHlo.Predicate.toInt_ofNat_small _ (by omega)]
    simp
  have hm : ∀ (P : Prop) [Decidable P], (FloatOps.sitofp (F := Ideal) FTy.f32 (BitVec.setWidth 32 (BitVec.ofBool (decide P))) : EReal) = if P then (1 : EReal) else 0 := by
    intro P _
    by_cases h : P
    · rw [if_pos h, decide_eq_true h]
      show (((1#32 : BitVec 32).toInt : ℝ) : EReal) = 1
      norm_num
    · rw [if_neg h, decide_eq_false h]
      show (((0#32 : BitVec 32).toInt : ℝ) : EReal) = 0
      norm_num
  have hs : ∀ x, (v x : EReal) - v x = 0 := fun x => EReal.sub_self (hv x).1 (hv x).2
  have hj : (⟨1 + (1 + j.val), by omega⟩ : Fin 5) = ⟨j.val + 2, by omega⟩ := Fin.ext (by simp; omega)
  simp only [hw, he, hm, hs, hj, mul_zero, Finset.sum_const_zero, add_zero]

/-- A sum over blocks and places in the block. -/
theorem sum_split {M : Type*} [AddCommMonoid M] (a b n : ℕ) (h : a * b = n) (hb : 0 < b) (f : Fin a → Fin b → M) :
    ∑ r : Fin n, f ⟨r.val / b, Nat.div_lt_of_lt_mul (by rw [mul_comm, h]; exact r.isLt)⟩ ⟨r.val % b, Nat.mod_lt _ hb⟩ = ∑ x : Fin a, ∑ y : Fin b, f x y := by
  subst h
  rw [← Fintype.sum_prod_type' f]
  exact Equiv.sum_comp finProdFinEquiv.symm (fun x : Fin a × Fin b => f x.1 x.2)

/-- The rows' partial sums, gathered by the superpoint a row names, are sums over the points by the superpoint each is assigned. -/
theorem regroup (id : Fin 32 → Fin 96 → EReal) (cell : Fin 32 → Fin 2048 → Fin 96) (val : Fin 32 → Fin 2048 → EReal) (N : EReal) :
    ∑ r : Fin 3072, (if id ⟨r.val / 96, by omega⟩ ⟨r.val % 96, by omega⟩ = N then (1 : EReal) else 0)
        * ∑ p : Fin 2048, (if r.val % 96 = (cell ⟨r.val / 96, by omega⟩ p).val then (1 : EReal) else 0) * val ⟨r.val / 96, by omega⟩ p
      = ∑ n : Fin 65536, if id ⟨n.val / 2048, by omega⟩ (cell ⟨n.val / 2048, by omega⟩ ⟨n.val % 2048, by omega⟩) = N then val ⟨n.val / 2048, by omega⟩ ⟨n.val % 2048, by omega⟩ else 0 := by
  refine (sum_split 32 96 3072 rfl (by decide) (fun b q => (if id b q = N then (1 : EReal) else 0) * ∑ p : Fin 2048, (if q.val = (cell b p).val then (1 : EReal) else 0) * val b p)).trans ?_
  refine Eq.trans ?_ (sum_split 32 2048 65536 rfl (by decide) (fun b p => if id b (cell b p) = N then val b p else 0)).symm
  refine Finset.sum_congr rfl fun b _ => ?_
  have h : ∀ q : Fin 96, (if id b q = N then (1 : EReal) else 0) * ∑ p : Fin 2048, (if q.val = (cell b p).val then (1 : EReal) else 0) * val b p
      = ∑ p : Fin 2048, if q = cell b p then (if id b (cell b p) = N then val b p else 0) else 0 := by
    intro q
    by_cases hq : id b q = N
    · rw [if_pos hq, one_mul]
      refine Finset.sum_congr rfl fun p _ => ?_
      by_cases hp : q = cell b p
      · rw [if_pos hp, if_pos (congrArg Fin.val hp), one_mul, if_pos (hp ▸ hq)]
      · rw [if_neg hp, if_neg (fun e => hp (Fin.ext e)), zero_mul]
    · rw [if_neg hq, zero_mul]
      refine (Finset.sum_eq_zero fun p _ => ?_).symm
      by_cases hp : q = cell b p
      · rw [if_pos hp, if_neg (fun e => hq (hp ▸ e))]
      · rw [if_neg hp]
  simp only [h]
  rw [Finset.sum_comm]
  refine Finset.sum_congr rfl fun p _ => ?_
  rw [Finset.sum_ite_eq' Finset.univ (cell b p), if_pos (Finset.mem_univ _)]

end Cert.KernelIdeal.Own
-- ==== Proof.KernelIdeal.S8.lean ====
module

public import proofs.«01_k».proof.Proof.KernelIdeal.S6
public import proofs.«01_k».proof.Proof.KernelIdeal.S7

@[expose] public section
set_option maxRecDepth 16384
noncomputable section
namespace Cert.KernelIdeal.Own
open Cert.KernelIdeal.Gen
open Idealize.ShloMosaic Idealize.ShloMosaic.TcCoe Idealize.ShloMosaic.Tactic
open Idealize.ShloMosaic.Pipeline (Dat Cfg Window)
open Cert.ReferenceIdeal.Value (sim near near_lt Good)

variable (m : (ℓ : Loc nD τ sig) → Buf (Elt Ideal) ℓ)

/-! ## The results, of the calls' arrays -/

theorem V5_5 (hO : Ok m) (c : Dev nD) : V5 m (outsOwn m hO) c main_v5 = shapeCast S65536 (fin37 m hO c) shapeCasts_S32x1x2048_S65536 := by
  have h : V4 m (outsOwn m hO) c main_v2_0 = fin37 m hO c := by
    rw [V4_of m _ c main_v2_0 (by decide), V3_own]
    exact (StableHlo.after_of_writes_sub hostOps1 _ hostOps1_writes (by decide)).trans (V2own_0 m hO c)
  rw [← h]
  unfold V5
  generalize V4 m (outsOwn m hO) c = W
  entry_read
  rfl

theorem V5_4 (hO : Ok m) (c : Dev nD) : V5 m (outsOwn m hO) c main_v4 = fin1 m hO c := by
  rw [V5_of m _ c main_v4 (by decide), V4_own, V4own_4]

theorem V5_2 (hO : Ok m) (c : Dev nD) : V5 m (outsOwn m hO) c main_v2_2 = fin39 m hO c := by
  rw [V5_of m _ c main_v2_2 (by decide), V4_of m _ c main_v2_2 (by decide), V3_own]
  exact (StableHlo.after_of_writes_sub hostOps1 _ hostOps1_writes (by decide)).trans (V2own_2 m hO c)

theorem V5_3 (hO : Ok m) (c : Dev nD) : V5 m (outsOwn m hO) c main_v2_3 = fin40 m hO c := by
  rw [V5_of m _ c main_v2_3 (by decide), V4_of m _ c main_v2_3 (by decide), V3_own]
  exact (StableHlo.after_of_writes_sub hostOps1 _ hostOps1_writes (by decide)).trans (V2own_3 m hO c)

theorem W3_3 (hO : Ok m) (c : Dev nD) : W3 m hO c main_v3 = shapeCast S3072x5 (fin38 m hO c) shapeCasts_S32x96x5_S3072x5 := by
  rw [← V2own_1 m hO c]
  unfold W3
  generalize V2own m hO c = W
  entry_read
  rfl

theorem flat37 (A : Vec Ideal S32x1x2048 .i32) (i : Fin 65536) :
    shapeCast S65536 A shapeCasts_S32x1x2048_S65536 (ix1 i) = A (ix3 ⟨i.val / 2048, by omega⟩ 0 ⟨i.val % 2048, by omega⟩) := by
  pointwise
  blk_ext []

theorem flat38 (A : Vec Ideal S32x96x5 .f32) (r : Fin 3072) (j : Fin 5) :
    shapeCast S3072x5 A shapeCasts_S32x96x5_S3072x5 (ix2 r j) = A (ix3 ⟨r.val / 96, by omega⟩ ⟨r.val % 96, by omega⟩ j) := by
  pointwise
  blk_ext []

/-! ## The second call's array -/

theorem index1_0 (t : Fin cfg1.N) : (cfg1.win 0).index t = (![0, 0] : Fin 2 → ℕ) :=
  (by decide +kernel : ∀ t : Fin cfg1.N, (cfg1.win 0).index t = ![0, 0]) t

theorem index1_1 (t : Fin cfg1.N) : (cfg1.win 1).index t = (![t.val, 0] : Fin 2 → ℕ) :=
  (by decide +kernel : ∀ t : Fin cfg1.N, (cfg1.win 1).index t = ![t.val, 0]) t

theorem coords1 (t : Fin cfg1.N) : (grid1.coords t 0).val = t.val :=
  (by decide +kernel : ∀ t : Fin cfg1.N, (grid1.coords t 0).val = t.val) t

theorem blk1_at (hO : Ok m) (c : Dev nD) (t : Fin cfg1.N) (r : Fin 3072) (j : Fin 5) :
    Call1.iblk (W3 m hO) c 0 t (ix2 r j) = fin38 m hO c (ix3 ⟨r.val / 96, by omega⟩ ⟨r.val % 96, by omega⟩ j) := by
  have h : Call1.iblk (W3 m hO) c 0 t (ix2 r j) = W3 m hO c main_v3 (ix2 r j) := by
    have e := index1_0 t
    blk_ext [Call1.iblk]
    · exact (congrArg (· * 3072 + r.val) (congrFun e 0)).trans (by simp)
    · exact (congrArg (· * 5 + j.val) (congrFun e 1)).trans (by simp)
  rw [h, W3_3, flat38]

theorem out1_at (i : grid1.Coords) (x : Vec Ideal S3072x5 .f32) : Call1.out1_1 i x = k1_pay1 i x := by
  unfold Call1.out1_1
  rw [View.canon_unit_zero (by funext a; fin_cases a <;> rfl), View.ld_unit_zero (by funext a; fin_cases a <;> rfl)]

theorem fin1_at (hO : Ok m) (c : Dev nD) (i : Fin 2048) (j : Fin 3) :
    fin1 m hO c (ix2 i j) = k1_pay1 (grid1.coords (⟨i.val / 128, by omega⟩ : Fin 16)) (Call1.iblk (W3 m hO) c 0 (⟨i.val / 128, by omega⟩ : Fin 16)) (ix2 ⟨i.val % 128, by omega⟩ j) := by
  have h : fin1 m hO c = fun x : S2048x3.Idx => k1_pay1 (grid1.coords (⟨(x 0).val / 128, Nat.div_lt_of_lt_mul (x 0).isLt⟩ : Fin 16)) (Call1.iblk (W3 m hO) c 0 (⟨(x 0).val / 128, Nat.div_lt_of_lt_mul (x 0).isLt⟩ : Fin 16)) (ix2 ⟨(x 0).val % 128, Nat.mod_lt _ (by decide)⟩ (x 1)) := by
    unfold fin1
    refine (Call1.dat1 (W3 m hO) c).arrAt_eq_of_covers 1 _ (by decide +kernel) (fun t hf y => ?_)
    rw [Call1.after1_1, out1_at]
    have e := index1_1 t
    have y0 : (y (0 : Fin 2)).val < 128 := (y (0 : Fin 2)).isLt
    have e0 : (((cfg1.win 1).blk t).view.emb y (0 : Fin 2)).val = t.val * 128 + 1 * (y (0 : Fin 2)).val := congrArg (fun n => n * 128 + 1 * (y (0 : Fin 2)).val) (congrFun e (0 : Fin 2))
    refine (cast_eq _ _).trans (congrArg₂ (fun (b : Fin 16) (j : S128x3.Idx) => k1_pay1 (grid1.coords b) (Call1.iblk (W3 m hO) c 0 b) j) (Fin.ext ?_) (funext fun a => Fin.ext ?_))
    · exact (by omega : ∀ n, n = t.val * 128 + 1 * (y (0 : Fin 2)).val → t.val = n / 128) _ e0
    · match a with
      | ⟨0, _⟩ => exact (by omega : ∀ n, n = t.val * 128 + 1 * (y (0 : Fin 2)).val → (y (0 : Fin 2)).val = n % 128) _ e0
      | ⟨1, _⟩ => exact ((congrArg (fun n => n * 3 + 1 * (y (1 : Fin 2)).val) (congrFun e (1 : Fin 2))).trans (by simp)).symm
  exact congrFun h _

end Cert.KernelIdeal.Own
-- ==== Proof.KernelIdeal.S9.lean ====
module

public import proofs.«01_k».proof.Proof.KernelIdeal.S8

@[expose] public section
set_option maxRecDepth 16384
noncomputable section
namespace Cert.KernelIdeal.Own
open Cert.KernelIdeal.Gen
open Idealize.ShloMosaic Idealize.ShloMosaic.TcCoe Idealize.ShloMosaic.Tactic
open Cert.ReferenceIdeal.Value (sim near near_lt Good)

theorem sum_real {n : ℕ} (f : Fin n → EReal) (h : ∀ x, f x ≠ ⊤ ∧ f x ≠ ⊥) : ∑ x, f x ≠ ⊤ ∧ ∑ x, f x ≠ ⊥ := by
  have h' : ∀ x, ∃ r : ℝ, f x = (r : EReal) := fun x => ⟨(f x).toReal, (EReal.coe_toReal (h x).1 (h x).2).symm⟩
  choose r hr using h'
  have e : ∑ x, f x = ((∑ x, r x : ℝ) : EReal) := by
    simp only [hr]
    exact (map_sum (⟨⟨Real.toEReal, EReal.coe_zero⟩, EReal.coe_add⟩ : ℝ →+ EReal) r Finset.univ).symm
  rw [e]
  exact ⟨EReal.coe_ne_top _, EReal.coe_ne_bot _⟩

section
variable {c : Dev nD}

/-- What a point adds to a column of the row it is counted in: one, and its Hilbert coordinates. -/
def val (I : In Ideal c) (k : Fin 4) (p : Fin 2048) : EReal :=
  if h : k.val < 1 then (1 : EReal) else I.x1 (ix3 ⟨p.val / 64, by omega⟩ ⟨p.val % 64, by omega⟩ ⟨k.val - 1, by omega⟩)

/-- The row a point is counted in. -/
def cell (I : In Ideal c) (p : Fin 2048) : Fin 96 :=
  ⟨3 * (p.val / 64) + win I p, by have hw : win I p < 3 := pick3_lt _ _ _; omega⟩

/-- The superpoint a row names. -/
def rowId (I : In Ideal c) (q : Fin 96) : EReal := (((idw I ⟨q.val / 3 + q.val % 3, by omega⟩).toInt : ℝ) : EReal)

theorem val_real (I : In Ideal c) (hh : ∀ j, (I.x1 j : EReal) ≠ ⊤ ∧ (I.x1 j : EReal) ≠ ⊥) (k : Fin 4) (p : Fin 2048) : val I k p ≠ ⊤ ∧ val I k p ≠ ⊥ := by
  unfold val
  by_cases h : k.val < 1
  · rw [dif_pos h]; exact ⟨EReal.coe_ne_top 1, EReal.coe_ne_bot 1⟩
  · rw [dif_neg h]; exact hh _

theorem row_0 (I : In Ideal c) (q : Fin 96) : out38 I (ix3 0 q 0) = rowId I q := by
  rw [out38_at]
  exact dif_pos (by decide)

theorem row_succ (I : In Ideal c) (hh : ∀ j, (I.x1 j : EReal) ≠ ⊤ ∧ (I.x1 j : EReal) ≠ ⊥) (q : Fin 96) (k : Fin 4) :
    out38 I (ix3 0 q ⟨k.val + 1, by omega⟩) = ∑ p : Fin 2048, (if q.val = (cell I p).val then (1 : EReal) else 0) * val I k p := by
  rw [out38_at]
  refine (dif_neg (by simp)).trans ?_
  exact v1153_at I hh q k

theorem rowId_cell (I : In Ideal c) (p : Fin 2048) : rowId I (cell I p) = (((out37 I (ix3 0 0 p)).toInt : ℝ) : EReal) := by
  have hw : win I p < 3 := pick3_lt _ _ _
  rw [out37_at]
  unfold rowId cell
  refine congrArg (fun z : Fin 34 => (((idw I z).toInt : ℝ) : EReal)) (Fin.ext ?_)
  show (3 * (p.val / 64) + win I p) / 3 + (3 * (p.val / 64) + win I p) % 3 = p.val / 64 + win I p
  omega

end

variable (m : (ℓ : Loc nD τ sig) → Buf (Elt Ideal) ℓ)

/-- What the first call reads at a grid point. -/
def inp (hO : Ok m) (t : Fin 32) : In Ideal (0 : Dev nD) := inAt m hO 0 t

theorem x1_inp (hO : Ok m) (t : Fin 32) (a : Fin 32) (b : Fin 64) (k : Fin 3) :
    (inp m hO t).x1 (ix3 a b k) = m (((0 : Dev nD) : Thread nD τ).loc main_arg3) (ix2 ⟨64 * (32 * t.val + a.val) + b.val, by omega⟩ k) :=
  x1_at m hO 0 t a b k

theorem fin37_inp (hO : Ok m) (b : Fin 32) (p : Fin 2048) : fin37 m hO 0 (ix3 b 0 p) = out37 (inp m hO b) (ix3 0 0 p) :=
  fin37_at m hO 0 b p

theorem fin38_inp (hO : Ok m) (b : Fin 32) (r : Fin 96) (j : Fin 5) : fin38 m hO 0 (ix3 b r j) = out38 (inp m hO b) (ix3 0 r j) :=
  fin38_at m hO 0 b r j

theorem x1_real (G : GoodM m) (hO : Ok m) (t : Fin 32) (j) : ((inp m hO t).x1 j : EReal) ≠ ⊤ ∧ ((inp m hO t).x1 j : EReal) ≠ ⊥ := by
  obtain ⟨a, b, d, rfl⟩ : ∃ a b d, j = ix3 a b d := ⟨j 0, j 1, j 2, funext fun x => match x with | ⟨0, _⟩ => rfl | ⟨1, _⟩ => rfl | ⟨2, _⟩ => rfl⟩
  have e := x1_inp m hO t a b d
  exact ⟨fun h => (G.hb _).1 (e.symm.trans h), fun h => (G.hb _).2 (e.symm.trans h)⟩

theorem blk_row0 (hO : Ok m) (t : Fin cfg1.N) (r : Fin 3072) :
    Call1.iblk (W3 m hO) 0 0 t (ix2 r 0) = rowId (inp m hO (⟨r.val / 96, by omega⟩ : Fin 32)) ⟨r.val % 96, by omega⟩ :=
  (blk1_at m hO 0 t r 0).trans ((fin38_inp m hO _ _ _).trans (row_0 _ _))

theorem blk_row (G : GoodM m) (hO : Ok m) (t : Fin cfg1.N) (r : Fin 3072) (k : Fin 4) :
    Call1.iblk (W3 m hO) 0 0 t (ix2 r ⟨k.val + 1, by omega⟩) = ∑ p : Fin 2048, (if r.val % 96 = (cell (inp m hO (⟨r.val / 96, by omega⟩ : Fin 32)) p).val then (1 : EReal) else 0)
      * val (inp m hO (⟨r.val / 96, by omega⟩ : Fin 32)) k p :=
  (blk1_at m hO 0 t r ⟨k.val + 1, by omega⟩).trans ((fin38_inp m hO _ _ _).trans (row_succ _ (x1_real m G hO _) _ k))

theorem blk_real (G : GoodM m) (hO : Ok m) (t : Fin cfg1.N) (x : S3072x5.Idx) :
    Call1.iblk (W3 m hO) 0 0 t x ≠ (⊤ : EReal) ∧ Call1.iblk (W3 m hO) 0 0 t x ≠ (⊥ : EReal) := by
  obtain ⟨r, k, rfl⟩ : ∃ r k, x = ix2 r k := ⟨x 0, x 1, funext fun y => match y with | ⟨0, _⟩ => rfl | ⟨1, _⟩ => rfl⟩
  by_cases hk : k.val = 0
  · obtain rfl : k = 0 := Fin.ext hk
    have e := blk_row0 m hO t r
    exact ⟨fun h => EReal.coe_ne_top _ (e.symm.trans h), fun h => EReal.coe_ne_bot _ (e.symm.trans h)⟩
  · obtain ⟨k, rfl⟩ : ∃ k' : Fin 4, k = ⟨k'.val + 1, by omega⟩ := ⟨⟨k.val - 1, by omega⟩, Fin.ext (by simp; omega)⟩
    have e := blk_row m G hO t r k
    have s := sum_real (fun p : Fin 2048 => (if r.val % 96 = (cell (inp m hO (⟨r.val / 96, by omega⟩ : Fin 32)) p).val then (1 : EReal) else 0)
      * val (inp m hO (⟨r.val / 96, by omega⟩ : Fin 32)) k p) (fun p => by
        by_cases h : r.val % 96 = (cell (inp m hO (⟨r.val / 96, by omega⟩ : Fin 32)) p).val
        · simp only [if_pos h, one_mul]; exact val_real _ (x1_real m G hO _) _ _
        · simp only [if_neg h, zero_mul]; exact ⟨EReal.coe_ne_top 0, EReal.coe_ne_bot 0⟩)
    exact ⟨fun h => s.1 (e.symm.trans h), fun h => s.2 (e.symm.trans h)⟩

/-- The superpoint the first call assigns to a point. -/
abbrev asg (hO : Ok m) (n : Fin 65536) : BitVec 32 := fin37 m hO 0 (ix3 (⟨n.val / 2048, by omega⟩ : Fin 32) 0 ⟨n.val % 2048, by omega⟩)

theorem col_sum (G : GoodM m) (hO : Ok m) (t : Fin cfg1.N) (k : Fin 4) (i : ℕ) :
    ∑ r : Fin 3072, (if (Call1.iblk (W3 m hO) 0 0 t (ix2 r 0) : EReal) = ((i : ℝ) : EReal) then (1 : EReal) else 0) * Call1.iblk (W3 m hO) 0 0 t (ix2 r ⟨k.val + 1, by omega⟩)
      = ∑ n : Fin 65536, if (asg m hO n).toInt = (i : ℤ) then val (inp m hO (⟨n.val / 2048, by omega⟩ : Fin 32)) k ⟨n.val % 2048, by omega⟩ else 0 := by
  have h1 : ∀ r : Fin 3072, (if (Call1.iblk (W3 m hO) 0 0 t (ix2 r 0) : EReal) = ((i : ℝ) : EReal) then (1 : EReal) else 0) * Call1.iblk (W3 m hO) 0 0 t (ix2 r ⟨k.val + 1, by omega⟩)
      = (if rowId (inp m hO (⟨r.val / 96, by omega⟩ : Fin 32)) ⟨r.val % 96, by omega⟩ = ((i : ℝ) : EReal) then (1 : EReal) else 0)
        * ∑ p : Fin 2048, (if r.val % 96 = (cell (inp m hO (⟨r.val / 96, by omega⟩ : Fin 32)) p).val then (1 : EReal) else 0)
          * val (inp m hO (⟨r.val / 96, by omega⟩ : Fin 32)) k p := fun r =>
    congrArg₂ (fun a b : EReal => (if a = ((i : ℝ) : EReal) then (1 : EReal) else 0) * b) (blk_row0 m hO t r) (blk_row m G hO t r k)
  refine (Finset.sum_congr rfl fun r _ => h1 r).trans ?_
  refine (regroup (fun b => rowId (inp m hO b)) (fun b => cell (inp m hO b)) (fun b => val (inp m hO b) k) _).trans ?_
  refine Finset.sum_congr rfl fun n _ => ?_
  have e : rowId (inp m hO (⟨n.val / 2048, by omega⟩ : Fin 32)) (cell (inp m hO (⟨n.val / 2048, by omega⟩ : Fin 32)) ⟨n.val % 2048, by omega⟩) = (((asg m hO n).toInt : ℝ) : EReal) :=
    (rowId_cell _ _).trans (congrArg (fun z : BitVec 32 => ((z.toInt : ℝ) : EReal)) (fin37_inp m hO _ _).symm)
  have e' : rowId (inp m hO (⟨n.val / 2048, by omega⟩ : Fin 32)) (cell (inp m hO (⟨n.val / 2048, by omega⟩ : Fin 32)) ⟨n.val % 2048, by omega⟩) = ((i : ℝ) : EReal) ↔ (asg m hO n).toInt = (i : ℤ) := by
    rw [e, EReal.coe_eq_coe_iff]
    constructor
    · intro h; exact_mod_cast h
    · intro h; exact_mod_cast h
  exact if_congr e' rfl rfl

/-- The third result: the mean of the Hilbert coordinates of the points assigned to a superpoint. -/
theorem fin1_eq (G : GoodM m) (hO : Ok m) (i : Fin 2048) (j : Fin 3) :
    fin1 m hO 0 (ix2 i j) = Ideal.div
      (∑ n : Fin 65536, if (asg m hO n).toInt = (i.val : ℤ) then (m (((0 : Dev nD) : Thread nD τ).loc main_arg3) (ix2 n j) : EReal) else 0)
      (max (∑ n : Fin 65536, if (asg m hO n).toInt = (i.val : ℤ) then (1 : EReal) else 0) 1) := by
  have ht := coords1 (⟨i.val / 128, by omega⟩ : Fin 16)
  have hN : 128 * (grid1.coords (⟨i.val / 128, by omega⟩ : Fin 16) 0).val + i.val % 128 = i.val := by
    rw [ht]
    show 128 * (i.val / 128) + i.val % 128 = i.val
    omega
  refine (fin1_at m hO 0 i j).trans ((pay1_at _ _ (blk_real m G hO _) ⟨i.val % 128, by omega⟩ j).trans ?_)
  simp only [hN]
  refine congrArg₂ (fun a b : EReal => Ideal.div a (max b 1)) ((col_sum m G hO _ ⟨j.val + 1, by omega⟩ i.val).trans ?_) ((col_sum m G hO _ 0 i.val).trans ?_)
  · refine Finset.sum_congr rfl fun n _ => if_congr Iff.rfl ?_ rfl
    unfold val
    refine (dif_neg (by simp)).trans ((x1_inp m hO _ _ _ _).trans (congrArg _ (congrArg₂ ix2 (Fin.ext ?_) rfl)))
    show 64 * (32 * (n.val / 2048) + n.val % 2048 / 64) + n.val % 2048 % 64 = n.val
    omega
  · exact Finset.sum_congr rfl fun n _ => if_congr Iff.rfl (dif_pos (by decide)) rfl

end Cert.KernelIdeal.Own
-- ==== Proof.Reference.V2.lean ====
module

public import proofs.«01_k».proof.Proof.Reference.Run
public import Idealize.ShloMosaic.Lib.Pointwise
public import Idealize.ShloMosaic.Lib.Routing.OpsSet
public import Idealize.ShloMosaic.Lib.SortFacts
public import Idealize.ShloMosaic.Lib.Pipeline.ValueKit
public import Idealize.ShloMosaic.Lib.Tactic.CleanTypes

@[expose] public section

set_option maxRecDepth 16384

noncomputable section

namespace Cert.ReferenceIdeal.Value

open Cert.ReferenceIdeal.Gen
open Idealize.ShloMosaic Idealize.ShloMosaic.TcCoe Idealize.ShloMosaic.Tactic

/-- The softmax over the three candidates. -/
def soft (A : FVec Ideal S1024x64x3 .f32) : FVec Ideal S1024x64x3 .f32 :=
  let e : FVec Ideal S1024x64x3 .f32 := Host.exp (subf A (broadcastInDim S1024x64x3 ![0, 1, 2] bcast_S1024x64x1_S1024x64x3_0_1_2 (broadcastInDim S1024x64x1 ![0, 1] bcast_S1024x64_S1024x64x1_0_1 (maximumf (broadcastInDim S1024x64 ![] bcast_S_S1024x64 (constant S_ .f32 0xFF800000#32)) (Host.reduce FloatOps.maximumf A (constant S_ .f32 0xFF800000#32) reducesTo_S1024x64x3_S1024x64_d2 h_S_)))))
  Host.divf e (broadcastInDim S1024x64x3 ![0, 1, 2] bcast_S1024x64x1_S1024x64x3_0_1_2 (broadcastInDim S1024x64x1 ![0, 1] bcast_S1024x64_S1024x64x1_0_1 (Host.reduceAdd e (constant S_ .f32 0x00000000#32) reducesTo_S1024x64x3_S1024x64_d2 h_S_)))

theorem v79_eq (V0 : Valuation τ sig (Elt Ideal)) : res_main_v79 V0 = soft (res_main_v68 V0) := rfl

theorem ninf : Ideal.ofBits .f32 0xFF800000#32 = ⊥ := by simp [Ideal.ofBits, Ideal.ieee]

/-- The softmax of finite scores: real, and in the order of the scores. -/
theorem soft_at (A : FVec Ideal S1024x64x3 .f32) (s : Fin 1024) (p : Fin 64)
    (hA : ∀ r, A (ix3 s p r) ≠ (⊤ : EReal) ∧ A (ix3 s p r) ≠ (⊥ : EReal)) :
    ∃ z : Fin 3 → ℝ, (∀ r, soft A (ix3 s p r) = (z r : EReal)) ∧
      ∀ r r', z r' ≤ z r → (A (ix3 s p r') : EReal) ≤ A (ix3 s p r) := by
  choose a ha using fun r => (⟨(A (ix3 s p r) : EReal).toReal, (EReal.coe_toReal (hA r).1 (hA r).2).symm⟩ : ∃ x : ℝ, A (ix3 s p r) = (x : EReal))
  obtain ⟨μ, hμ⟩ : ∃ μ : ℝ, max (Ideal.ofBits FTy.f32 0xFF800000#32)
      (Finset.fold max (Ideal.ofBits FTy.f32 0xFF800000#32) (fun x => (A (ix3 s p x) : EReal)) Finset.univ) = (μ : EReal) := by
    rw [ninf, max_eq_right bot_le]
    refine ⟨_, (EReal.coe_toReal (ne_of_lt ?_) (ne_of_gt ?_)).symm⟩
    · rw [Finset.fold_max_lt]
      exact ⟨bot_lt_top, fun x _ => lt_top_iff_ne_top.mpr (hA x).1⟩
    · rw [Finset.lt_fold_max]
      exact Or.inr ⟨0, Finset.mem_univ _, bot_lt_iff_ne_bot.mpr (hA 0).2⟩
  have hS : 0 < ∑ x : Fin 3, Real.exp (a x - μ) := Finset.sum_pos (fun x _ => Real.exp_pos _) ⟨0, Finset.mem_univ _⟩
  refine ⟨fun r => Real.exp (a r - μ) * (∑ x : Fin 3, Real.exp (a x - μ))⁻¹, fun r => ?_, fun r r' h => ?_⟩
  · have e : soft A (ix3 s p r) = Ideal.div (Ideal.exp ((A (ix3 s p r) : EReal) - max (Ideal.ofBits FTy.f32 0xFF800000#32)
        (Finset.fold max (Ideal.ofBits FTy.f32 0xFF800000#32) (fun x => (A (ix3 s p x) : EReal)) Finset.univ)))
        (∑ x : Fin 3, Ideal.exp ((A (ix3 s p x) : EReal) - max (Ideal.ofBits FTy.f32 0xFF800000#32)
        (Finset.fold max (Ideal.ofBits FTy.f32 0xFF800000#32) (fun x => (A (ix3 s p x) : EReal)) Finset.univ))) := by
      unfold soft
      pointwise
    rw [e, hμ]
    simp only [ha]
    have h1 : ∀ x, Ideal.exp ((a x : EReal) - (μ : EReal)) = ((Real.exp (a x - μ) : ℝ) : EReal) := fun x => by
      rw [← EReal.coe_sub, Ideal.exp_coe]
    have h2 : (∑ x : Fin 3, Ideal.exp ((a x : EReal) - (μ : EReal))) = ((∑ x : Fin 3, Real.exp (a x - μ) : ℝ) : EReal) := by
      simp only [h1, Fin.sum_univ_three, EReal.coe_add]
    rw [h2, h1, Ideal.div, if_neg (by exact_mod_cast hS.ne'), ← EReal.coe_inv, ← EReal.coe_mul]
  · rw [ha, ha]
    have := le_of_mul_le_mul_right h (inv_pos.mpr hS)
    have := Real.exp_le_exp.mp this
    exact EReal.coe_le_coe_iff.mpr (by linarith)

theorem arg_step (a b : Ideal .f32 × BitVec 32) :
    (reducer_argmax_f32_i32 (F := Ideal) a b = a ∧ b.1 ≤ a.1) ∨ (reducer_argmax_f32_i32 (F := Ideal) a b = b ∧ a.1 ≤ b.1) := by
  obtain ⟨x, i⟩ := a
  obtain ⟨y, j⟩ := b
  unfold reducer_argmax_f32_i32
  rcases lt_trichotomy x y with h | h | h
  · right
    have h1 : ¬ y < x := not_lt.mpr h.le
    simp [Scalar.select, IntOp.ori, IntOp.andi, Ideal.cmpf_def, Ideal.cmp, h.le, h.ne, h1]
  · subst h
    by_cases q : i.slt j <;> simp [Scalar.select, IntOp.ori, IntOp.andi, IntOp.cmpi, Ideal.cmpf_def, Ideal.cmp, q]
  · left
    simp [Scalar.select, IntOp.ori, IntOp.andi, Ideal.cmpf_def, Ideal.cmp, h, h.le, h.ne']

theorem foldl_arg {ι : Type} (g : ι → Ideal .f32 × BitVec 32) (L : List ι) (a : Ideal .f32 × BitVec 32) :
    (L.foldl (fun r n => reducer_argmax_f32_i32 (F := Ideal) r (g n)) a = a ∨ ∃ n ∈ L, L.foldl (fun r n => reducer_argmax_f32_i32 (F := Ideal) r (g n)) a = g n)
      ∧ a.1 ≤ (L.foldl (fun r n => reducer_argmax_f32_i32 (F := Ideal) r (g n)) a).1
      ∧ ∀ n ∈ L, (g n).1 ≤ (L.foldl (fun r n => reducer_argmax_f32_i32 (F := Ideal) r (g n)) a).1 := by
  induction L generalizing a with
  | nil => simp
  | cons n L ih =>
    rw [List.foldl_cons]
    obtain ⟨h1, h2, h3⟩ := ih (reducer_argmax_f32_i32 (F := Ideal) a (g n))
    refine ⟨?_, ?_, ?_⟩
    · rcases h1 with h | ⟨k, hk, h⟩
      · rw [h]
        rcases arg_step a (g n) with ⟨e, _⟩ | ⟨e, _⟩
        · exact Or.inl e
        · exact Or.inr ⟨n, by simp, e⟩
      · exact Or.inr ⟨k, by simp [hk], h⟩
    · refine le_trans ?_ h2
      rcases arg_step a (g n) with ⟨e, l⟩ | ⟨e, l⟩ <;> rw [e]
      exact l
    · intro k hk
      rcases List.mem_cons.mp hk with rfl | hk
      · refine le_trans ?_ h2
        rcases arg_step a (g k) with ⟨e, l⟩ | ⟨e, l⟩ <;> rw [e]
        exact l
      · exact h3 k hk

theorem arg_at (A : Vec Ideal S1024x64x3 .f32) (s : Fin 1024) (p : Fin 64) (hA : ∀ r, A (ix3 s p r) ≠ (⊥ : EReal)) :
    ∃ r : Fin 3, (Host.argReduce (F := Ideal) reducer_argmax_f32_i32 A (iotaInDim S1024x64x3 32 2) (constant S_ .f32 0xFF800000#32) (constantI S_ 32 0#32) reducesTo_S1024x64x3_S1024x64_d2 h_S_ (ix2 s p)).2 = BitVec.ofNat 32 r.val
      ∧ ∀ r', (A (ix3 s p r') : EReal) ≤ A (ix3 s p r) := by
  rw [Ideal.argReduce_eq_reduce2]
  unfold Host.reduce2
  obtain ⟨h1, h2, h3⟩ := foldl_arg (fun n => (A (S1024x64x3.rowMajor.symm n), iotaInDim S1024x64x3 32 2 (S1024x64x3.rowMajor.symm n)))
    ((List.finRange S1024x64x3.numel).filter fun n => reducesTo_S1024x64x3_S1024x64_d2.drop (S1024x64x3.rowMajor.symm n) = ix2 s p)
    (constant (F := Ideal) S_ .f32 0xFF800000#32 (Shape.Idx.first h_S_), constantI S_ 32 0#32 (Shape.Idx.first h_S_))
  have hm : ∀ r, S1024x64x3.rowMajor (ix3 s p r) ∈ (List.finRange S1024x64x3.numel).filter fun n => reducesTo_S1024x64x3_S1024x64_d2.drop (S1024x64x3.rowMajor.symm n) = ix2 s p := by
    intro r
    rw [List.mem_filter]
    refine ⟨List.mem_finRange _, ?_⟩
    rw [Equiv.symm_apply_apply]
    refine decide_eq_true (funext fun a => ?_)
    match a with
    | ⟨0, _⟩ => rfl
    | ⟨1, _⟩ => rfl
  generalize hR : List.foldl _ _ _ = R at h1 h2 h3 ⊢
  have h4 : ∀ r, (A (ix3 s p r) : EReal) ≤ R.1 := fun r => by
    have := h3 _ (hm r)
    rw [Equiv.symm_apply_apply] at this
    exact this
  rcases h1 with h | ⟨n, hn, h⟩
  · exfalso
    have := h4 0
    rw [h] at this
    refine hA 0 (le_bot_iff.mp (this.trans ?_))
    show Ideal.ofBits .f32 0xFF800000#32 ≤ ⊥
    rw [ninf]
  · have hd := of_decide_eq_true (List.mem_filter.mp hn).2
    have hi : S1024x64x3.rowMajor.symm n = ix3 s p (S1024x64x3.rowMajor.symm n 2) := by
      funext a
      match a with
      | ⟨0, _⟩ => exact congrFun hd 0
      | ⟨1, _⟩ => exact congrFun hd 1
      | ⟨2, _⟩ => rfl
    refine ⟨S1024x64x3.rowMajor.symm n 2, ?_, fun r' => ?_⟩
    · rw [h]
      rfl
    · have := h4 r'
      rw [h] at this
      exact this.trans (le_of_eq (congrArg A hi))
-- ==== Proof.Reference.V3.lean ====
module

public import proofs.«01_k».proof.Proof.Reference.V1
public import proofs.«01_k».proof.Proof.Reference.V2

@[expose] public section

set_option maxRecDepth 16384

noncomputable section

namespace Cert.ReferenceIdeal.Value

open Cert.ReferenceIdeal.Gen
open Idealize.ShloMosaic Idealize.ShloMosaic.TcCoe Idealize.ShloMosaic.Tactic

theorem in3 (q : Fin 3) : IntOp.andi (IntOp.cmpi .sge (BitVec.ofNat 32 q.val) 0#32) (IntOp.cmpi .sle (BitVec.ofNat 32 q.val) 2#32) = 1#1 := by
  revert q
  decide

theorem all3 (C : Vec Ideal S1024x64x3x1 .i32) (s : Fin 1024) (p : Fin 64) (r q : Fin 3) (h : C (ix4 s p r 0) = BitVec.ofNat 32 q.val) :
    Host.reduce IntOp.andi (andi (cmpi .sge C (broadcastInDim S1024x64x3x1 ![] bcast_S_S1024x64x3x1 (constantI S_ 32 0#32))) (cmpi .sle C (broadcastInDim S1024x64x3x1 ![0, 1, 2, 3] bcast_S1x1x1x1_S1024x64x3x1_0_1_2_3 (broadcastInDim S1x1x1x1 ![3] bcast_S1_S1x1x1x1_3 (constantI S1 32 2#32))))) (constantI S_ 1 1#1) reducesTo_S1024x64x3x1_S1024x64x3_d3 h_S_ (ix3 s p r) = 1#1 := by
  pointwise
  rw [Finset.univ_unique, Finset.fold_singleton]
  show IntOp.andi (IntOp.andi (IntOp.cmpi .sge (C (ix4 s p r 0)) 0#32) (IntOp.cmpi .sle (C (ix4 s p r 0)) 2#32)) 1#1 = 1#1
  rw [h, in3]
  rfl

theorem all1 (C : Vec Ideal S1024x64x1x1 .i32) (s : Fin 1024) (p : Fin 64) (q : Fin 3) (h : C (ix4 s p 0 0) = BitVec.ofNat 32 q.val) :
    Host.reduce IntOp.andi (andi (cmpi .sge C (broadcastInDim S1024x64x1x1 ![] bcast_S_S1024x64x1x1 (constantI S_ 32 0#32))) (cmpi .sle C (broadcastInDim S1024x64x1x1 ![0, 1, 2, 3] bcast_S1x1x1x1_S1024x64x1x1_0_1_2_3 (broadcastInDim S1x1x1x1 ![3] bcast_S1_S1x1x1x1_3 (constantI S1 32 2#32))))) (constantI S_ 1 1#1) reducesTo_S1024x64x1x1_S1024x64x1_d3 h_S_ (ix3 s p 0) = 1#1 := by
  pointwise
  rw [Finset.univ_unique, Finset.fold_singleton]
  show IntOp.andi (IntOp.andi (IntOp.cmpi .sge (C (ix4 s p 0 0)) 0#32) (IntOp.cmpi .sle (C (ix4 s p 0 0)) 2#32)) 1#1 = 1#1
  rw [h, in3]
  rfl

variable (V0 : Valuation τ sig (Elt Ideal))

theorem call2_at (s : Fin 1024) (p : Fin 64) (r q : Fin 3) (h : res_main_indices V0 (ix3 s p r) = BitVec.ofNat 32 q.val) :
    res_main_call2_v5 V0 (ix4 s p r 0) = BitVec.ofNat 32 q.val := by
  unfold res_main_call2_v5
  generalize res_main_indices V0 = A at h ⊢
  clean_types
  pointwise
  rw [h]
  exact Routing.wrap_of_lt _ _ (by simp; omega)

theorem call3_at (s : Fin 1024) (p : Fin 64) (q : Fin 3) (h : res_main_v84 V0 (ix3 s p 0) = BitVec.ofNat 32 q.val) :
    res_main_call3_v5 V0 (ix4 s p 0 0) = BitVec.ofNat 32 q.val := by
  unfold res_main_call3_v5
  generalize res_main_v84 V0 = A at h ⊢
  clean_types
  pointwise
  rw [h]
  exact Routing.wrap_of_lt _ _ (by simp; omega)

theorem v87_at (s : Fin 1024) (p : Fin 64) (σ : Fin 3 → Fin 3) (hσ : ∀ r, res_main_indices V0 (ix3 s p r) = BitVec.ofNat 32 (σ r).val)
    (r : Fin 3) (hr : res_main_v84 V0 (ix3 s p 0) = BitVec.ofNat 32 r.val) (i : Fin 65536) (hi : i.val = 64 * s.val + p.val) :
    res_main_v87 V0 (ix1 i) = V0 (Proc.devRef .tc main_arg6) (ix1 ⟨near s.val (σ r).val, near_lt _ _⟩) := by
  have c2 := fun r => call2_at V0 s p r (σ r) (hσ r)
  have c3 := call3_at V0 s p r hr
  have e18 := v18_at V0 s (σ r)
  rw [← e18]
  unfold res_main_v87
  clean_types
  generalize res_main_call2_v5 V0 = C2 at c2 ⊢
  generalize res_main_call3_v5 V0 = C3 at c3 ⊢
  generalize res_main_v18 V0 = B
  have a1 := all1 C3 s p r c3
  generalize Host.reduce IntOp.andi _ _ reducesTo_S1024x64x1x1_S1024x64x1_d3 h_S_ = R1 at a1 ⊢
  have a3 := all3 C2 s p r (σ r) (c2 r)
  generalize Host.reduce IntOp.andi _ _ reducesTo_S1024x64x3x1_S1024x64x3_d3 h_S_ = R3 at a3 ⊢
  have e2 : ∀ x : Vec Ideal S1024x64x3 .i32, Host.gather gather_S1024x64x3_S1024x64x3x1_S1024x64x3_n_2_01_01_2_3_111 x C2 (ix3 s p r) = x (ix3 s p (σ r)) := by
    intro x
    rw [g2]
    refine congrArg x (congrArg (ix3 s p) (Fin.ext ?_))
    simp only [c2]
    rw [StableHlo.Predicate.toInt_ofNat_small (σ r).val (by omega)]
    simp
    omega
  have e3 : ∀ x : Vec Ideal S1024x64x3 .i32, Host.gather gather_S1024x64x3_S1024x64x1x1_S1024x64x1_n_2_01_01_2_3_111 x C3 (ix3 s p 0) = x (ix3 s p r) := by
    intro x
    rw [g3]
    refine congrArg x (congrArg (ix3 s p) (Fin.ext ?_))
    simp only [c3]
    rw [StableHlo.Predicate.toInt_ofNat_small r.val (by omega)]
    simp
    omega
  have e4 : ∀ x : Vec Ideal S1024x64x1 .i32, shapeCast S65536 (shapeCast S1024x64 x shapeCasts_S1024x64x1_S1024x64) shapeCasts_S1024x64_S65536 (ix1 i) = x (ix3 s p 0) := by
    intro x
    pointwise
    blk_ext []
  rw [e4]
  refine (if_pos a1).trans ?_
  rw [e3]
  refine (if_pos a3).trans ?_
  rw [e2]
  pointwise

/-- The assigned superpoint of a point is named by a candidate of greatest similarity. -/
theorem assigned (hx : ∀ j, (V0 (Proc.devRef .tc main_arg6) j).toNat < 2048) (s : Fin 1024) (p : Fin 64)
    (hf : ∀ q, sim (V0 (Proc.devRef .tc main_arg0)) (V0 (Proc.devRef .tc main_arg4)) (V0 (Proc.devRef .tc main_arg6)) hx s p q ≠ ⊤
      ∧ sim (V0 (Proc.devRef .tc main_arg0)) (V0 (Proc.devRef .tc main_arg4)) (V0 (Proc.devRef .tc main_arg6)) hx s p q ≠ ⊥)
    (i : Fin 65536) (hi : i.val = 64 * s.val + p.val) :
    ∃ k : Fin 3, res_main_v87 V0 (ix1 i) = V0 (Proc.devRef .tc main_arg6) (ix1 ⟨near s.val k.val, near_lt _ _⟩)
      ∧ ∀ k' : Fin 3, sim (V0 (Proc.devRef .tc main_arg0)) (V0 (Proc.devRef .tc main_arg4)) (V0 (Proc.devRef .tc main_arg6)) hx s p ⟨near s.val k'.val, near_lt _ _⟩
        ≤ sim (V0 (Proc.devRef .tc main_arg0)) (V0 (Proc.devRef .tc main_arg4)) (V0 (Proc.devRef .tc main_arg6)) hx s p ⟨near s.val k.val, near_lt _ _⟩ := by
  obtain ⟨σ, hs, hσ⟩ := indices_at V0 s p
  have h68 := v68_at V0 hx s p σ hσ
  obtain ⟨z, hz, hm⟩ := soft_at (res_main_v68 V0) s p (fun r => by rw [h68]; exact hf _)
  obtain ⟨r, hr, hb⟩ := arg_at (soft (res_main_v68 V0)) s p (fun r => by rw [hz]; exact EReal.coe_ne_bot _)
  have hr' : res_main_v84 V0 (ix3 s p 0) = BitVec.ofNat 32 r.val := by
    unfold res_main_v84 res_main_call1_v0 res_main_call1_cst res_main_call1_c
    rw [v79_eq]
    clean_types
    generalize Host.argReduce (F := Ideal) (reducer_argmax_f32_i32 (F := Ideal)) _ _ _ _ reducesTo_S1024x64x3_S1024x64_d2 h_S_ = Q at hr ⊢
    rw [← hr]
    exact congrArg (fun j => (Q j).2) (funext fun a => match a with | ⟨0, _⟩ => rfl | ⟨1, _⟩ => rfl)
  refine ⟨σ r, v87_at V0 s p σ hσ r hr' i hi, fun k' => ?_⟩
  obtain ⟨r', rfl⟩ := hs k'
  have := hm r r' (by
    have := hb r'
    rw [hz, hz] at this
    exact EReal.coe_le_coe_iff.mp this)
  rw [h68, h68] at this
  exact this

end Cert.ReferenceIdeal.Value
-- ==== Proof.Reference.V4.lean ====
module

public import proofs.«01_k».proof.Proof.Reference.V1

@[expose] public section

set_option maxRecDepth 16384

noncomputable section

namespace Cert.ReferenceIdeal.Value

open Cert.ReferenceIdeal.Gen
open Idealize.ShloMosaic Idealize.ShloMosaic.TcCoe Idealize.ShloMosaic.Tactic

theorem start_a (idx : IVec S65536x1 32) (n : Fin 65536) (j : Fin 3) : scatter_S2048x3_S65536x1_S65536x3_1_0_0_1.start (ix2 n j) idx 0 = (idx (ix2 n 0)).toInt := by
  unfold ScatterDims.start
  refine (dif_pos (by decide)).trans ?_
  refine congrArg (fun z => (idx z).toInt) (funext fun b => Fin.ext ?_)
  match b with
  | ⟨0, _⟩ => rfl
  | ⟨1, _⟩ => rfl

theorem start_b (idx : IVec S65536x1 32) (n : Fin 65536) : scatter_S2048_S65536x1_S65536_n_0_0_1.start (ix1 n) idx 0 = (idx (ix2 n 0)).toInt := by
  unfold ScatterDims.start
  refine (dif_pos (by decide)).trans ?_
  refine congrArg (fun z => (idx z).toInt) (funext fun b => Fin.ext ?_)
  match b with
  | ⟨0, _⟩ => rfl
  | ⟨1, _⟩ => rfl

theorem scatter3_at (x : FVec Ideal S2048x3 .f32) (idx : IVec S65536x1 32) (u : FVec Ideal S65536x3 .f32) (i : Fin 2048) (j : Fin 3) :
    Host.scatterAdd scatter_S2048x3_S65536x1_S65536x3_1_0_0_1 x idx u (ix2 i j)
      = (x (ix2 i j) : EReal) + ∑ n : Fin 65536, if (idx (ix2 n 0)).toInt = (i.val : ℤ) then (u (ix2 n j) : EReal) else 0 := by
  unfold Host.scatterAdd
  rw [Ideal.hostScatterAdd_def]
  unfold Ideal.hostScatterAdd
  refine congrArg (fun z : EReal => (x (ix2 i j) : EReal) + z) ?_
  rw [Finset.sum_filter, sum_idx2]
  refine Finset.sum_congr rfl fun n _ => ?_
  have h : ∀ k : Fin 3, scatter_S2048x3_S65536x1_S65536x3_1_0_0_1.resultIdx? (ix2 n k) idx = some (ix2 i j) ↔ (idx (ix2 n 0)).toInt = (i.val : ℤ) ∧ k = j := fun k => by
    refine (Routing.resultIdx?_ix2 scatter_S2048x3_S65536x1_S65536x3_1_0_0_1 (ix2 n k) idx i j).trans ?_
    rw [start_a]
    have w0 : scatter_S2048x3_S65536x1_S65536x3_1_0_0_1.window (ix2 n k) 0 = 0 := rfl
    have w1 : scatter_S2048x3_S65536x1_S65536x3_1_0_0_1.window (ix2 n k) 1 = k.val := rfl
    have s1 : scatter_S2048x3_S65536x1_S65536x3_1_0_0_1.start (ix2 n k) idx 1 = 0 := rfl
    rw [w0, w1, s1, Fin.ext_iff]
    constructor
    · rintro ⟨h, h'⟩
      exact ⟨by simpa using h, by simpa using h'⟩
    · rintro ⟨h, h'⟩
      exact ⟨by simpa using h, by simpa using h'⟩
  simp only [h]
  by_cases hi : (idx (ix2 n 0)).toInt = (i.val : ℤ)
  · simp [hi]
  · simp [hi]

theorem scatter1_at (x : FVec Ideal S2048 .f32) (idx : IVec S65536x1 32) (u : FVec Ideal S65536 .f32) (i : Fin 2048) :
    Host.scatterAdd scatter_S2048_S65536x1_S65536_n_0_0_1 x idx u (ix1 i)
      = (x (ix1 i) : EReal) + ∑ n : Fin 65536, if (idx (ix2 n 0)).toInt = (i.val : ℤ) then (u (ix1 n) : EReal) else 0 := by
  unfold Host.scatterAdd
  rw [Ideal.hostScatterAdd_def]
  unfold Ideal.hostScatterAdd
  refine congrArg (fun z : EReal => (x (ix1 i) : EReal) + z) ?_
  rw [Finset.sum_filter, sum_idx1]
  refine Finset.sum_congr rfl fun n _ => ?_
  have h : scatter_S2048_S65536x1_S65536_n_0_0_1.resultIdx? (ix1 n) idx = some (ix1 i) ↔ (idx (ix2 n 0)).toInt = (i.val : ℤ) := by
    refine (Routing.resultIdx?_ix1 scatter_S2048_S65536x1_S65536_n_0_0_1 (ix1 n) idx i).trans ?_
    rw [start_b]
    have w0 : scatter_S2048_S65536x1_S65536_n_0_0_1.window (ix1 n) 0 = 0 := rfl
    rw [w0]
    simp
  simp only [h]

/-- The mean of the Hilbert coordinates of the points assigned to a superpoint. -/
theorem mean_at (a : IVec S65536 32) (hb : FVec Ideal S65536x3 .f32) (i : Fin 2048) (j : Fin 3) :
    Host.divf (F := Ideal) (Host.scatterAdd scatter_S2048x3_S65536x1_S65536x3_1_0_0_1 (broadcastInDim S2048x3 ![] bcast_S_S2048x3 (constant S_ .f32 0x00000000#32)) (broadcastInDim S65536x1 ![0] bcast_S65536_S65536x1_0 a) hb) (broadcastInDim S2048x3 ![0, 1] bcast_S2048x1_S2048x3_0_1 (broadcastInDim S2048x1 ![0] bcast_S2048_S2048x1_0 (maximumf (Host.scatterAdd scatter_S2048_S65536x1_S65536_n_0_0_1 (broadcastInDim S2048 ![] bcast_S_S2048 (constant S_ .f32 0x00000000#32)) (broadcastInDim S65536x1 ![0] bcast_S65536_S65536x1_0 a) (broadcastInDim S65536 ![] bcast_S_S65536 (constant S_ .f32 0x3F800000#32))) (broadcastInDim S2048 ![] bcast_S_S2048 (constant S_ .f32 0x3F800000#32))))) (ix2 i j)
      = Ideal.div (∑ n : Fin 65536, if (a (ix1 n)).toInt = (i.val : ℤ) then (hb (ix2 n j) : EReal) else 0)
        (max (∑ n : Fin 65536, if (a (ix1 n)).toInt = (i.val : ℤ) then (1 : EReal) else 0) 1) := by
  have e1 := scatter3_at (broadcastInDim S2048x3 ![] bcast_S_S2048x3 (constant S_ .f32 0x00000000#32)) (broadcastInDim S65536x1 ![0] bcast_S65536_S65536x1_0 a) hb i j
  have e2 := scatter1_at (broadcastInDim S2048 ![] bcast_S_S2048 (constant S_ .f32 0x00000000#32)) (broadcastInDim S65536x1 ![0] bcast_S65536_S65536x1_0 a) (broadcastInDim S65536 ![] bcast_S_S65536 (constant S_ .f32 0x3F800000#32)) i
  generalize Host.scatterAdd (F := Ideal) scatter_S2048x3_S65536x1_S65536x3_1_0_0_1 _ _ _ = A at e1 ⊢
  generalize Host.scatterAdd (F := Ideal) scatter_S2048_S65536x1_S65536_n_0_0_1 _ _ _ = B at e2 ⊢
  have ha : ∀ n : Fin 65536, broadcastInDim S65536x1 ![0] bcast_S65536_S65536x1_0 a (ix2 n 0) = a (ix1 n) := fun n => by pointwise
  have z1 : (broadcastInDim S2048x3 ![] bcast_S_S2048x3 (constant (F := Ideal) S_ .f32 0x00000000#32) (ix2 i j) : EReal) = 0 := by pointwise
  have z2 : (broadcastInDim S2048 ![] bcast_S_S2048 (constant (F := Ideal) S_ .f32 0x00000000#32) (ix1 i) : EReal) = 0 := by pointwise
  have o2 : ∀ n : Fin 65536, (broadcastInDim S65536 ![] bcast_S_S65536 (constant (F := Ideal) S_ .f32 0x3F800000#32) (ix1 n) : EReal) = 1 := fun n => by pointwise
  rw [z1, zero_add] at e1
  rw [z2, zero_add] at e2
  simp only [ha] at e1 e2
  simp only [o2] at e2
  rw [← e1, ← e2]
  pointwise

end Cert.ReferenceIdeal.Value
-- ==== Proof.Compare.lean ====
/- The two programs compared: each result of the kernel is the reference's. -/
module

public import proofs.«01_k».proof.Proof.KernelIdeal.S9
public import proofs.«01_k».proof.Proof.Reference.V3
public import proofs.«01_k».proof.Proof.Reference.V4

@[expose] public section
set_option maxRecDepth 16384
noncomputable section
namespace Cert.Compare
open Idealize.ShloMosaic Idealize.ShloMosaic.TcCoe Idealize.ShloMosaic.Tactic
open Cert.ReferenceIdeal Cert.ReferenceIdeal.Gen Cert.ReferenceIdeal.Value

variable (V0 : Valuation τ sig (Elt Ideal))

theorem assigned_of (x0 : Vec Ideal S2048x256 .f32) (x4 : Vec Ideal S1024x64x256 .f32) (x6 : Vec Ideal S1024 .i32)
    (e0 : V0 (Proc.devRef .tc main_arg0) = x0) (e4 : V0 (Proc.devRef .tc main_arg4) = x4) (e6 : V0 (Proc.devRef .tc main_arg6) = x6)
    (hx : ∀ j, (x6 j).toNat < 2048) (s : Fin 1024) (p : Fin 64) (hf : ∀ q, sim x0 x4 x6 hx s p q ≠ ⊤ ∧ sim x0 x4 x6 hx s p q ≠ ⊥)
    (i : Fin 65536) (hi : i.val = 64 * s.val + p.val) :
    ∃ k : Fin 3, res_main_v87 V0 (ix1 i) = x6 (ix1 ⟨near s.val k.val, near_lt _ _⟩)
      ∧ ∀ k' : Fin 3, sim x0 x4 x6 hx s p ⟨near s.val k'.val, near_lt _ _⟩ ≤ sim x0 x4 x6 hx s p ⟨near s.val k.val, near_lt _ _⟩ := by
  subst e0 e4 e6
  exact assigned V0 hx s p hf i hi

theorem mean_of (a : IVec S65536 32) (x3 : FVec Ideal S65536x3 .f32) (e3 : V0 (Proc.devRef .tc main_arg3) = x3)
    (ea : res_main_v87 V0 = a) (i : Fin 2048) (j : Fin 3) :
    (Host.divf (Host.scatterAdd scatter_S2048x3_S65536x1_S65536x3_1_0_0_1 (broadcastInDim S2048x3 ![] bcast_S_S2048x3 (constant S_ .f32 0x00000000#32)) (broadcastInDim S65536x1 ![0] bcast_S65536_S65536x1_0 (res_main_v87 V0)) (V0 (Proc.devRef .tc main_arg3))) (broadcastInDim S2048x3 ![0, 1] bcast_S2048x1_S2048x3_0_1 (broadcastInDim S2048x1 ![0] bcast_S2048_S2048x1_0 (maximumf (Host.scatterAdd scatter_S2048_S65536x1_S65536_n_0_0_1 (broadcastInDim S2048 ![] bcast_S_S2048 (constant S_ .f32 0x00000000#32)) (broadcastInDim S65536x1 ![0] bcast_S65536_S65536x1_0 (res_main_v87 V0)) (broadcastInDim S65536 ![] bcast_S_S65536 (constant S_ .f32 0x3F800000#32))) (broadcastInDim S2048 ![] bcast_S_S2048 (constant S_ .f32 0x3F800000#32))))) : FVec Ideal S2048x3 .f32) (ix2 i j)
      = Ideal.div (∑ n : Fin 65536, if (a (ix1 n)).toInt = (i.val : ℤ) then (x3 (ix2 n j) : EReal) else 0)
        (max (∑ n : Fin 65536, if (a (ix1 n)).toInt = (i.val : ℤ) then (1 : EReal) else 0) 1) := by
  subst e3 ea
  exact mean_at _ _ i j

theorem cut_a (x : Vec Ideal S65536x256 .f32) (a : Fin 1024) (b : Fin 64) (k : Fin 256) :
    shapeCast S1024x64x256 x shapeCasts_S65536x256_S1024x64x256 (ix3 a b k) = x (ix2 ⟨64 * a.val + b.val, by omega⟩ k) := by
  pointwise
  blk_ext []

theorem cut_b (x : Vec Ideal S65536x256 .f32) (a : Fin 2048) (b : Fin 32) (k : Fin 256) :
    shapeCast S2048x32x256 x shapeCasts_S65536x256_S2048x32x256 (ix3 a b k) = x (ix2 ⟨32 * a.val + b.val, by omega⟩ k) := by
  pointwise
  blk_ext []

section
open Cert.KernelIdeal.Own (GoodM simM asg fin37_eq fin1_eq sim_real fin37 fin1 fin39 fin40 fin39_at fin40_at flat37 Ok)

variable (m : (ℓ : Loc KernelIdeal.nD KernelIdeal.τ KernelIdeal.sig) → Buf (Elt Ideal) ℓ) (hO : Ok m) (G : GoodM m)

include G in
theorem asg_eq (e0 : V0 (Proc.devRef .tc main_arg0) = (m (((0 : Dev KernelIdeal.nD) : Thread KernelIdeal.nD KernelIdeal.τ).loc KernelIdeal.main_arg0) : Vec Ideal S2048x256 .f32))
    (e4 : V0 (Proc.devRef .tc main_arg4) = (m (((0 : Dev KernelIdeal.nD) : Thread KernelIdeal.nD KernelIdeal.τ).loc KernelIdeal.main_arg4) : Vec Ideal S1024x64x256 .f32))
    (e6 : V0 (Proc.devRef .tc main_arg6) = (m (((0 : Dev KernelIdeal.nD) : Thread KernelIdeal.nD KernelIdeal.τ).loc KernelIdeal.main_arg6) : Vec Ideal S1024 .i32))
    (i : Fin 65536) : res_main_v87 V0 (ix1 i) = asg m hO i := by
  obtain ⟨k, h1, h2⟩ := assigned_of V0 _ _ _ e0 e4 e6 G.idx ⟨i.val / 64, by omega⟩ ⟨i.val % 2048 % 64, by omega⟩
    (fun q => sim_real _ _ _ G.idx G.sp G.pt _ _ q) i (by show i.val = 64 * (i.val / 64) + i.val % 2048 % 64; omega)
  exact h1.trans (fin37_eq m G hO ⟨i.val / 2048, by omega⟩ ⟨i.val % 2048, by omega⟩ ⟨i.val / 64, by omega⟩
    (by show i.val / 64 = 32 * (i.val / 2048) + i.val % 2048 / 64; omega) k h2).symm

include G in
/-- The first result: the assigned superpoint of every point. -/
theorem first (e0 : V0 (Proc.devRef .tc main_arg0) = (m (((0 : Dev KernelIdeal.nD) : Thread KernelIdeal.nD KernelIdeal.τ).loc KernelIdeal.main_arg0) : Vec Ideal S2048x256 .f32))
    (e4 : V0 (Proc.devRef .tc main_arg4) = (m (((0 : Dev KernelIdeal.nD) : Thread KernelIdeal.nD KernelIdeal.τ).loc KernelIdeal.main_arg4) : Vec Ideal S1024x64x256 .f32))
    (e6 : V0 (Proc.devRef .tc main_arg6) = (m (((0 : Dev KernelIdeal.nD) : Thread KernelIdeal.nD KernelIdeal.τ).loc KernelIdeal.main_arg6) : Vec Ideal S1024 .i32)) :
    shapeCast KernelIdeal.S65536 (fin37 m hO 0) KernelIdeal.Gen.shapeCasts_S32x1x2048_S65536 = (res_main_v87 V0 : Vec Ideal S65536 .i32) := by
  funext j
  obtain ⟨i, rfl⟩ : ∃ i : Fin 65536, j = ix1 i := ⟨j 0, funext fun x => match x with | ⟨0, _⟩ => rfl⟩
  exact (flat37 _ i).trans (asg_eq V0 m hO G e0 e4 e6 i).symm

include G in
/-- The third result: the mean of the Hilbert coordinates of the points assigned to every superpoint. -/
theorem third (e0 : V0 (Proc.devRef .tc main_arg0) = (m (((0 : Dev KernelIdeal.nD) : Thread KernelIdeal.nD KernelIdeal.τ).loc KernelIdeal.main_arg0) : Vec Ideal S2048x256 .f32))
    (e3 : V0 (Proc.devRef .tc main_arg3) = (m (((0 : Dev KernelIdeal.nD) : Thread KernelIdeal.nD KernelIdeal.τ).loc KernelIdeal.main_arg3) : FVec Ideal S65536x3 .f32))
    (e4 : V0 (Proc.devRef .tc main_arg4) = (m (((0 : Dev KernelIdeal.nD) : Thread KernelIdeal.nD KernelIdeal.τ).loc KernelIdeal.main_arg4) : Vec Ideal S1024x64x256 .f32))
    (e6 : V0 (Proc.devRef .tc main_arg6) = (m (((0 : Dev KernelIdeal.nD) : Thread KernelIdeal.nD KernelIdeal.τ).loc KernelIdeal.main_arg6) : Vec Ideal S1024 .i32)) :
    (Host.divf (Host.scatterAdd scatter_S2048x3_S65536x1_S65536x3_1_0_0_1 (broadcastInDim S2048x3 ![] bcast_S_S2048x3 (constant S_ .f32 0x00000000#32)) (broadcastInDim S65536x1 ![0] bcast_S65536_S65536x1_0 (res_main_v87 V0)) (V0 (Proc.devRef .tc main_arg3))) (broadcastInDim S2048x3 ![0, 1] bcast_S2048x1_S2048x3_0_1 (broadcastInDim S2048x1 ![0] bcast_S2048_S2048x1_0 (maximumf (Host.scatterAdd scatter_S2048_S65536x1_S65536_n_0_0_1 (broadcastInDim S2048 ![] bcast_S_S2048 (constant S_ .f32 0x00000000#32)) (broadcastInDim S65536x1 ![0] bcast_S65536_S65536x1_0 (res_main_v87 V0)) (broadcastInDim S65536 ![] bcast_S_S65536 (constant S_ .f32 0x3F800000#32))) (broadcastInDim S2048 ![] bcast_S_S2048 (constant S_ .f32 0x3F800000#32))))) : FVec Ideal S2048x3 .f32) = fin1 m hO 0 := by
  funext x
  obtain ⟨i, j, rfl⟩ : ∃ i j, x = ix2 i j := ⟨x 0, x 1, funext fun y => match y with | ⟨0, _⟩ => rfl | ⟨1, _⟩ => rfl⟩
  refine (mean_of V0 _ _ e3 rfl i j).trans (Eq.trans ?_ (fin1_eq m G hO i j).symm)
  have h : ∀ n, res_main_v87 V0 (ix1 n) = asg m hO n := asg_eq V0 m hO G e0 e4 e6
  simp only [h]

theorem fourth (e2 : V0 (Proc.devRef .tc main_arg2) = (m (((0 : Dev KernelIdeal.nD) : Thread KernelIdeal.nD KernelIdeal.τ).loc KernelIdeal.main_arg2) : Vec Ideal S65536x256 .f32)) :
    (fin39 m hO 0 : Vec Ideal S1024x64x256 .f32) = shapeCast _ (V0 (Proc.devRef .tc main_arg2)) shapeCasts_S65536x256_S1024x64x256 := by
  rw [e2]
  funext x
  obtain ⟨a, b, k, rfl⟩ : ∃ a b k, x = ix3 a b k := ⟨x 0, x 1, x 2, funext fun y => match y with | ⟨0, _⟩ => rfl | ⟨1, _⟩ => rfl | ⟨2, _⟩ => rfl⟩
  exact (fin39_at m hO 0 a b k).trans (cut_a _ a b k).symm

theorem fifth (e2 : V0 (Proc.devRef .tc main_arg2) = (m (((0 : Dev KernelIdeal.nD) : Thread KernelIdeal.nD KernelIdeal.τ).loc KernelIdeal.main_arg2) : Vec Ideal S65536x256 .f32)) :
    (fin40 m hO 0 : Vec Ideal S2048x32x256 .f32) = shapeCast _ (V0 (Proc.devRef .tc main_arg2)) shapeCasts_S65536x256_S2048x32x256 := by
  rw [e2]
  funext x
  obtain ⟨a, b, k, rfl⟩ : ∃ a b k, x = ix3 a b k := ⟨x 0, x 1, x 2, funext fun y => match y with | ⟨0, _⟩ => rfl | ⟨1, _⟩ => rfl | ⟨2, _⟩ => rfl⟩
  exact (fin40_at m hO 0 a b k).trans (cut_b _ a b k).symm
end

end Cert.Compare
-- ==== Proof.lean ====
/- The claims: the frame of each program, the arguments unchanged and every counter at zero; and every result of the
   kernel equal to the reference's on the extended reals. -/
module

public import proofs.«01_k».proof.Defs
public import proofs.«01_k».proof.Proof.Gen.ReferenceIdeal
public import proofs.«01_k».proof.Proof.Kernel.Run
public import proofs.«01_k».proof.Proof.Kernel.Tables
public import proofs.«01_k».proof.Proof.KernelIdeal.Run
public import proofs.«01_k».proof.Proof.KernelIdeal.Tables
public import proofs.«01_k».proof.Proof.Compare
public import Idealize.ShloMosaic.Lib.WordCmp
public import Idealize.ShloMosaic.Adequacy
public import Idealize.ShloMosaic.Init

@[expose] public section

noncomputable section

namespace Cert.Proof

open Idealize.ShloMosaic Idealize.ShloMosaic.TcCoe Idealize.SL.Sem

instance facts_idx_named : Cert.Pre_idx_named.Facts := ⟨by decide⟩

/-- What the range predicate says of each index. -/
theorem toNat_of_range {F : FTy → Type} [FloatOps F] (x0 : FVec F Pre_idx_named.S2048x256 .f32) (x1 : FVec F Pre_idx_named.S2048x3 .f32)
    (x2 : FVec F Pre_idx_named.S65536x256 .f32) (x3 : FVec F Pre_idx_named.S65536x3 .f32) (x4 : FVec F Pre_idx_named.S1024x64x256 .f32)
    (x5 : FVec F Pre_idx_named.S1024x64x3 .f32) (x6 : IVec Pre_idx_named.S1024 32)
    (h : Pre_idx_named.fn x0 x1 x2 x3 x4 x5 x6 = fun _ => 1#1) (j : Pre_idx_named.S1024.Idx) : (x6 j).toNat < 2048 := by
  have hj : IntOp.andi (IntOp.cmpi .sge (x6 j) 0#32) (IntOp.cmpi .slt (x6 j) (BitVec.ofNat 32 2048)) = 1#1 := congrFun h j
  rw [WordCmp.andi_sge_zero_slt_ofNat (by decide)] at hj
  exact (WordCmp.ofBool_decide_eq_one_iff _).mp hj

/-- What the precondition of the value claim says of the launch memory. -/
theorem good_of (m : (ℓ : Loc KernelIdeal.nD KernelIdeal.τ KernelIdeal.sig) → Buf (Elt Ideal) ℓ) (h : Cert.Pre_KernelIdeal_one_best m) :
    Cert.KernelIdeal.Own.GoodM m :=
  let x6 : Vec Ideal ReferenceIdeal.S1024 .i32 := m (((0 : Dev KernelIdeal.nD) : Thread KernelIdeal.nD KernelIdeal.τ).loc KernelIdeal.main_arg6)
  Cert.ReferenceIdeal.Value.good (fun b => if e : b = Proc.devRef .tc ReferenceIdeal.main_arg6 then
      e.symm ▸ (x6 : (Proc.devRef .tc ReferenceIdeal.main_arg6 : DevRef ReferenceIdeal.τ ReferenceIdeal.sig).ty.Contents (Elt Ideal))
    else fun _ => Classical.choice inferInstance) _ _ _ _ _ _ _ (dif_pos rfl) (h 0)

theorem ok_one_best (m : (ℓ : Loc KernelIdeal.nD KernelIdeal.τ KernelIdeal.sig) → Buf (Elt Ideal) ℓ) (h : Cert.Pre_KernelIdeal_one_best m) :
    Cert.KernelIdeal.Own.Ok m := Cert.KernelIdeal.Own.ok_of _ (good_of m h).idx

/-- The frame of the reference: it has no semaphore, so every counter is at zero. -/
theorem frame_reference (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5)
      ∧ r.2.mem ((c.tc : Thread ReferenceIdeal.nD ReferenceIdeal.τ).loc ReferenceIdeal.main_arg6) = m ((c.tc : Thread ReferenceIdeal.nD ReferenceIdeal.τ).loc ReferenceIdeal.main_arg6))
      ∧ r.2.sem = fun _ => 0) :=
  (θ_run ReferenceIdeal.defs _ _).mono (fun r h => ⟨fun c => (h c).2.2.2.2.2, sem_eq_zero_of_no_sems (by decide) r.2⟩) (Cert.ReferenceIdeal.Value.run m g)

theorem value : Cert.algebraic_KernelIdeal_ReferenceIdeal_pre_one_best := by
  intro m g m' g' h ha
  have G := good_of m h
  have hO := ok_one_best m h
  obtain ⟨a0, a1, a2, a3, a4, a5, a6⟩ := ha 0
  refine ⟨fun c => KernelIdeal.Gen.V5 m (KernelIdeal.Own.outsOwn m hO) c KernelIdeal.main_v5, fun c => m ((c.tc : Thread KernelIdeal.nD KernelIdeal.τ).loc KernelIdeal.main_arg0),
    fun c => KernelIdeal.Gen.V5 m (KernelIdeal.Own.outsOwn m hO) c KernelIdeal.main_v4, fun c => KernelIdeal.Gen.V5 m (KernelIdeal.Own.outsOwn m hO) c KernelIdeal.main_v2_2,
    fun c => KernelIdeal.Gen.V5 m (KernelIdeal.Own.outsOwn m hO) c KernelIdeal.main_v2_3, ?_, ?_⟩
  · refine (θ_run KernelIdeal.defs _ _).mono (fun r hr c => ?_) (θ_run_and (KernelIdeal.Own.run_main m hO g) (KernelIdeal.Own.frame m hO g))
    have at_ := hr.1.1 c
    have ar := hr.2.1 c
    exact ⟨at_ (Proc.devRef .tc KernelIdeal.main_v5) (Finset.mem_filter.mpr ⟨StableHlo.devRef_mem_tcRefs KernelIdeal.main_v5, by decide⟩), ar.1,
      at_ (Proc.devRef .tc KernelIdeal.main_v4) (Finset.mem_filter.mpr ⟨StableHlo.devRef_mem_tcRefs KernelIdeal.main_v4, by decide⟩),
      at_ (Proc.devRef .tc KernelIdeal.main_v2_2) (Finset.mem_filter.mpr ⟨StableHlo.devRef_mem_tcRefs KernelIdeal.main_v2_2, by decide⟩),
      at_ (Proc.devRef .tc KernelIdeal.main_v2_3) (Finset.mem_filter.mpr ⟨StableHlo.devRef_mem_tcRefs KernelIdeal.main_v2_3, by decide⟩), ar⟩
  · refine (θ_run ReferenceIdeal.defs _ _).mono (fun r hr c => ?_) (ReferenceIdeal.Value.run m' g')
    obtain rfl : c = 0 := Subsingleton.elim (α := Fin 1) _ _
    obtain ⟨r1, r2, r3, r4, r5, ar⟩ := hr 0
    exact ⟨r1.trans ((Compare.first (StableHlo.launchContents m' 0) m hO G a0 a4 a6).symm.trans (KernelIdeal.Own.V5_5 m hO 0).symm), r2.trans a0,
      r3.trans ((Compare.third (StableHlo.launchContents m' 0) m hO G a0 a3 a4 a6).trans (KernelIdeal.Own.V5_4 m hO 0).symm),
      r4.trans ((Compare.fourth (StableHlo.launchContents m' 0) m hO a2).symm.trans (KernelIdeal.Own.V5_2 m hO 0).symm),
      r5.trans ((Compare.fifth (StableHlo.launchContents m' 0) m hO a2).symm.trans (KernelIdeal.Own.V5_3 m hO 0).symm), ar⟩

theorem claim : Cert.Claim :=
  ⟨Cert.Kernel.Gen.facts, Cert.KernelIdeal.Gen.facts, Cert.ReferenceIdeal.Gen.facts, facts_idx_named, facts_one_best,
    fun m g h => Cert.Kernel.Own.frame m (Cert.Kernel.Own.ok_of _ (toNat_of_range _ _ _ _ _ _ _ (h 0))) g,
    fun m g h => Cert.KernelIdeal.Own.frame m (Cert.KernelIdeal.Own.ok_of _ (toNat_of_range _ _ _ _ _ _ _ (h 0))) g,
    fun m g h => Cert.KernelIdeal.Own.frame m (ok_one_best m h) g,
    fun m g _ => frame_reference m g,
    fun m g _ => frame_reference m g,
    trivial, value⟩

end Cert.Proof

end
